-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v129_7) = v1 c
          ∧ r.2.mem ((c.tc : Thread Cert.ReferenceIdeal.nD Cert.ReferenceIdeal.τ).loc Cert.ReferenceIdeal.main_v74_0) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v74_2) = v4 c
          ∧ r.2.mem ((c.tc : Thread Cert.ReferenceIdeal.nD Cert.ReferenceIdeal.τ).loc Cert.ReferenceIdeal.main_v59) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x32768x8x128 : Shape := ⟨4, ![2, 32768, 8, 128]⟩
abbrev S2x32768x8x256 : Shape := ⟨4, ![2, 32768, 8, 256]⟩
abbrev S_ : Shape := ⟨0, ![]⟩

class Facts : Prop where
  bcast_S_S2x32768x8x128 : S_.BroadcastsInDim S2x32768x8x128 (![] : Fin 0 → Fin S2x32768x8x128.rank)

variable [Facts]

def fn {F : FTy → Type} [FloatOps F] (main_arg0 : FVec F S2x32768x8x128 .bf16) (main_arg1 : FVec F S2x32768x8x128 .bf16) (main_arg2 : FVec F S2x32768x8x256 .bf16) (main_arg3 : FVec F S2x32768x8x128 .f32) : IVec S2x32768x8x128 1 :=
  let main_v0 : FVec F S2x32768x8x128 .bf16 := Host.absf main_arg0
  let main_cst : FVec F S_ .bf16 := constant S_ .bf16 0x7F80#16
  let main_v1 : FVec F S2x32768x8x128 .bf16 := broadcastInDim S2x32768x8x128 ![] bcast_S_S2x32768x8x128 main_cst
  let main_v2 : IVec S2x32768x8x128 1 := cmpf .olt main_v0 main_v1
  let main_v3 : FVec F S2x32768x8x128 .bf16 := Host.absf main_arg1
  let main_cst_0 : FVec F S_ .bf16 := constant S_ .bf16 0x7F80#16
  let main_v4 : FVec F S2x32768x8x128 .bf16 := broadcastInDim S2x32768x8x128 ![] bcast_S_S2x32768x8x128 main_cst_0
  let main_v5 : IVec S2x32768x8x128 1 := cmpf .olt main_v3 main_v4
  let main_v6 : IVec S2x32768x8x128 1 := andi main_v2 main_v5
  let main_v7 : FVec F S2x32768x8x128 .f32 := Host.absf main_arg3
  let main_cst_1 : FVec F S_ .f32 := constant S_ .f32 0x7F800000#32
  let main_v8 : FVec F S2x32768x8x128 .f32 := broadcastInDim S2x32768x8x128 ![] bcast_S_S2x32768x8x128 main_cst_1
  let main_v9 : IVec S2x32768x8x128 1 := cmpf .olt main_v7 main_v8
  let main_v10 : IVec S2x32768x8x128 1 := andi main_v6 main_v9
  main_v10
-- ==== Kernel.lean ====
abbrev S2x32768x8x128 : Shape := ⟨4, ![2, 32768, 8, 128]⟩
abbrev S2x32768x8x256 : Shape := ⟨4, ![2, 32768, 8, 256]⟩
abbrev S2x8x128x256 : Shape := ⟨4, ![2, 8, 128, 256]⟩
abbrev S2x262144x128 : Shape := ⟨3, ![2, 262144, 128]⟩
abbrev S2x512x8 : Shape := ⟨3, ![2, 512, 8]⟩
abbrev S1x512x8x128 : Shape := ⟨4, ![1, 512, 8, 128]⟩
abbrev S1x512x8x256 : Shape := ⟨4, ![1, 512, 8, 256]⟩
abbrev S1x8x128x256 : Shape := ⟨4, ![1, 8, 128, 256]⟩
abbrev S1x4096x128 : Shape := ⟨3, ![1, 4096, 128]⟩
abbrev S1x8x8 : Shape := ⟨3, ![1, 8, 8]⟩
abbrev S576x128 : Shape := ⟨2, ![576, 128]⟩
abbrev S64x64 : Shape := ⟨2, ![64, 64]⟩
abbrev S8x128 : Shape := ⟨2, ![8, 128]⟩
abbrev S1x1x8x128 : Shape := ⟨4, ![1, 1, 8, 128]⟩
abbrev S8 : Shape := ⟨1, ![8]⟩
abbrev S8x1 : Shape := ⟨2, ![8, 1]⟩
abbrev S128 : Shape := ⟨1, ![128]⟩
abbrev S1x128 : Shape := ⟨2, ![1, 128]⟩
abbrev S1x8 : Shape := ⟨2, ![1, 8]⟩
abbrev S1x1x8 : Shape := ⟨3, ![1, 1, 8]⟩
abbrev S32x128 : Shape := ⟨2, ![32, 128]⟩
abbrev S1x32x128 : Shape := ⟨3, ![1, 32, 128]⟩
abbrev S128x8 : Shape := ⟨2, ![128, 8]⟩
abbrev S64x128 : Shape := ⟨2, ![64, 128]⟩
abbrev S64x256 : Shape := ⟨2, ![64, 256]⟩
abbrev S1x1x128x256 : Shape := ⟨4, ![1, 1, 128, 256]⟩
abbrev S128x256 : Shape := ⟨2, ![128, 256]⟩
abbrev S128x1 : Shape := ⟨2, ![128, 1]⟩

abbrev nBuf : Space → Nat
  | .hbm => 10
  | .vmem => 30
  | .smem => 0
  | _ => 0

abbrev bufTy : (tb : Table) → Fin (tcTables nBuf tb) → BufTy
  | .hbm, ⟨0, _⟩ => ⟨S2x32768x8x128, .bf16⟩
  | .hbm, ⟨1, _⟩ => ⟨S2x32768x8x128, .bf16⟩
  | .hbm, ⟨2, _⟩ => ⟨S2x32768x8x256, .bf16⟩
  | .hbm, ⟨3, _⟩ => ⟨S2x32768x8x128, .f32⟩
  | .hbm, ⟨4, _⟩ => ⟨S2x32768x8x256, .bf16⟩
  | .hbm, ⟨5, _⟩ => ⟨S2x8x128x256, .f32⟩
  | .hbm, ⟨6, _⟩ => ⟨S2x262144x128, .fp8e4m3⟩
  | .hbm, ⟨7, _⟩ => ⟨S2x512x8, .f32⟩
  | .hbm, ⟨8, _⟩ => ⟨S2x262144x128, .fp8e4m3⟩
  | .hbm, ⟨9, _⟩ => ⟨S2x512x8, .f32⟩
  | .local _ .vmem, ⟨0, _⟩ => ⟨S1x512x8x128, .bf16⟩
  | .local _ .vmem, ⟨1, _⟩ => ⟨S1x512x8x128, .bf16⟩
  | .local _ .vmem, ⟨2, _⟩ => ⟨S1x512x8x128, .bf16⟩
  | .local _ .vmem, ⟨3, _⟩ => ⟨S1x512x8x128, .bf16⟩
  | .local _ .vmem, ⟨4, _⟩ => ⟨S1x512x8x128, .bf16⟩
  | .local _ .vmem, ⟨5, _⟩ => ⟨S1x512x8x128, .bf16⟩
  | .local _ .vmem, ⟨6, _⟩ => ⟨S1x512x8x128, .bf16⟩
  | .local _ .vmem, ⟨7, _⟩ => ⟨S1x512x8x128, .bf16⟩
  | .local _ .vmem, ⟨8, _⟩ => ⟨S1x512x8x128, .f32⟩
  | .local _ .vmem, ⟨9, _⟩ => ⟨S1x512x8x128, .f32⟩
  | .local _ .vmem, ⟨10, _⟩ => ⟨S1x512x8x256, .bf16⟩
  | .local _ .vmem, ⟨11, _⟩ => ⟨S1x512x8x256, .bf16⟩
  | .local _ .vmem, ⟨12, _⟩ => ⟨S1x8x128x256, .f32⟩
  | .local _ .vmem, ⟨13, _⟩ => ⟨S1x8x128x256, .f32⟩
  | .local _ .vmem, ⟨14, _⟩ => ⟨S1x4096x128, .fp8e4m3⟩
  | .local _ .vmem, ⟨15, _⟩ => ⟨S1x4096x128, .fp8e4m3⟩
  | .local _ .vmem, ⟨16, _⟩ => ⟨S1x8x8, .f32⟩
  | .local _ .vmem, ⟨17, _⟩ => ⟨S1x8x8, .f32⟩
  | .local _ .vmem, ⟨18, _⟩ => ⟨S1x4096x128, .fp8e4m3⟩
  | .local _ .vmem, ⟨19, _⟩ => ⟨S1x4096x128, .fp8e4m3⟩
  | .local _ .vmem, ⟨20, _⟩ => ⟨S1x8x8, .f32⟩
  | .local _ .vmem, ⟨21, _⟩ => ⟨S1x8x8, .f32⟩
  | .local _ .vmem, ⟨22, _⟩ => ⟨S576x128, .f32⟩
  | .local _ .vmem, ⟨23, _⟩ => ⟨S576x128, .f32⟩
  | .local _ .vmem, ⟨24, _⟩ => ⟨S576x128, .f32⟩
  | .local _ .vmem, ⟨25, _⟩ => ⟨S576x128, .f32⟩
  | .local _ .vmem, ⟨26, _⟩ => ⟨S576x128, .f32⟩
  | .local _ .vmem, ⟨27, _⟩ => ⟨S576x128, .f32⟩
  | .local _ .vmem, ⟨28, _⟩ => ⟨S576x128, .f32⟩
  | .local _ .vmem, ⟨29, _⟩ => ⟨S576x128, .f32⟩
  | _, _ => ⟨S2x32768x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_1 : BitVec 32 := 0#32
  let c8_i32 : BitVec 32 := 8#32
  let v9 : BitVec 32 := Scalar.addi c0_i32_1 c8_i32
  let c1_i32 : BitVec 32 := 1#32
  ⟨c0_i32_1, v9, c1_i32⟩
def k0_off1 (k0_t1 : Fin k0_t1_loop.trips) (c32_i32 : BitVec 32) : Fin 4 → Nat :=
  let c0 : Index := 0#32
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let v12 : BitVec 32 := Scalar.addi v10 c32_i32
  let v13 : Index := Scalar.indexCast v12
  let c0_3 : Index := 0#32
  let c0_4 : Index := 0#32
  ![0, v13.toNat, 0, 0]
def k0_off2 (k0_t1 : Fin k0_t1_loop.trips) : Fin 4 → Nat :=
  let c0_193 : Index := 0#32
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let v327 : Index := Scalar.indexCast v10
  let c0_194 : Index := 0#32
  let c0_195 : Index := 0#32
  ![0, v327.toNat, 0, 0]
def k0_off3 (k0_t1 : Fin k0_t1_loop.trips) : Fin 3 → Nat :=
  let c0_1809 : Index := 0#32
  let c0_i32_1 : BitVec 32 := 0#32
  let c1_i32 : BitVec 32 := 1#32
  let arg21 : BitVec 32 := Scf.iv c0_i32_1 c1_i32 k0_t1
  let v3165 : Index := Scalar.indexCast arg21
  let c0_1810 : Index := 0#32
  ![0, v3165.toNat, 0]
def k0_mult1 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c0_i32_1825 : BitVec 32 := 0#32
  let v3194 : BitVec 32 := Scalar.addi v10 c0_i32_1825
  let c8_i32_1826 : BitVec 32 := 8#32
  let v3195 : BitVec 32 := Scalar.muli v3194 c8_i32_1826
  v3195
def k0_off4 (k0_t1 : Fin k0_t1_loop.trips) (c0_i32_1825 : BitVec 32) : Fin 3 → Nat :=
  let c0_1827 : Index := 0#32
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let v3194 : BitVec 32 := Scalar.addi v10 c0_i32_1825
  let c8_i32_1826 : BitVec 32 := 8#32
  let v3195 : BitVec 32 := Scalar.muli v3194 c8_i32_1826
  let v3196 : BitVec 32 := v3195
  let v3197 : Index := Scalar.indexCast v3196
  let c0_1828 : Index := 0#32
  ![0, v3197.toNat, 0]
def k0_mult2 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c4_i32_1847 : BitVec 32 := 4#32
  let v3236 : BitVec 32 := Scalar.addi v10 c4_i32_1847
  let c8_i32_1848 : BitVec 32 := 8#32
  let v3237 : BitVec 32 := Scalar.muli v3236 c8_i32_1848
  v3237
def k0_mult3 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c8_i32_1869 : BitVec 32 := 8#32
  let v3278 : BitVec 32 := Scalar.addi v10 c8_i32_1869
  let c8_i32_1870 : BitVec 32 := 8#32
  let v3279 : BitVec 32 := Scalar.muli v3278 c8_i32_1870
  v3279
def k0_mult4 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c12_i32_1891 : BitVec 32 := 12#32
  let v3320 : BitVec 32 := Scalar.addi v10 c12_i32_1891
  let c8_i32_1892 : BitVec 32 := 8#32
  let v3321 : BitVec 32 := Scalar.muli v3320 c8_i32_1892
  v3321
def k0_mult5 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c16_i32_1913 : BitVec 32 := 16#32
  let v3362 : BitVec 32 := Scalar.addi v10 c16_i32_1913
  let c8_i32_1914 : BitVec 32 := 8#32
  let v3363 : BitVec 32 := Scalar.muli v3362 c8_i32_1914
  v3363
def k0_mult6 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c20_i32_1935 : BitVec 32 := 20#32
  let v3404 : BitVec 32 := Scalar.addi v10 c20_i32_1935
  let c8_i32_1936 : BitVec 32 := 8#32
  let v3405 : BitVec 32 := Scalar.muli v3404 c8_i32_1936
  v3405
def k0_mult7 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c24_i32_1957 : BitVec 32 := 24#32
  let v3446 : BitVec 32 := Scalar.addi v10 c24_i32_1957
  let c8_i32_1958 : BitVec 32 := 8#32
  let v3447 : BitVec 32 := Scalar.muli v3446 c8_i32_1958
  v3447
def k0_mult8 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c28_i32_1979 : BitVec 32 := 28#32
  let v3488 : BitVec 32 := Scalar.addi v10 c28_i32_1979
  let c8_i32_1980 : BitVec 32 := 8#32
  let v3489 : BitVec 32 := Scalar.muli v3488 c8_i32_1980
  v3489
def k0_mult9 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c32_i32_2001 : BitVec 32 := 32#32
  let v3530 : BitVec 32 := Scalar.addi v10 c32_i32_2001
  let c8_i32_2002 : BitVec 32 := 8#32
  let v3531 : BitVec 32 := Scalar.muli v3530 c8_i32_2002
  v3531
def k0_mult10 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c36_i32_2023 : BitVec 32 := 36#32
  let v3572 : BitVec 32 := Scalar.addi v10 c36_i32_2023
  let c8_i32_2024 : BitVec 32 := 8#32
  let v3573 : BitVec 32 := Scalar.muli v3572 c8_i32_2024
  v3573
def k0_mult11 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c40_i32_2045 : BitVec 32 := 40#32
  let v3614 : BitVec 32 := Scalar.addi v10 c40_i32_2045
  let c8_i32_2046 : BitVec 32 := 8#32
  let v3615 : BitVec 32 := Scalar.muli v3614 c8_i32_2046
  v3615
def k0_mult12 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c44_i32_2067 : BitVec 32 := 44#32
  let v3656 : BitVec 32 := Scalar.addi v10 c44_i32_2067
  let c8_i32_2068 : BitVec 32 := 8#32
  let v3657 : BitVec 32 := Scalar.muli v3656 c8_i32_2068
  v3657
def k0_mult13 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c48_i32_2089 : BitVec 32 := 48#32
  let v3698 : BitVec 32 := Scalar.addi v10 c48_i32_2089
  let c8_i32_2090 : BitVec 32 := 8#32
  let v3699 : BitVec 32 := Scalar.muli v3698 c8_i32_2090
  v3699
def k0_mult14 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c52_i32_2111 : BitVec 32 := 52#32
  let v3740 : BitVec 32 := Scalar.addi v10 c52_i32_2111
  let c8_i32_2112 : BitVec 32 := 8#32
  let v3741 : BitVec 32 := Scalar.muli v3740 c8_i32_2112
  v3741
def k0_mult15 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c56_i32_2133 : BitVec 32 := 56#32
  let v3782 : BitVec 32 := Scalar.addi v10 c56_i32_2133
  let c8_i32_2134 : BitVec 32 := 8#32
  let v3783 : BitVec 32 := Scalar.muli v3782 c8_i32_2134
  v3783
def k0_mult16 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c60_i32_2155 : BitVec 32 := 60#32
  let v3824 : BitVec 32 := Scalar.addi v10 c60_i32_2155
  let c8_i32_2156 : BitVec 32 := 8#32
  let v3825 : BitVec 32 := Scalar.muli v3824 c8_i32_2156
  v3825
def k0_mult17 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c0_i32_2177 : BitVec 32 := 0#32
  let v3868 : BitVec 32 := Scalar.addi v10 c0_i32_2177
  let c8_i32_2178 : BitVec 32 := 8#32
  let v3869 : BitVec 32 := Scalar.muli v3868 c8_i32_2178
  v3869
def k0_mult18 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c4_i32_2199 : BitVec 32 := 4#32
  let v3910 : BitVec 32 := Scalar.addi v10 c4_i32_2199
  let c8_i32_2200 : BitVec 32 := 8#32
  let v3911 : BitVec 32 := Scalar.muli v3910 c8_i32_2200
  v3911
def k0_mult19 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c8_i32_2221 : BitVec 32 := 8#32
  let v3952 : BitVec 32 := Scalar.addi v10 c8_i32_2221
  let c8_i32_2222 : BitVec 32 := 8#32
  let v3953 : BitVec 32 := Scalar.muli v3952 c8_i32_2222
  v3953
def k0_mult20 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c12_i32_2243 : BitVec 32 := 12#32
  let v3994 : BitVec 32 := Scalar.addi v10 c12_i32_2243
  let c8_i32_2244 : BitVec 32 := 8#32
  let v3995 : BitVec 32 := Scalar.muli v3994 c8_i32_2244
  v3995
def k0_mult21 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c16_i32_2265 : BitVec 32 := 16#32
  let v4036 : BitVec 32 := Scalar.addi v10 c16_i32_2265
  let c8_i32_2266 : BitVec 32 := 8#32
  let v4037 : BitVec 32 := Scalar.muli v4036 c8_i32_2266
  v4037
def k0_mult22 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c20_i32_2287 : BitVec 32 := 20#32
  let v4078 : BitVec 32 := Scalar.addi v10 c20_i32_2287
  let c8_i32_2288 : BitVec 32 := 8#32
  let v4079 : BitVec 32 := Scalar.muli v4078 c8_i32_2288
  v4079
def k0_mult23 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c24_i32_2309 : BitVec 32 := 24#32
  let v4120 : BitVec 32 := Scalar.addi v10 c24_i32_2309
  let c8_i32_2310 : BitVec 32 := 8#32
  let v4121 : BitVec 32 := Scalar.muli v4120 c8_i32_2310
  v4121
def k0_mult24 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c28_i32_2331 : BitVec 32 := 28#32
  let v4162 : BitVec 32 := Scalar.addi v10 c28_i32_2331
  let c8_i32_2332 : BitVec 32 := 8#32
  let v4163 : BitVec 32 := Scalar.muli v4162 c8_i32_2332
  v4163
def k0_mult25 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c32_i32_2353 : BitVec 32 := 32#32
  let v4204 : BitVec 32 := Scalar.addi v10 c32_i32_2353
  let c8_i32_2354 : BitVec 32 := 8#32
  let v4205 : BitVec 32 := Scalar.muli v4204 c8_i32_2354
  v4205
def k0_mult26 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c36_i32_2375 : BitVec 32 := 36#32
  let v4246 : BitVec 32 := Scalar.addi v10 c36_i32_2375
  let c8_i32_2376 : BitVec 32 := 8#32
  let v4247 : BitVec 32 := Scalar.muli v4246 c8_i32_2376
  v4247
def k0_mult27 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c40_i32_2397 : BitVec 32 := 40#32
  let v4288 : BitVec 32 := Scalar.addi v10 c40_i32_2397
  let c8_i32_2398 : BitVec 32 := 8#32
  let v4289 : BitVec 32 := Scalar.muli v4288 c8_i32_2398
  v4289
def k0_mult28 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c44_i32_2419 : BitVec 32 := 44#32
  let v4330 : BitVec 32 := Scalar.addi v10 c44_i32_2419
  let c8_i32_2420 : BitVec 32 := 8#32
  let v4331 : BitVec 32 := Scalar.muli v4330 c8_i32_2420
  v4331
def k0_mult29 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c48_i32_2441 : BitVec 32 := 48#32
  let v4372 : BitVec 32 := Scalar.addi v10 c48_i32_2441
  let c8_i32_2442 : BitVec 32 := 8#32
  let v4373 : BitVec 32 := Scalar.muli v4372 c8_i32_2442
  v4373
def k0_mult30 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c52_i32_2463 : BitVec 32 := 52#32
  let v4414 : BitVec 32 := Scalar.addi v10 c52_i32_2463
  let c8_i32_2464 : BitVec 32 := 8#32
  let v4415 : BitVec 32 := Scalar.muli v4414 c8_i32_2464
  v4415
def k0_mult31 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c56_i32_2485 : BitVec 32 := 56#32
  let v4456 : BitVec 32 := Scalar.addi v10 c56_i32_2485
  let c8_i32_2486 : BitVec 32 := 8#32
  let v4457 : BitVec 32 := Scalar.muli v4456 c8_i32_2486
  v4457
def k0_mult32 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let c60_i32_2507 : BitVec 32 := 60#32
  let v4498 : BitVec 32 := Scalar.addi v10 c60_i32_2507
  let c8_i32_2508 : BitVec 32 := 8#32
  let v4499 : BitVec 32 := Scalar.muli v4498 c8_i32_2508
  v4499
def k0_off5 (k0_t1 : Fin k0_t1_loop.trips) (c0_i32_2754 : BitVec 32) : Fin 4 → Nat :=
  let c0_2755 : Index := 0#32
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let v4795 : BitVec 32 := Scalar.addi v10 c0_i32_2754
  let v4796 : Index := Scalar.indexCast v4795
  let c0_2756 : Index := 0#32
  let c0_2757 : Index := 0#32
  ![0, v4796.toNat, 0, 0]
def k0_off6 (k0_t1 : Fin k0_t1_loop.trips) (c0_i32_2760 : BitVec 32) : Fin 4 → Nat :=
  let c0_2761 : Index := 0#32
  let c0_i32_1 : BitVec 32 := 0#32
  let c1_i32 : BitVec 32 := 1#32
  let arg21 : BitVec 32 := Scf.iv c0_i32_1 c1_i32 k0_t1
  let c64_i32 : BitVec 32 := 64#32
  let v10 : BitVec 32 := Scalar.muli arg21 c64_i32
  let v4802 : BitVec 32 := Scalar.addi v10 c0_i32_2760
  let v4803 : Index := Scalar.indexCast v4802
  let c0_2762 : Index := 0#32
  let c128 : Index := 128#32
  ![0, v4803.toNat, 0, 128]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, arg1.toNat, c0_i32.toNat, c1_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x8x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x32768x8x128 : Shape := ⟨4, ![2, 32768, 8, 128]⟩
abbrev S2x32768x8x256 : Shape := ⟨4, ![2, 32768, 8, 256]⟩
abbrev S2x512x64x8x128 : Shape := ⟨5, ![2, 512, 64, 8, 128]⟩
abbrev S2x512x64x8x256 : Shape := ⟨5, ![2, 512, 64, 8, 256]⟩
abbrev S_ : Shape := ⟨0, ![]⟩
abbrev S2x512x1x8x128 : Shape := ⟨5, ![2, 512, 1, 8, 128]⟩
abbrev S2x512x8x128 : Shape := ⟨4, ![2, 512, 8, 128]⟩
abbrev S2x512x8 : Shape := ⟨3, ![2, 512, 8]⟩
abbrev S256 : Shape := ⟨1, ![256]⟩
abbrev S2x512x8x1 : Shape := ⟨4, ![2, 512, 8, 1]⟩
abbrev S1x1x1x256 : Shape := ⟨4, ![1, 1, 1, 256]⟩
abbrev S2x512x8x256 : Shape := ⟨4, ![2, 512, 8, 256]⟩
abbrev S1 : Shape := ⟨1, ![1]⟩
abbrev S2x512x1x8x1 : Shape := ⟨5, ![2, 512, 1, 8, 1]⟩
abbrev S2x262144x128 : Shape := ⟨3, ![2, 262144, 128]⟩
abbrev S2x512x4x16x8x128 : Shape := ⟨6, ![2, 512, 4, 16, 8, 128]⟩
abbrev S2x512x4x1x8x128 : Shape := ⟨6, ![2, 512, 4, 1, 8, 128]⟩
abbrev S2x512x4x8x128 : Shape := ⟨5, ![2, 512, 4, 8, 128]⟩
abbrev S2x512x1x64x8x128 : Shape := ⟨6, ![2, 512, 1, 64, 8, 128]⟩
abbrev S2x512x4x64x8x128 : Shape := ⟨6, ![2, 512, 4, 64, 8, 128]⟩
abbrev S2x512x4x8x16x64 : Shape := ⟨6, ![2, 512, 4, 8, 16, 64]⟩
abbrev S4 : Shape := ⟨1, ![4]⟩
abbrev S4x1 : Shape := ⟨2, ![4, 1]⟩
abbrev S16 : Shape := ⟨1, ![16]⟩
abbrev S1x16 : Shape := ⟨2, ![1, 16]⟩
abbrev S4x16 : Shape := ⟨2, ![4, 16]⟩
abbrev S64 : Shape := ⟨1, ![64]⟩
abbrev S1x1x64 : Shape := ⟨3, ![1, 1, 64]⟩
abbrev S4x16x1 : Shape := ⟨3, ![4, 16, 1]⟩
abbrev S4x16x64 : Shape := ⟨3, ![4, 16, 64]⟩
abbrev S4x1x16x64 : Shape := ⟨4, ![4, 1, 16, 64]⟩
abbrev S2x512x8x256x4x16 : Shape := ⟨6, ![2, 512, 8, 256, 4, 16]⟩
abbrev S2x512x4x16x8x256 : Shape := ⟨6, ![2, 512, 4, 16, 8, 256]⟩
abbrev S512x2x64x8x128 : Shape := ⟨5, ![512, 2, 64, 8, 128]⟩
abbrev S512x2x8 : Shape := ⟨3, ![512, 2, 8]⟩
abbrev S512x2x64x8x256 : Shape := ⟨5, ![512, 2, 64, 8, 256]⟩
abbrev S512x2x8x128 : Shape := ⟨4, ![512, 2, 8, 128]⟩
abbrev S2x8x128x256 : Shape := ⟨4, ![2, 8, 128, 256]⟩
abbrev S1x2x64x8x128 : Shape := ⟨5, ![1, 2, 64, 8, 128]⟩
abbrev S2x64x8x128 : Shape := ⟨4, ![2, 64, 8, 128]⟩
abbrev S1x2x8 : Shape := ⟨3, ![1, 2, 8]⟩
abbrev S2x8 : Shape := ⟨2, ![2, 8]⟩
abbrev S1x2x64x8x256 : Shape := ⟨5, ![1, 2, 64, 8, 256]⟩
abbrev S2x64x8x256 : Shape := ⟨4, ![2, 64, 8, 256]⟩
abbrev S1x2x8x128 : Shape := ⟨4, ![1, 2, 8, 128]⟩
abbrev S2x8x128 : Shape := ⟨3, ![2, 8, 128]⟩
abbrev S2x8x256x64 : Shape := ⟨4, ![2, 8, 256, 64]⟩
abbrev S2x1x8x1 : Shape := ⟨4, ![2, 1, 8, 1]⟩
abbrev S2x8x1x1 : Shape := ⟨4, ![2, 8, 1, 1]⟩
abbrev S2x8x128x1 : Shape := ⟨4, ![2, 8, 128, 1]⟩

abbrev nBuf : Space → Nat
  | .hbm => 253
  | .vmem => 6
  | .smem => 0
  | _ => 0

abbrev hbmTy0_0 (i : Nat) : BufTy := match i % 128 with
  | 0 => ⟨S2x32768x8x128, .bf16⟩
  | 1 => ⟨S2x32768x8x128, .bf16⟩
  | 2 => ⟨S2x32768x8x256, .bf16⟩
  | 3 => ⟨S2x32768x8x128, .f32⟩
  | 4 => ⟨S2x32768x8x128, .f32⟩
  | 5 => ⟨S2x512x64x8x128, .f32⟩
  | 6 => ⟨S2x32768x8x128, .f32⟩
  | 7 => ⟨S2x512x64x8x128, .f32⟩
  | 8 => ⟨S2x512x64x8x256, .bf16⟩
  | 9 => ⟨S2x512x64x8x128, .f32⟩
  | 10 => ⟨S_, .f32⟩
  | 11 => ⟨S_, .f32⟩
  | 12 => ⟨S2x512x64x8x128, .f32⟩
  | 13 => ⟨S2x512x1x8x128, .f32⟩
  | 14 => ⟨S2x512x8x128, .f32⟩
  | 15 => ⟨S_, .f32⟩
  | 16 => ⟨S2x512x64x8x128, .f32⟩
  | 17 => ⟨S2x512x64x8x128, .f32⟩
  | 18 => ⟨S2x512x64x8x128, .f32⟩
  | 19 => ⟨S2x512x64x8x128, .f32⟩
  | 20 => ⟨S2x512x1x8x128, .f32⟩
  | 21 => ⟨S2x512x64x8x128, .f32⟩
  | 22 => ⟨S2x512x64x8x128, .f32⟩
  | 23 => ⟨S2x512x64x8x128, .f32⟩
  | 24 => ⟨S2x512x64x8x128, .f32⟩
  | 25 => ⟨S2x512x64x8x128, .f32⟩
  | 26 => ⟨S_, .f32⟩
  | 27 => ⟨S2x512x8, .f32⟩
  | 28 => ⟨S_, .f32⟩
  | 29 => ⟨S2x512x8, .f32⟩
  | 30 => ⟨S2x512x8, .f32⟩
  | 31 => ⟨S_, .f32⟩
  | 32 => ⟨S256, .f32⟩
  | 33 => ⟨S256, .f32⟩
  | 34 => ⟨S_, .f32⟩
  | 35 => ⟨S256, .f32⟩
  | 36 => ⟨S256, .f32⟩
  | 37 => ⟨S256, .f32⟩
  | 38 => ⟨S2x512x8x1, .f32⟩
  | 39 => ⟨S1x1x1x256, .f32⟩
  | 40 => ⟨S2x512x8x256, .f32⟩
  | 41 => ⟨S2x512x8x256, .f32⟩
  | 42 => ⟨S2x512x8x256, .i1⟩
  | 43 => ⟨S1, .f32⟩
  | 44 => ⟨S_, .f32⟩
  | 45 => ⟨S2x512x8x256, .f32⟩
  | 46 => ⟨S2x512x8x256, .f32⟩
  | 47 => ⟨S2x512x8x256, .f32⟩
  | 48 => ⟨S_, .f32⟩
  | 49 => ⟨S2x512x8, .f32⟩
  | 50 => ⟨S_, .f32⟩
  | 51 => ⟨S2x512x8, .f32⟩
  | 52 => ⟨S2x512x8, .i1⟩
  | 53 => ⟨S_, .f32⟩
  | 54 => ⟨S_, .f32⟩
  | 55 => ⟨S2x512x8, .f32⟩
  | 56 => ⟨S2x512x8, .f32⟩
  | 57 => ⟨S2x512x64x8x128, .f32⟩
  | 58 => ⟨S_, .f32⟩
  | 59 => ⟨S2x512x8, .f32⟩
  | 60 => ⟨S_, .f32⟩
  | 61 => ⟨S2x512x8, .f32⟩
  | 62 => ⟨S2x512x8, .f32⟩
  | 63 => ⟨S_, .f32⟩
  | 64 => ⟨S256, .f32⟩
  | 65 => ⟨S256, .f32⟩
  | 66 => ⟨S_, .f32⟩
  | 67 => ⟨S256, .f32⟩
  | 68 => ⟨S256, .f32⟩
  | 69 => ⟨S256, .f32⟩
  | 70 => ⟨S2x512x8x1, .f32⟩
  | 71 => ⟨S1x1x1x256, .f32⟩
  | 72 => ⟨S2x512x8x256, .f32⟩
  | 73 => ⟨S2x512x8x256, .f32⟩
  | 74 => ⟨S2x512x8x256, .i1⟩
  | 75 => ⟨S1, .f32⟩
  | 76 => ⟨S_, .f32⟩
  | 77 => ⟨S2x512x8x256, .f32⟩
  | 78 => ⟨S2x512x8x256, .f32⟩
  | 79 => ⟨S2x512x8x256, .f32⟩
  | 80 => ⟨S_, .f32⟩
  | 81 => ⟨S2x512x8, .f32⟩
  | 82 => ⟨S_, .f32⟩
  | 83 => ⟨S2x512x8, .f32⟩
  | 84 => ⟨S2x512x8, .i1⟩
  | 85 => ⟨S_, .f32⟩
  | 86 => ⟨S_, .f32⟩
  | 87 => ⟨S2x512x8, .f32⟩
  | 88 => ⟨S2x512x8, .f32⟩
  | 89 => ⟨S_, .f32⟩
  | 90 => ⟨S2x512x8, .f32⟩
  | 91 => ⟨S2x512x8, .f32⟩
  | 92 => ⟨S2x512x1x8x1, .f32⟩
  | 93 => ⟨S2x512x64x8x128, .f32⟩
  | 94 => ⟨S2x512x64x8x128, .f32⟩
  | 95 => ⟨S_, .f32⟩
  | 96 => ⟨S_, .f32⟩
  | 97 => ⟨S_, .f32⟩
  | 98 => ⟨S2x512x64x8x128, .f32⟩
  | 99 => ⟨S2x512x64x8x128, .f32⟩
  | 100 => ⟨S_, .f32⟩
  | 101 => ⟨S2x512x64x8x128, .f32⟩
  | 102 => ⟨S2x512x64x8x128, .f32⟩
  | 103 => ⟨S_, .f32⟩
  | 104 => ⟨S2x512x8, .f32⟩
  | 105 => ⟨S2x512x8, .f32⟩
  | 106 => ⟨S2x512x1x8x1, .f32⟩
  | 107 => ⟨S2x512x64x8x128, .f32⟩
  | 108 => ⟨S2x512x64x8x128, .f32⟩
  | 109 => ⟨S_, .f32⟩
  | 110 => ⟨S_, .f32⟩
  | 111 => ⟨S_, .f32⟩
  | 112 => ⟨S2x512x64x8x128, .f32⟩
  | 113 => ⟨S2x512x64x8x128, .f32⟩
  | 114 => ⟨S_, .f32⟩
  | 115 => ⟨S2x512x64x8x128, .f32⟩
  | 116 => ⟨S2x512x64x8x128, .f32⟩
  | 117 => ⟨S2x262144x128, .f32⟩
  | 118 => ⟨S2x262144x128, .f32⟩
  | 119 => ⟨S2x262144x128, .fp8e4m3⟩
  | 120 => ⟨S2x262144x128, .f32⟩
  | 121 => ⟨S2x262144x128, .fp8e4m3⟩
  | 122 => ⟨S2x262144x128, .f32⟩
  | 123 => ⟨S2x512x64x8x128, .f32⟩
  | 124 => ⟨S2x512x64x8x128, .f32⟩
  | 125 => ⟨S2x512x64x8x128, .bf16⟩
  | 126 => ⟨S2x512x4x16x8x128, .f32⟩
  | 127 => ⟨S2x512x4x1x8x128, .f32⟩
  | _ => ⟨S2x32768x8x128, .bf16⟩

abbrev hbmTy0_1 (i : Nat) : BufTy := match i % 128 with
  | 0 => ⟨S2x512x4x8x128, .f32⟩
  | 1 => ⟨S2x512x4x16x8x128, .f32⟩
  | 2 => ⟨S_, .f32⟩
  | 3 => ⟨S2x512x4x16x8x128, .f32⟩
  | 4 => ⟨S2x512x4x16x8x128, .f32⟩
  | 5 => ⟨S2x512x4x1x8x128, .f32⟩
  | 6 => ⟨S2x512x4x16x8x128, .f32⟩
  | 7 => ⟨S2x512x4x16x8x128, .f32⟩
  | 8 => ⟨S2x512x4x16x8x128, .f32⟩
  | 9 => ⟨S2x512x4x16x8x128, .f32⟩
  | 10 => ⟨S2x512x1x64x8x128, .f32⟩
  | 11 => ⟨S2x512x4x1x8x128, .f32⟩
  | 12 => ⟨S2x512x1x64x8x128, .f32⟩
  | 13 => ⟨S2x512x4x64x8x128, .f32⟩
  | 14 => ⟨S2x512x4x64x8x128, .f32⟩
  | 15 => ⟨S2x512x4x64x8x128, .f32⟩
  | 16 => ⟨S2x512x4x64x8x128, .f32⟩
  | 17 => ⟨S2x512x4x64x8x128, .f32⟩
  | 18 => ⟨S2x512x4x64x8x128, .f32⟩
  | 19 => ⟨S2x512x4x8x16x64, .f32⟩
  | 20 => ⟨S4, .i32⟩
  | 21 => ⟨S4x1, .i32⟩
  | 22 => ⟨S_, .i32⟩
  | 23 => ⟨S4x1, .i32⟩
  | 24 => ⟨S4x1, .i32⟩
  | 25 => ⟨S16, .i32⟩
  | 26 => ⟨S1x16, .i32⟩
  | 27 => ⟨S4x16, .i32⟩
  | 28 => ⟨S4x16, .i32⟩
  | 29 => ⟨S4x16, .i32⟩
  | 30 => ⟨S64, .i32⟩
  | 31 => ⟨S1x1x64, .i32⟩
  | 32 => ⟨S4x16x1, .i32⟩
  | 33 => ⟨S4x16x64, .i32⟩
  | 34 => ⟨S4x16x64, .i32⟩
  | 35 => ⟨S4x16x64, .i1⟩
  | 36 => ⟨S4x1x16x64, .i1⟩
  | 37 => ⟨S_, .f32⟩
  | 38 => ⟨S_, .f32⟩
  | 39 => ⟨S2x512x4x8x16x64, .i1⟩
  | 40 => ⟨S2x512x4x8x16x64, .f32⟩
  | 41 => ⟨S2x512x4x8x16x64, .f32⟩
  | 42 => ⟨S2x512x64x8x256, .f32⟩
  | 43 => ⟨S2x512x8x256x4x16, .f32⟩
  | 44 => ⟨S2x512x4x16x8x256, .f32⟩
  | 45 => ⟨S2x512x64x8x256, .f32⟩
  | 46 => ⟨S512x2x64x8x128, .f32⟩
  | 47 => ⟨S512x2x8, .f32⟩
  | 48 => ⟨S512x2x64x8x128, .bf16⟩
  | 49 => ⟨S512x2x8, .f32⟩
  | 50 => ⟨S512x2x64x8x256, .bf16⟩
  | 51 => ⟨S2x512x8x128, .f32⟩
  | 52 => ⟨S512x2x8x128, .f32⟩
  | 53 => ⟨S_, .f32⟩
  | 54 => ⟨S2x8x128x256, .f32⟩
  | 55 => ⟨S_, .f32⟩
  | 56 => ⟨S512x2x64x8x256, .f32⟩
  | 57 => ⟨S_, .i32⟩
  | 58 => ⟨S512x2x64x8x128, .f32⟩
  | 59 => ⟨S512x2x8, .f32⟩
  | 60 => ⟨S512x2x64x8x128, .bf16⟩
  | 61 => ⟨S512x2x8, .f32⟩
  | 62 => ⟨S512x2x64x8x256, .bf16⟩
  | 63 => ⟨S512x2x8x128, .f32⟩
  | 64 => ⟨S_, .i32⟩
  | 65 => ⟨S2x8x128x256, .f32⟩
  | 66 => ⟨S512x2x64x8x256, .f32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S1x2x64x8x128, .f32⟩
  | 74 => ⟨S2x64x8x128, .f32⟩
  | 75 => ⟨S_, .i32⟩
  | 76 => ⟨S_, .i32⟩
  | 77 => ⟨S1x2x8, .f32⟩
  | 78 => ⟨S2x8, .f32⟩
  | 79 => ⟨S_, .i32⟩
  | 80 => ⟨S_, .i32⟩
  | 81 => ⟨S_, .i32⟩
  | 82 => ⟨S_, .i32⟩
  | 83 => ⟨S1x2x64x8x128, .bf16⟩
  | 84 => ⟨S2x64x8x128, .bf16⟩
  | 85 => ⟨S_, .i32⟩
  | 86 => ⟨S_, .i32⟩
  | 87 => ⟨S1x2x8, .f32⟩
  | 88 => ⟨S2x8, .f32⟩
  | 89 => ⟨S_, .i32⟩
  | 90 => ⟨S_, .i32⟩
  | 91 => ⟨S_, .i32⟩
  | 92 => ⟨S_, .i32⟩
  | 93 => ⟨S1x2x64x8x256, .bf16⟩
  | 94 => ⟨S2x64x8x256, .bf16⟩
  | 95 => ⟨S_, .i32⟩
  | 96 => ⟨S_, .i32⟩
  | 97 => ⟨S_, .i32⟩
  | 98 => ⟨S1x2x8x128, .f32⟩
  | 99 => ⟨S2x8x128, .f32⟩
  | 100 => ⟨S2x8x256x64, .f32⟩
  | 101 => ⟨S2x64x8x256, .f32⟩
  | 102 => ⟨S2x1x8x1, .f32⟩
  | 103 => ⟨S2x64x8x256, .f32⟩
  | 104 => ⟨S2x64x8x256, .f32⟩
  | 105 => ⟨S2x8x128x256, .f32⟩
  | 106 => ⟨S2x8x1x1, .f32⟩
  | 107 => ⟨S2x8x128x256, .f32⟩
  | 108 => ⟨S2x8x128x256, .f32⟩
  | 109 => ⟨S2x8x128x1, .f32⟩
  | 110 => ⟨S2x8x128x256, .f32⟩
  | 111 => ⟨S2x8x128x256, .f32⟩
  | 112 => ⟨S2x8x128x256, .f32⟩
  | 113 => ⟨S1x2x64x8x256, .f32⟩
  | 114 => ⟨S_, .i32⟩
  | 115 => ⟨S_, .i32⟩
  | 116 => ⟨S_, .i32⟩
  | 117 => ⟨S_, .i32⟩
  | 118 => ⟨S512x2x64x8x256, .f32⟩
  | 119 => ⟨S_, .i32⟩
  | 120 => ⟨S_, .i32⟩
  | 121 => ⟨S2x512x64x8x256, .f32⟩
  | 122 => ⟨S2x512x64x8x256, .f32⟩
  | 123 => ⟨S2x512x64x8x256, .bf16⟩
  | 124 => ⟨S2x32768x8x256, .bf16⟩
  | _ => ⟨S2x32768x8x128, .bf16⟩

abbrev hbmTy (i : Nat) : BufTy := match i / 128 with
  | 0 => hbmTy0_0 i
  | 1 => hbmTy0_1 i
  | _ => ⟨S2x32768x8x128, .bf16⟩

abbrev bufTy : (tb : Table) → Fin (tcTables nBuf tb) → BufTy
  | .hbm, ⟨i, _⟩ => hbmTy i
  | .local _ .vmem, ⟨0, _⟩ => ⟨S2x262144x128, .f32⟩
  | .local _ .vmem, ⟨1, _⟩ => ⟨S2x262144x128, .f32⟩
  | .local _ .vmem, ⟨2, _⟩ => ⟨S2x262144x128, .fp8e4m3⟩
  | .local _ .vmem, ⟨3, _⟩ => ⟨S2x262144x128, .f32⟩
  | .local _ .vmem, ⟨4, _⟩ => ⟨S2x262144x128, .fp8e4m3⟩
  | .local _ .vmem, ⟨5, _⟩ => ⟨S2x262144x128, .f32⟩
  | _, _ => ⟨S2x32768x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call1_v0 : Ref sig .tc := ⟨.hbm, 45, rfl⟩
abbrev main_call1_v1 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_call2_v0 : Ref sig .tc := ⟨.hbm, 54, rfl⟩
abbrev main_call2_v1 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call3_v0 : Ref sig .tc := ⟨.hbm, 77, rfl⟩
abbrev main_call3_v1 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_call4_v0 : Ref sig .tc := ⟨.hbm, 86, rfl⟩
abbrev main_call4_v1 : Ref sig .tc := ⟨.hbm, 87, rfl⟩
abbrev main_v59 : Ref sig .tc := ⟨.hbm, 88, rfl⟩
abbrev main_cst_14 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_cst_16 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_v65 : Ref sig .tc := ⟨.hbm, 102, rfl⟩
abbrev main_cst_17 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_18 : Ref sig .tc := ⟨.hbm, 109, rfl⟩
abbrev main_cst_19 : Ref sig .tc := ⟨.hbm, 110, rfl⟩
abbrev main_call6_v0 : Ref sig .tc := ⟨.hbm, 111, rfl⟩
abbrev main_call6_v1 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74_0 : Ref sig .tc := ⟨.hbm, 119, rfl⟩
abbrev main_v74_1 : Ref sig .tc := ⟨.hbm, 120, rfl⟩
abbrev main_v74_2 : Ref sig .tc := ⟨.hbm, 121, rfl⟩
abbrev main_v74_3 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_20 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_c : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_21 : Ref sig .tc := ⟨.hbm, 165, rfl⟩
abbrev main_call7_v0 : Ref sig .tc := ⟨.hbm, 166, rfl⟩
abbrev main_call7_v1 : Ref sig .tc := ⟨.hbm, 167, rfl⟩
abbrev main_call7_v2 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_22 : Ref sig .tc := ⟨.hbm, 181, rfl⟩
abbrev main_v127 : Ref sig .tc := ⟨.hbm, 182, rfl⟩
abbrev main_cst_23 : Ref sig .tc := ⟨.hbm, 183, rfl⟩
abbrev main_v128 : Ref sig .tc := ⟨.hbm, 184, rfl⟩
abbrev main_c_24 : Ref sig .tc := ⟨.hbm, 185, rfl⟩
abbrev main_v129_0 : Ref sig .tc := ⟨.hbm, 186, rfl⟩
abbrev main_v129_1 : Ref sig .tc := ⟨.hbm, 187, rfl⟩
abbrev main_v129_2 : Ref sig .tc := ⟨.hbm, 188, rfl⟩
abbrev main_v129_3 : Ref sig .tc := ⟨.hbm, 189, rfl⟩
abbrev main_v129_4 : Ref sig .tc := ⟨.hbm, 190, rfl⟩
abbrev main_v129_5 : Ref sig .tc := ⟨.hbm, 191, rfl⟩
abbrev main_v129_6 : Ref sig .tc := ⟨.hbm, 192, rfl⟩
abbrev main_v129_7 : Ref sig .tc := ⟨.hbm, 193, rfl⟩
abbrev main_v129_8 : Ref sig .tc := ⟨.hbm, 194, rfl⟩
abbrev main_while0c_c_33 : Ref sig .tc := ⟨.hbm, 195, rfl⟩
abbrev main_while0c_v134 : Ref sig .tc := ⟨.hbm, 196, rfl⟩
abbrev main_while0b_call8_c : Ref sig .tc := ⟨.hbm, 197, rfl⟩
abbrev main_while0b_call8_c_0 : Ref sig .tc := ⟨.hbm, 198, rfl⟩
abbrev main_while0b_call8_c_1 : Ref sig .tc := ⟨.hbm, 199, rfl⟩
abbrev main_while0b_call8_c_2 : Ref sig .tc := ⟨.hbm, 200, rfl⟩
abbrev main_while0b_call8_v0 : Ref sig .tc := ⟨.hbm, 201, rfl⟩
abbrev main_while0b_v134 : Ref sig .tc := ⟨.hbm, 202, rfl⟩
abbrev main_while0b_call9_c : Ref sig .tc := ⟨.hbm, 203, rfl⟩
abbrev main_while0b_call9_c_0 : Ref sig .tc := ⟨.hbm, 204, rfl⟩
abbrev main_while0b_call9_v0 : Ref sig .tc := ⟨.hbm, 205, rfl⟩
abbrev main_while0b_v135 : Ref sig .tc := ⟨.hbm, 206, rfl⟩
abbrev main_while0b_call10_c : Ref sig .tc := ⟨.hbm, 207, rfl⟩
abbrev main_while0b_call10_c_0 : Ref sig .tc := ⟨.hbm, 208, rfl⟩
abbrev main_while0b_call10_c_1 : Ref sig .tc := ⟨.hbm, 209, rfl⟩
abbrev main_while0b_call10_c_2 : Ref sig .tc := ⟨.hbm, 210, rfl⟩
abbrev main_while0b_call10_v0 : Ref sig .tc := ⟨.hbm, 211, rfl⟩
abbrev main_while0b_v136 : Ref sig .tc := ⟨.hbm, 212, rfl⟩
abbrev main_while0b_call11_c : Ref sig .tc := ⟨.hbm, 213, rfl⟩
abbrev main_while0b_call11_c_0 : Ref sig .tc := ⟨.hbm, 214, rfl⟩
abbrev main_while0b_call11_v0 : Ref sig .tc := ⟨.hbm, 215, rfl⟩
abbrev main_while0b_v137 : Ref sig .tc := ⟨.hbm, 216, rfl⟩
abbrev main_while0b_call12_c : Ref sig .tc := ⟨.hbm, 217, rfl⟩
abbrev main_while0b_call12_c_0 : Ref sig .tc := ⟨.hbm, 218, rfl⟩
abbrev main_while0b_call12_c_1 : Ref sig .tc := ⟨.hbm, 219, rfl⟩
abbrev main_while0b_call12_c_2 : Ref sig .tc := ⟨.hbm, 220, rfl⟩
abbrev main_while0b_call12_v0 : Ref sig .tc := ⟨.hbm, 221, rfl⟩
abbrev main_while0b_v138 : Ref sig .tc := ⟨.hbm, 222, rfl⟩
abbrev main_while0b_call13_c : Ref sig .tc := ⟨.hbm, 223, rfl⟩
abbrev main_while0b_call13_c_0 : Ref sig .tc := ⟨.hbm, 224, rfl⟩
abbrev main_while0b_call13_c_1 : Ref sig .tc := ⟨.hbm, 225, rfl⟩
abbrev main_while0b_call13_v0 : Ref sig .tc := ⟨.hbm, 226, rfl⟩
abbrev main_while0b_v139 : Ref sig .tc := ⟨.hbm, 227, rfl⟩
abbrev main_while0b_v140 : Ref sig .tc := ⟨.hbm, 228, rfl⟩
abbrev main_while0b_v141 : Ref sig .tc := ⟨.hbm, 229, rfl⟩
abbrev main_while0b_v142 : Ref sig .tc := ⟨.hbm, 230, rfl⟩
abbrev main_while0b_v143 : Ref sig .tc := ⟨.hbm, 231, rfl⟩
abbrev main_while0b_v144 : Ref sig .tc := ⟨.hbm, 232, rfl⟩
abbrev main_while0b_v145 : Ref sig .tc := ⟨.hbm, 233, rfl⟩
abbrev main_while0b_v146 : Ref sig .tc := ⟨.hbm, 234, rfl⟩
abbrev main_while0b_v147 : Ref sig .tc := ⟨.hbm, 235, rfl⟩
abbrev main_while0b_v148 : Ref sig .tc := ⟨.hbm, 236, rfl⟩
abbrev main_while0b_v149 : Ref sig .tc := ⟨.hbm, 237, rfl⟩
abbrev main_while0b_v150 : Ref sig .tc := ⟨.hbm, 238, rfl⟩
abbrev main_while0b_v151 : Ref sig .tc := ⟨.hbm, 239, rfl⟩
abbrev main_while0b_v152 : Ref sig .tc := ⟨.hbm, 240, rfl⟩
abbrev main_while0b_call14_v0 : Ref sig .tc := ⟨.hbm, 241, rfl⟩
abbrev main_while0b_call14_c : Ref sig .tc := ⟨.hbm, 242, rfl⟩
abbrev main_while0b_call14_c_0 : Ref sig .tc := ⟨.hbm, 243, rfl⟩
abbrev main_while0b_call14_c_1 : Ref sig .tc := ⟨.hbm, 244, rfl⟩
abbrev main_while0b_call14_c_2 : Ref sig .tc := ⟨.hbm, 245, rfl⟩
abbrev main_while0b_v153 : Ref sig .tc := ⟨.hbm, 246, rfl⟩
abbrev main_while0b_c_33 : Ref sig .tc := ⟨.hbm, 247, rfl⟩
abbrev main_while0b_v154 : Ref sig .tc := ⟨.hbm, 248, rfl⟩
abbrev main_v130 : Ref sig .tc := ⟨.hbm, 249, rfl⟩
abbrev main_v131 : Ref sig .tc := ⟨.hbm, 250, rfl⟩
abbrev main_v132 : Ref sig .tc := ⟨.hbm, 251, rfl⟩
abbrev main_v133 : Ref sig .tc := ⟨.hbm, 252, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev main_while0_count : Scf.Loop 32 := ⟨0#32, 512#32, 1#32⟩

abbrev grid0 : Pipeline.Grid := .none

abbrev stage0_0 : Fin 1 → Memref sig .tc .vmem S2x262144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x262144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x262144x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x262144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x262144x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x262144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Trip.lean ====
/-
  One trip of the kernel's loop over the chunks of a block, run once at a symbolic trip: what it reads, and the list of
  what it writes into each of the six result blocks. The scratch buffers end at something.
-/
module

public import proofs.«01_k».proof.Proof.Gen.Kernel.Frame
public import proofs.«01_k».proof.Proof.Gen.Kernel.Loops
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option sl_exec.stridedRows true in
/-- One trip: the pieces written into the six results. -/
@[irreducible] noncomputable def trip (c : Dev nD) (i : grid0.Coords) (arg2 : Memref sig .tc .vmem S1x512x8x128 .bf16) (harg2 : arg2.IsWhole) (arg3 : Memref sig .tc .vmem S1x512x8x128 .bf16) (harg3 : arg3.IsWhole) (arg4 : Memref sig .tc .vmem S1x512x8x128 .bf16) (harg4 : arg4.IsWhole) (arg5 : Memref sig .tc .vmem S1x512x8x128 .bf16) (harg5 : arg5.IsWhole) (arg6 : Memref sig .tc .vmem S1x512x8x128 .f32) (harg6 : arg6.IsWhole) (arg7 : Memref sig .tc .vmem S1x512x8x256 .bf16) (harg7 : arg7.IsWhole) (arg8 : Memref sig .tc .vmem S1x8x128x256 .f32) (harg8 : arg8.IsWhole) (arg9 : Memref sig .tc .vmem S1x4096x128 .fp8e4m3) (harg9 : arg9.IsWhole) (arg10 : Memref sig .tc .vmem S1x8x8 .f32) (harg10 : arg10.IsWhole) (arg11 : Memref sig .tc .vmem S1x4096x128 .fp8e4m3) (harg11 : arg11.IsWhole) (arg12 : Memref sig .tc .vmem S1x8x8 .f32) (harg12 : arg12.IsWhole) (arg13 : Memref sig .tc .vmem S576x128 .f32) (harg13 : arg13.IsWhole) (arg14 : Memref sig .tc .vmem S576x128 .f32) (harg14 : arg14.IsWhole) (arg15 : Memref sig .tc .vmem S576x128 .f32) (harg15 : arg15.IsWhole) (arg16 : Memref sig .tc .vmem S576x128 .f32) (harg16 : arg16.IsWhole) (arg17 : Memref sig .tc .vmem S576x128 .f32) (harg17 : arg17.IsWhole) (arg18 : Memref sig .tc .vmem S576x128 .f32) (harg18 : arg18.IsWhole) (arg19 : Memref sig .tc .vmem S576x128 .f32) (harg19 : arg19.IsWhole) (arg20 : Memref sig .tc .vmem S576x128 .f32) (harg20 : arg20.IsWhole)
    (f2 : Bf (F := F) c arg2) (f3 : Bf (F := F) c arg3) (f4 : Bf (F := F) c arg4) (f5 : Bf (F := F) c arg5) (f6 : Bf (F := F) c arg6) (f8 : Bf (F := F) c arg8) (k : Fin k0_t1_loop.trips) :
    { L : List (View.Piece (Elt F) S1x512x8x256 .bf16) × List (View.Piece (Elt F) S1x8x128x256 .f32) × List (View.Piece (Elt F) S1x4096x128 .fp8e4m3) × List (View.Piece (Elt F) S1x8x8 .f32) × List (View.Piece (Elt F) S1x4096x128 .fp8e4m3) × List (View.Piece (Elt F) S1x8x8 .f32) //
      ∀ (f7 : Bf (F := F) c arg7) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (E : Set ℕ) (Q : Unit → sProp 𝕄),
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20
          ∗ (iprop(pt c arg2 f2 ∗ pt c arg3 f3 ∗ pt c arg4 f4 ∗ pt c arg5 f5 ∗ pt c arg6 f6
              ∗ pt c arg7 (arg7.view.writes (Elt F) f7 L.1) ∗ pt c arg8 (arg8.view.writes (Elt F) f8 L.2.1) ∗ pt c arg9 (arg9.view.writes (Elt F) f9 L.2.2.1) ∗ pt c arg10 (arg10.view.writes (Elt F) f10 L.2.2.2.1) ∗ pt c arg11 (arg11.view.writes (Elt F) f11 L.2.2.2.2.1) ∗ pt c arg12 (arg12.view.writes (Elt F) f12 L.2.2.2.2.2)
              ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) -∗ Q ⟨⟩))
        ⊢ wp frame (wpE (defs₀ (F := F)) Variants.none c none) E
            (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k ⟨⟩) Q } := by
  refine ⟨⟨?_, ?_, ?_, ?_, ?_, ?_⟩, fun f7 f9 f10 f11 f12 f13 f14 f15 f16 f17 f18 f19 f20 E Q => ?run⟩
  case run =>
    unfold k0_t1_body
    iintro ⟨H2, H3, H4, H5, H6, H7, H8, H9, H10, H11, H12, H13, H14, H15, H16, H17, H18, H19, H20, Hk⟩
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.Kernel.Hand

end
-- ==== Proof.Kernel.Frame.lean ====
/-
  The frame of the kernel: its loop and its branch run with every result block and scratch buffer at some contents, the
  pipeline launched over it, and the arguments read back unchanged.
-/
module

public import proofs.«01_k».proof.Proof.Kernel.Trip
public import Idealize.ShloMosaic.Lib.Pipeline.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- A whole memref owned at some contents holds its buffer whole, and the other way round. -/
theorem owns_open (c : Dev nD) {sp : Space} {S : Shape} {e : EltTy} (M : Memref sig .tc sp S e) (hM : M.IsWhole) (X : S.Idx → Elt F e) :
    (owns (c : Thread nD τ) M fullShare X : sProp 𝕄) ⊢ iprop(∃ f : Bf (F := F) c M, ⌜M.view.read (Elt F) f = X⌝ ∗ pt c M f) := by
  unfold owns pt; rw [hM.set_eq_univ]
theorem owns_close (c : Dev nD) {sp : Space} {S : Shape} {e : EltTy} (M : Memref sig .tc sp S e) (hM : M.IsWhole) (f : Bf (F := F) c M) :
    (pt c M f : sProp 𝕄) ⊢ owns (c : Thread nD τ) M fullShare (M.view.read (Elt F) f) := by
  unfold owns pt; rw [hM.set_eq_univ]
  iintro H; iexists f; isplitr; · ipureintro; rfl
  iexact H

/-- The loop: from the input blocks at their contents and everything else at some contents, to the same. -/
theorem loop_run (c : Dev nD) (i : grid0.Coords) (arg2 : Memref sig .tc .vmem S1x512x8x128 .bf16) (harg2 : arg2.IsWhole) (arg3 : Memref sig .tc .vmem S1x512x8x128 .bf16) (harg3 : arg3.IsWhole) (arg4 : Memref sig .tc .vmem S1x512x8x128 .bf16) (harg4 : arg4.IsWhole) (arg5 : Memref sig .tc .vmem S1x512x8x128 .bf16) (harg5 : arg5.IsWhole) (arg6 : Memref sig .tc .vmem S1x512x8x128 .f32) (harg6 : arg6.IsWhole) (arg7 : Memref sig .tc .vmem S1x512x8x256 .bf16) (harg7 : arg7.IsWhole) (arg8 : Memref sig .tc .vmem S1x8x128x256 .f32) (harg8 : arg8.IsWhole) (arg9 : Memref sig .tc .vmem S1x4096x128 .fp8e4m3) (harg9 : arg9.IsWhole) (arg10 : Memref sig .tc .vmem S1x8x8 .f32) (harg10 : arg10.IsWhole) (arg11 : Memref sig .tc .vmem S1x4096x128 .fp8e4m3) (harg11 : arg11.IsWhole) (arg12 : Memref sig .tc .vmem S1x8x8 .f32) (harg12 : arg12.IsWhole) (arg13 : Memref sig .tc .vmem S576x128 .f32) (harg13 : arg13.IsWhole) (arg14 : Memref sig .tc .vmem S576x128 .f32) (harg14 : arg14.IsWhole) (arg15 : Memref sig .tc .vmem S576x128 .f32) (harg15 : arg15.IsWhole) (arg16 : Memref sig .tc .vmem S576x128 .f32) (harg16 : arg16.IsWhole) (arg17 : Memref sig .tc .vmem S576x128 .f32) (harg17 : arg17.IsWhole) (arg18 : Memref sig .tc .vmem S576x128 .f32) (harg18 : arg18.IsWhole) (arg19 : Memref sig .tc .vmem S576x128 .f32) (harg19 : arg19.IsWhole) (arg20 : Memref sig .tc .vmem S576x128 .f32) (harg20 : arg20.IsWhole)
    (f2 : Bf (F := F) c arg2) (f3 : Bf (F := F) c arg3) (f4 : Bf (F := F) c arg4) (f5 : Bf (F := F) c arg5) (f6 : Bf (F := F) c arg6) (Q : Unit → sProp 𝕄) :
    iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)
      ∗ (iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) -∗ Q ⟨⟩))
    ⊢ wp frame (wpE (defs₀ (F := F)) Variants.none c none) Set.univ
        (Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)) Q := by
  have hstep : ∀ (k : Fin k0_t1_loop.trips) (acc : Unit),
      (iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) : sProp 𝕄)
      ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k acc) (fun _ => (iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) : sProp 𝕄)) := by
    intro k acc
    iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
    iapply ((trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f8 k).2 f7 f9 f10 f11 f12 f13 f14 f15 f16 f17 f18 f19 f20 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H2, H3, H4, H5, H6, H7, H8, H9, H10, H11, H12, H13, H14, H15, H16, H17, H18, H19, H20⟩
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iintro ⟨H2, H3, H4, H5, H6, H7, H8, H9, H10, H11, H12, H13, H14, H15, H16, H17, H18, H19, H20, Hk⟩
  iapply (Scf.wp_for frame (wpE (defs₀ (F := F)) Variants.none c none) Set.univ k0_t1_loop.lb k0_t1_loop.ub k0_t1_loop.st k0_t1_ok ()
      (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ _ => (iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) : sProp 𝕄)) hstep)
  isplitl [H2 H3 H4 H5 H6 H7 H8 H9 H10 H11 H12 H13 H14 H15 H16 H17 H18 H19 H20]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iintro %u H
  iapply Hk
  iexact H

/-- The kernel's body at a grid point: the branch, then the loop. -/
theorem kernelRun (c : Dev nD) (i : grid0.Coords) (arg2 : Memref sig .tc .vmem S1x512x8x128 .bf16) (harg2 : arg2.IsWhole) (arg3 : Memref sig .tc .vmem S1x512x8x128 .bf16) (harg3 : arg3.IsWhole) (arg4 : Memref sig .tc .vmem S1x512x8x128 .bf16) (harg4 : arg4.IsWhole) (arg5 : Memref sig .tc .vmem S1x512x8x128 .bf16) (harg5 : arg5.IsWhole) (arg6 : Memref sig .tc .vmem S1x512x8x128 .f32) (harg6 : arg6.IsWhole) (arg7 : Memref sig .tc .vmem S1x512x8x256 .bf16) (harg7 : arg7.IsWhole) (arg8 : Memref sig .tc .vmem S1x8x128x256 .f32) (harg8 : arg8.IsWhole) (arg9 : Memref sig .tc .vmem S1x4096x128 .fp8e4m3) (harg9 : arg9.IsWhole) (arg10 : Memref sig .tc .vmem S1x8x8 .f32) (harg10 : arg10.IsWhole) (arg11 : Memref sig .tc .vmem S1x4096x128 .fp8e4m3) (harg11 : arg11.IsWhole) (arg12 : Memref sig .tc .vmem S1x8x8 .f32) (harg12 : arg12.IsWhole) (arg13 : Memref sig .tc .vmem S576x128 .f32) (harg13 : arg13.IsWhole) (arg14 : Memref sig .tc .vmem S576x128 .f32) (harg14 : arg14.IsWhole) (arg15 : Memref sig .tc .vmem S576x128 .f32) (harg15 : arg15.IsWhole) (arg16 : Memref sig .tc .vmem S576x128 .f32) (harg16 : arg16.IsWhole) (arg17 : Memref sig .tc .vmem S576x128 .f32) (harg17 : arg17.IsWhole) (arg18 : Memref sig .tc .vmem S576x128 .f32) (harg18 : arg18.IsWhole) (arg19 : Memref sig .tc .vmem S576x128 .f32) (harg19 : arg19.IsWhole) (arg20 : Memref sig .tc .vmem S576x128 .f32) (harg20 : arg20.IsWhole)
    (f2 : Bf (F := F) c arg2) (f3 : Bf (F := F) c arg3) (f4 : Bf (F := F) c arg4) (f5 : Bf (F := F) c arg5) (f6 : Bf (F := F) c arg6) (Q : Unit → sProp 𝕄) :
    iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)
      ∗ (iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) -∗ Q ⟨⟩))
    ⊢ wp frame (wpE (defs₀ (F := F)) Variants.none c none) Set.univ
        (cc0_chunked_gla i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
  simp only [cc0_chunked_gla_eq_skeleton]; unfold cc0_chunked_gla_skel
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, Hk⟩
  by_cases h1 : Scalar.cmpi .ne (Scalar.extui (Scalar.cmpi .eq (BitVec.ofNat 32 (i 1).val) 0#32) : BitVec 32) 0#32 = 1#1
  all_goals
    simp only [h1, dite_true, dite_false, reduceDIte]
    sl_exec
    rw [wp_bind]
    iapply (loop_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 _)
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iintro H
    sl_step
    iapply Hk
    iexact H

/-! ## The proof data and the body obligation -/

variable (m : (ℓ : Loc nD τ sig) → Buf (Elt F) ℓ) (ρ : Dev nD → PrngReg)

/-- The outputs, of which the frame says nothing. -/
def forgets0 : Fin 11 → Bool := fun w => decide (5 ≤ w.val)

/-- The proof data on core `c`: the arrays as the region finds them; each input's buffer left at its block, each output's
    unnamed; the shares of the windows that read one array add to one; nothing owed. -/
def datF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
  Φ _ := Pipeline.ΦA spec0 c
  q w := Pipeline.shareOf spec0 w
  owed _ := 0

theorem A_eqF (c : Dev nD) (w : Fin cfg0.W) : (datF m 0 c).A w = V m c (Pipeline.arrRef spec0 w) := by dsimp only [datF]
theorem afterF_0 (c : Dev nD) (t : Fin cfg0.N) : (datF m 0 c).after 0 t = iblk m c 0 t := by dsimp only [datF]
theorem afterF_1 (c : Dev nD) (t : Fin cfg0.N) : (datF m 0 c).after 1 t = iblk m c 1 t := by dsimp only [datF]
theorem afterF_2 (c : Dev nD) (t : Fin cfg0.N) : (datF m 0 c).after 2 t = iblk m c 2 t := by dsimp only [datF]
theorem afterF_3 (c : Dev nD) (t : Fin cfg0.N) : (datF m 0 c).after 3 t = iblk m c 3 t := by dsimp only [datF]
theorem afterF_4 (c : Dev nD) (t : Fin cfg0.N) : (datF m 0 c).after 4 t = iblk m c 4 t := by dsimp only [datF]
theorem beforeF_0 (c : Dev nD) (t : Fin cfg0.N) (d) : (datF m 0 c).before 0 t d = iblk m c 0 t :=
  before0_0_of m (datF m 0 c) (A_eqF m c 0) (afterF_0 m c) t d
theorem beforeF_1 (c : Dev nD) (t : Fin cfg0.N) (d) : (datF m 0 c).before 1 t d = iblk m c 1 t :=
  before0_1_of m (datF m 0 c) (A_eqF m c 1) (afterF_1 m c) t d
theorem beforeF_2 (c : Dev nD) (t : Fin cfg0.N) (d) : (datF m 0 c).before 2 t d = iblk m c 2 t :=
  before0_2_of m (datF m 0 c) (A_eqF m c 2) (afterF_2 m c) t d
theorem beforeF_3 (c : Dev nD) (t : Fin cfg0.N) (d) : (datF m 0 c).before 3 t d = iblk m c 3 t :=
  before0_3_of m (datF m 0 c) (A_eqF m c 3) (afterF_3 m c) t d
theorem beforeF_4 (c : Dev nD) (t : Fin cfg0.N) (d) : (datF m 0 c).before 4 t d = iblk m c 4 t :=
  before0_4_of m (datF m 0 c) (A_eqF m c 4) (afterF_4 m c) t d

/-- The class invariant, buffer by buffer. -/
theorem PhiA0_eq (c : Dev nD) :
    (Pipeline.ΦA spec0 c : sProp 𝕄)
      = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f)) ∗ (∃ r, prngReg c r)) := by
  unfold Pipeline.ΦA; rw [scopedRest0_eq]

/-- What the body is called with at point `t`, and what it returns. -/
def bodyPreF (c : Dev nD) (t : Fin cfg0.N) : sProp 𝕄 :=
  iprop((datF m 0 c).Φ t.castSucc ∗ (datF m 0 c).owesAt () t.castSucc ∗ (∃ d, owns (c : Thread nD τ) (win0_0.stage (cfg0.slots t 0)) fullShare ((datF m 0 c).before 0 t d)) ∗ (∃ d, owns (c : Thread nD τ) (win0_1.stage (cfg0.slots t 1)) fullShare ((datF m 0 c).before 1 t d)) ∗ (∃ d, owns (c : Thread nD τ) (win0_2.stage (cfg0.slots t 2)) fullShare ((datF m 0 c).before 2 t d)) ∗ (∃ d, owns (c : Thread nD τ) (win0_3.stage (cfg0.slots t 3)) fullShare ((datF m 0 c).before 3 t d)) ∗ (∃ d, owns (c : Thread nD τ) (win0_4.stage (cfg0.slots t 4)) fullShare ((datF m 0 c).before 4 t d)) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d))
def bodyPostF (c : Dev nD) (t : Fin cfg0.N) : sProp 𝕄 :=
  iprop((datF m 0 c).Φ t.succ ∗ (datF m 0 c).owesAt () t.succ ∗ owns (c : Thread nD τ) (win0_0.stage (cfg0.slots t 0)) fullShare ((datF m 0 c).after 0 t) ∗ owns (c : Thread nD τ) (win0_1.stage (cfg0.slots t 1)) fullShare ((datF m 0 c).after 1 t) ∗ owns (c : Thread nD τ) (win0_2.stage (cfg0.slots t 2)) fullShare ((datF m 0 c).after 2 t) ∗ owns (c : Thread nD τ) (win0_3.stage (cfg0.slots t 3)) fullShare ((datF m 0 c).after 3 t) ∗ owns (c : Thread nD τ) (win0_4.stage (cfg0.slots t 4)) fullShare ((datF m 0 c).after 4 t) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d))

set_option maxHeartbeats 2000000 in
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3, beforeF_4]
  rw [show (datF m 0 c).Φ t.succ = (datF m 0 c).Φ t.castSucc from rfl,
    show (datF m 0 c).owesAt () t.succ = (datF m 0 c).owesAt () t.castSucc from rfl,
    show (datF m 0 c).Φ t.castSucc = Pipeline.ΦA spec0 c from rfl, PhiA0_eq,
    afterF_0, afterF_1, afterF_2, afterF_3, afterF_4]
  iintro ⟨⟨⟨H13, H14, H15, H16, H17, H18, H19, H20⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave H2 := (owns_open c (win0_0.stage (cfg0.slots t 0)) (hstage0_0 ((cfg0.slots t 0).cast nbuf0_0)) _) $$ H2
  icases H2 with ⟨%f2, %e2, H2⟩
  rw [← e2]
  ihave H3 := (owns_open c (win0_1.stage (cfg0.slots t 1)) (hstage0_1 ((cfg0.slots t 1).cast nbuf0_1)) _) $$ H3
  icases H3 with ⟨%f3, %e3, H3⟩
  rw [← e3]
  ihave H4 := (owns_open c (win0_2.stage (cfg0.slots t 2)) (hstage0_2 ((cfg0.slots t 2).cast nbuf0_2)) _) $$ H4
  icases H4 with ⟨%f4, %e4, H4⟩
  rw [← e4]
  ihave H5 := (owns_open c (win0_3.stage (cfg0.slots t 3)) (hstage0_3 ((cfg0.slots t 3).cast nbuf0_3)) _) $$ H5
  icases H5 with ⟨%f5, %e5, H5⟩
  rw [← e5]
  ihave H6 := (owns_open c (win0_4.stage (cfg0.slots t 4)) (hstage0_4 ((cfg0.slots t 4).cast nbuf0_4)) _) $$ H6
  icases H6 with ⟨%f6, %e6, H6⟩
  rw [← e6]
  ihave H7 := (owns_open c (win0_5.stage (cfg0.slots t 5)) (hstage0_5 ((cfg0.slots t 5).cast nbuf0_5)) _) $$ H7
  icases H7 with ⟨%f7, -, H7⟩
  ihave H8 := (owns_open c (win0_6.stage (cfg0.slots t 6)) (hstage0_6 ((cfg0.slots t 6).cast nbuf0_6)) _) $$ H8
  icases H8 with ⟨%f8, -, H8⟩
  ihave H9 := (owns_open c (win0_7.stage (cfg0.slots t 7)) (hstage0_7 ((cfg0.slots t 7).cast nbuf0_7)) _) $$ H9
  icases H9 with ⟨%f9, -, H9⟩
  ihave H10 := (owns_open c (win0_8.stage (cfg0.slots t 8)) (hstage0_8 ((cfg0.slots t 8).cast nbuf0_8)) _) $$ H10
  icases H10 with ⟨%f10, -, H10⟩
  ihave H11 := (owns_open c (win0_9.stage (cfg0.slots t 9)) (hstage0_9 ((cfg0.slots t 9).cast nbuf0_9)) _) $$ H11
  icases H11 with ⟨%f11, -, H11⟩
  ihave H12 := (owns_open c (win0_10.stage (cfg0.slots t 10)) (hstage0_10 ((cfg0.slots t 10).cast nbuf0_10)) _) $$ H12
  icases H12 with ⟨%f12, -, H12⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) f2 f3 f4 f5 f6 _)
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, ⟨%g7, H7⟩, ⟨%g8, H8⟩, ⟨%g9, H9⟩, ⟨%g10, H10⟩, ⟨%g11, H11⟩, ⟨%g12, H12⟩, H13, H14, H15, H16, H17, H18, H19, H20⟩
  isplitl [H13 H14 H15 H16 H17 H18 H19 H20 Hg]
  · isplitr [Hg]
    · isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    · iexact Hg
  isplitl [Ho]; · iexact Ho
  isplitl [H2]; · iapply (owns_close c (win0_0.stage (cfg0.slots t 0)) (hstage0_0 ((cfg0.slots t 0).cast nbuf0_0)) _); iexact H2
  isplitl [H3]; · iapply (owns_close c (win0_1.stage (cfg0.slots t 1)) (hstage0_1 ((cfg0.slots t 1).cast nbuf0_1)) _); iexact H3
  isplitl [H4]; · iapply (owns_close c (win0_2.stage (cfg0.slots t 2)) (hstage0_2 ((cfg0.slots t 2).cast nbuf0_2)) _); iexact H4
  isplitl [H5]; · iapply (owns_close c (win0_3.stage (cfg0.slots t 3)) (hstage0_3 ((cfg0.slots t 3).cast nbuf0_3)) _); iexact H5
  isplitl [H6]; · iapply (owns_close c (win0_4.stage (cfg0.slots t 4)) (hstage0_4 ((cfg0.slots t 4).cast nbuf0_4)) _); iexact H6
  isplitl [H7]; · iexists _; iapply (owns_close c (win0_5.stage (cfg0.slots t 5)) (hstage0_5 ((cfg0.slots t 5).cast nbuf0_5)) _); iexact H7
  isplitl [H8]; · iexists _; iapply (owns_close c (win0_6.stage (cfg0.slots t 6)) (hstage0_6 ((cfg0.slots t 6).cast nbuf0_6)) _); iexact H8
  isplitl [H9]; · iexists _; iapply (owns_close c (win0_7.stage (cfg0.slots t 7)) (hstage0_7 ((cfg0.slots t 7).cast nbuf0_7)) _); iexact H9
  isplitl [H10]; · iexists _; iapply (owns_close c (win0_8.stage (cfg0.slots t 8)) (hstage0_8 ((cfg0.slots t 8).cast nbuf0_8)) _); iexact H10
  isplitl [H11]; · iexists _; iapply (owns_close c (win0_9.stage (cfg0.slots t 9)) (hstage0_9 ((cfg0.slots t 9).cast nbuf0_9)) _); iexact H11
  iexists _; iapply (owns_close c (win0_10.stage (cfg0.slots t 10)) (hstage0_10 ((cfg0.slots t 10).cast nbuf0_10)) _); iexact H12

theorem defs₀_row (t : Fin cfg0.N) : defs₀ (F := F) .tc cfg0.body (cfg0.bodyArgs t (cfg0.slots t)) = bodyAt0 t := by
  unfold defs₀; rw [Defs.onTc_tc]

theorem body_obligationF (c : Dev nD) :
    BodyObligation (datF (F := F) m 0 c) (defs₀ (F := F)) Variants.none () Set.univ forgets0 := fun t => by
  rw [bigSep_W0, bigSep_W0, defs₀_row]
  exact triple_restated (sound_bodyF m c t) rfl .rfl fun _ => .rfl

/-! ## The launch -/

-- unification of the launch theorem's conclusion with this statement unfolds plain definitions in a metavariable's type
set_option backward.isDefEq.respectTransparency.types false in
/-- Every weakly fair execution of @main terminates with the inputs' arrays unchanged and every semaphore counter at zero. -/
theorem run_mainF :
    θ_run defs (onTc (τ := τ) (main (F := F))) (s₀ m ρ)
      (fun r => Pipeline.RDat.FramePost (cfgs 0) (fun c => (datF m 0 c).toRForget forgets0) (V m) r ∧ r.2.sem = fun _ => 0) :=
  Pipeline.θ_run_frame_forget_shared cfgs (datF m) (0 : Fin 1) launch₀0 defs₀ Variants.none forgets0 m ρ main
    (hbody := fun c => (body_obligationF m c).loose) (hq := fun _ _ _ => rfl)
    (howed := fun _ _ => rfl) (V := V m) (hmain := hmain m Variants.none) (hA := A_eqF m) (hΦ := fun _ _ => rfl)
    (Q' := _) (hQ' := fun _ h => h)

variable {m ρ}

theorem final_in {r : PUnit × MemSt nD τ sig (Elt F)}
    (h : Pipeline.RDat.FramePost (cfgs 0) (fun c => (datF (F := F) m 0 c).toRForget forgets0) (V m) r) (c : Dev nD)
    (w : Fin cfg0.W) (hw : forgets0 w = false) (ho : (spec0 w).isOut = false) :
    r.2.mem ((cfg0.win w).arr.view.loc (c : Thread nD τ)) = V m c (Pipeline.arrRef spec0 w) :=
  (((datF m 0 c).toRForget_arrAt_iff hw _ _).mp ((h c).1 w)).trans (((datF m 0 c).arrAt_in w ho _).trans (A_eqF m c w))

/-- The frame. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨final_in h.1 c 0 rfl rfl, final_in h.1 c 1 rfl rfl, final_in h.1 c 3 rfl rfl, final_in h.1 c 4 rfl rfl⟩, h.2⟩) (run_mainF m ρ)

end Cert.Kernel.Hand

end
-- ==== Proof.KernelIdeal.Trip.lean ====
/-
  One trip of the kernel's loop over the chunks of a block, run once at a symbolic trip: what it reads, and the list of
  what it writes into each of the six result blocks. The scratch buffers end at something.
-/
module

public import proofs.«01_k».proof.Proof.Gen.KernelIdeal.Frame
public import proofs.«01_k».proof.Proof.Gen.KernelIdeal.Loops
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option sl_exec.stridedRows true in
/-- One trip: the pieces written into the six results. -/
@[irreducible] noncomputable def trip (c : Dev nD) (i : grid0.Coords) (arg2 : Memref sig .tc .vmem S1x512x8x128 .bf16) (harg2 : arg2.IsWhole) (arg3 : Memref sig .tc .vmem S1x512x8x128 .bf16) (harg3 : arg3.IsWhole) (arg4 : Memref sig .tc .vmem S1x512x8x128 .bf16) (harg4 : arg4.IsWhole) (arg5 : Memref sig .tc .vmem S1x512x8x128 .bf16) (harg5 : arg5.IsWhole) (arg6 : Memref sig .tc .vmem S1x512x8x128 .f32) (harg6 : arg6.IsWhole) (arg7 : Memref sig .tc .vmem S1x512x8x256 .bf16) (harg7 : arg7.IsWhole) (arg8 : Memref sig .tc .vmem S1x8x128x256 .f32) (harg8 : arg8.IsWhole) (arg9 : Memref sig .tc .vmem S1x4096x128 .fp8e4m3) (harg9 : arg9.IsWhole) (arg10 : Memref sig .tc .vmem S1x8x8 .f32) (harg10 : arg10.IsWhole) (arg11 : Memref sig .tc .vmem S1x4096x128 .fp8e4m3) (harg11 : arg11.IsWhole) (arg12 : Memref sig .tc .vmem S1x8x8 .f32) (harg12 : arg12.IsWhole) (arg13 : Memref sig .tc .vmem S576x128 .f32) (harg13 : arg13.IsWhole) (arg14 : Memref sig .tc .vmem S576x128 .f32) (harg14 : arg14.IsWhole) (arg15 : Memref sig .tc .vmem S576x128 .f32) (harg15 : arg15.IsWhole) (arg16 : Memref sig .tc .vmem S576x128 .f32) (harg16 : arg16.IsWhole) (arg17 : Memref sig .tc .vmem S576x128 .f32) (harg17 : arg17.IsWhole) (arg18 : Memref sig .tc .vmem S576x128 .f32) (harg18 : arg18.IsWhole) (arg19 : Memref sig .tc .vmem S576x128 .f32) (harg19 : arg19.IsWhole) (arg20 : Memref sig .tc .vmem S576x128 .f32) (harg20 : arg20.IsWhole)
    (f2 : Bf (F := F) c arg2) (f3 : Bf (F := F) c arg3) (f4 : Bf (F := F) c arg4) (f5 : Bf (F := F) c arg5) (f6 : Bf (F := F) c arg6) (f8 : Bf (F := F) c arg8) (k : Fin k0_t1_loop.trips) :
    { L : List (View.Piece (Elt F) S1x512x8x256 .bf16) × List (View.Piece (Elt F) S1x8x128x256 .f32) × List (View.Piece (Elt F) S1x4096x128 .fp8e4m3) × List (View.Piece (Elt F) S1x8x8 .f32) × List (View.Piece (Elt F) S1x4096x128 .fp8e4m3) × List (View.Piece (Elt F) S1x8x8 .f32) //
      ∀ (f7 : Bf (F := F) c arg7) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (E : Set ℕ) (Q : Unit → sProp 𝕄),
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20
          ∗ (iprop(pt c arg2 f2 ∗ pt c arg3 f3 ∗ pt c arg4 f4 ∗ pt c arg5 f5 ∗ pt c arg6 f6
              ∗ pt c arg7 (arg7.view.writes (Elt F) f7 L.1) ∗ pt c arg8 (arg8.view.writes (Elt F) f8 L.2.1) ∗ pt c arg9 (arg9.view.writes (Elt F) f9 L.2.2.1) ∗ pt c arg10 (arg10.view.writes (Elt F) f10 L.2.2.2.1) ∗ pt c arg11 (arg11.view.writes (Elt F) f11 L.2.2.2.2.1) ∗ pt c arg12 (arg12.view.writes (Elt F) f12 L.2.2.2.2.2)
              ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) -∗ Q ⟨⟩))
        ⊢ wp frame (wpE (defs₀ (F := F)) Variants.none c none) E
            (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k ⟨⟩) Q } := by
  refine ⟨⟨?_, ?_, ?_, ?_, ?_, ?_⟩, fun f7 f9 f10 f11 f12 f13 f14 f15 f16 f17 f18 f19 f20 E Q => ?run⟩
  case run =>
    unfold k0_t1_body
    iintro ⟨H2, H3, H4, H5, H6, H7, H8, H9, H10, H11, H12, H13, H14, H15, H16, H17, H18, H19, H20, Hk⟩
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.KernelIdeal.Hand

end
-- ==== Proof.KernelIdeal.Frame.lean ====
/-
  The frame of the kernel: its loop and its branch run with every result block and scratch buffer at some contents, the
  pipeline launched over it, and the arguments read back unchanged.
-/
module

public import proofs.«01_k».proof.Proof.KernelIdeal.Trip
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- A whole memref owned at some contents holds its buffer whole, and the other way round. -/
theorem owns_open (c : Dev nD) {sp : Space} {S : Shape} {e : EltTy} (M : Memref sig .tc sp S e) (hM : M.IsWhole) (X : S.Idx → Elt F e) :
    (owns (c : Thread nD τ) M fullShare X : sProp 𝕄) ⊢ iprop(∃ f : Bf (F := F) c M, ⌜M.view.read (Elt F) f = X⌝ ∗ pt c M f) := by
  unfold owns pt; rw [hM.set_eq_univ]
theorem owns_close (c : Dev nD) {sp : Space} {S : Shape} {e : EltTy} (M : Memref sig .tc sp S e) (hM : M.IsWhole) (f : Bf (F := F) c M) :
    (pt c M f : sProp 𝕄) ⊢ owns (c : Thread nD τ) M fullShare (M.view.read (Elt F) f) := by
  unfold owns pt; rw [hM.set_eq_univ]
  iintro H; iexists f; isplitr; · ipureintro; rfl
  iexact H

/-- The loop: from the input blocks at their contents and everything else at some contents, to the same. -/
theorem loop_run (c : Dev nD) (i : grid0.Coords) (arg2 : Memref sig .tc .vmem S1x512x8x128 .bf16) (harg2 : arg2.IsWhole) (arg3 : Memref sig .tc .vmem S1x512x8x128 .bf16) (harg3 : arg3.IsWhole) (arg4 : Memref sig .tc .vmem S1x512x8x128 .bf16) (harg4 : arg4.IsWhole) (arg5 : Memref sig .tc .vmem S1x512x8x128 .bf16) (harg5 : arg5.IsWhole) (arg6 : Memref sig .tc .vmem S1x512x8x128 .f32) (harg6 : arg6.IsWhole) (arg7 : Memref sig .tc .vmem S1x512x8x256 .bf16) (harg7 : arg7.IsWhole) (arg8 : Memref sig .tc .vmem S1x8x128x256 .f32) (harg8 : arg8.IsWhole) (arg9 : Memref sig .tc .vmem S1x4096x128 .fp8e4m3) (harg9 : arg9.IsWhole) (arg10 : Memref sig .tc .vmem S1x8x8 .f32) (harg10 : arg10.IsWhole) (arg11 : Memref sig .tc .vmem S1x4096x128 .fp8e4m3) (harg11 : arg11.IsWhole) (arg12 : Memref sig .tc .vmem S1x8x8 .f32) (harg12 : arg12.IsWhole) (arg13 : Memref sig .tc .vmem S576x128 .f32) (harg13 : arg13.IsWhole) (arg14 : Memref sig .tc .vmem S576x128 .f32) (harg14 : arg14.IsWhole) (arg15 : Memref sig .tc .vmem S576x128 .f32) (harg15 : arg15.IsWhole) (arg16 : Memref sig .tc .vmem S576x128 .f32) (harg16 : arg16.IsWhole) (arg17 : Memref sig .tc .vmem S576x128 .f32) (harg17 : arg17.IsWhole) (arg18 : Memref sig .tc .vmem S576x128 .f32) (harg18 : arg18.IsWhole) (arg19 : Memref sig .tc .vmem S576x128 .f32) (harg19 : arg19.IsWhole) (arg20 : Memref sig .tc .vmem S576x128 .f32) (harg20 : arg20.IsWhole)
    (f2 : Bf (F := F) c arg2) (f3 : Bf (F := F) c arg3) (f4 : Bf (F := F) c arg4) (f5 : Bf (F := F) c arg5) (f6 : Bf (F := F) c arg6) (Q : Unit → sProp 𝕄) :
    iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)
      ∗ (iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) -∗ Q ⟨⟩))
    ⊢ wp frame (wpE (defs₀ (F := F)) Variants.none c none) Set.univ
        (Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)) Q := by
  have hstep : ∀ (k : Fin k0_t1_loop.trips) (acc : Unit),
      (iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) : sProp 𝕄)
      ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k acc) (fun _ => (iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) : sProp 𝕄)) := by
    intro k acc
    iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
    iapply ((trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f8 k).2 f7 f9 f10 f11 f12 f13 f14 f15 f16 f17 f18 f19 f20 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H2, H3, H4, H5, H6, H7, H8, H9, H10, H11, H12, H13, H14, H15, H16, H17, H18, H19, H20⟩
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iintro ⟨H2, H3, H4, H5, H6, H7, H8, H9, H10, H11, H12, H13, H14, H15, H16, H17, H18, H19, H20, Hk⟩
  iapply (Scf.wp_for frame (wpE (defs₀ (F := F)) Variants.none c none) Set.univ k0_t1_loop.lb k0_t1_loop.ub k0_t1_loop.st k0_t1_ok ()
      (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ _ => (iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) : sProp 𝕄)) hstep)
  isplitl [H2 H3 H4 H5 H6 H7 H8 H9 H10 H11 H12 H13 H14 H15 H16 H17 H18 H19 H20]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iintro %u H
  iapply Hk
  iexact H

/-- The kernel's body at a grid point: the branch, then the loop. -/
theorem kernelRun (c : Dev nD) (i : grid0.Coords) (arg2 : Memref sig .tc .vmem S1x512x8x128 .bf16) (harg2 : arg2.IsWhole) (arg3 : Memref sig .tc .vmem S1x512x8x128 .bf16) (harg3 : arg3.IsWhole) (arg4 : Memref sig .tc .vmem S1x512x8x128 .bf16) (harg4 : arg4.IsWhole) (arg5 : Memref sig .tc .vmem S1x512x8x128 .bf16) (harg5 : arg5.IsWhole) (arg6 : Memref sig .tc .vmem S1x512x8x128 .f32) (harg6 : arg6.IsWhole) (arg7 : Memref sig .tc .vmem S1x512x8x256 .bf16) (harg7 : arg7.IsWhole) (arg8 : Memref sig .tc .vmem S1x8x128x256 .f32) (harg8 : arg8.IsWhole) (arg9 : Memref sig .tc .vmem S1x4096x128 .fp8e4m3) (harg9 : arg9.IsWhole) (arg10 : Memref sig .tc .vmem S1x8x8 .f32) (harg10 : arg10.IsWhole) (arg11 : Memref sig .tc .vmem S1x4096x128 .fp8e4m3) (harg11 : arg11.IsWhole) (arg12 : Memref sig .tc .vmem S1x8x8 .f32) (harg12 : arg12.IsWhole) (arg13 : Memref sig .tc .vmem S576x128 .f32) (harg13 : arg13.IsWhole) (arg14 : Memref sig .tc .vmem S576x128 .f32) (harg14 : arg14.IsWhole) (arg15 : Memref sig .tc .vmem S576x128 .f32) (harg15 : arg15.IsWhole) (arg16 : Memref sig .tc .vmem S576x128 .f32) (harg16 : arg16.IsWhole) (arg17 : Memref sig .tc .vmem S576x128 .f32) (harg17 : arg17.IsWhole) (arg18 : Memref sig .tc .vmem S576x128 .f32) (harg18 : arg18.IsWhole) (arg19 : Memref sig .tc .vmem S576x128 .f32) (harg19 : arg19.IsWhole) (arg20 : Memref sig .tc .vmem S576x128 .f32) (harg20 : arg20.IsWhole)
    (f2 : Bf (F := F) c arg2) (f3 : Bf (F := F) c arg3) (f4 : Bf (F := F) c arg4) (f5 : Bf (F := F) c arg5) (f6 : Bf (F := F) c arg6) (Q : Unit → sProp 𝕄) :
    iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)
      ∗ (iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) -∗ Q ⟨⟩))
    ⊢ wp frame (wpE (defs₀ (F := F)) Variants.none c none) Set.univ
        (cc0_chunked_gla i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
  simp only [cc0_chunked_gla_eq_skeleton]; unfold cc0_chunked_gla_skel
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, Hk⟩
  by_cases h1 : Scalar.cmpi .ne (Scalar.extui (Scalar.cmpi .eq (BitVec.ofNat 32 (i 1).val) 0#32) : BitVec 32) 0#32 = 1#1
  all_goals
    simp only [h1, dite_true, dite_false, reduceDIte]
    sl_exec
    rw [wp_bind]
    iapply (loop_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 _)
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iintro H
    sl_step
    iapply Hk
    iexact H

/-! ## The proof data and the body obligation -/

variable (m : (ℓ : Loc nD τ sig) → Buf (Elt F) ℓ) (ρ : Dev nD → PrngReg)

/-- The outputs, of which the frame says nothing. -/
def forgets0 : Fin 11 → Bool := fun w => decide (5 ≤ w.val)

/-- The proof data on core `c`: the arrays as the region finds them; each input's buffer left at its block, each output's
    unnamed; the shares of the windows that read one array add to one; nothing owed. -/
def datF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
  Φ _ := Pipeline.ΦA spec0 c
  q w := Pipeline.shareOf spec0 w
  owed _ := 0

theorem A_eqF (c : Dev nD) (w : Fin cfg0.W) : (datF m 0 c).A w = V m c (Pipeline.arrRef spec0 w) := by dsimp only [datF]
theorem afterF_0 (c : Dev nD) (t : Fin cfg0.N) : (datF m 0 c).after 0 t = iblk m c 0 t := by dsimp only [datF]
theorem afterF_1 (c : Dev nD) (t : Fin cfg0.N) : (datF m 0 c).after 1 t = iblk m c 1 t := by dsimp only [datF]
theorem afterF_2 (c : Dev nD) (t : Fin cfg0.N) : (datF m 0 c).after 2 t = iblk m c 2 t := by dsimp only [datF]
theorem afterF_3 (c : Dev nD) (t : Fin cfg0.N) : (datF m 0 c).after 3 t = iblk m c 3 t := by dsimp only [datF]
theorem afterF_4 (c : Dev nD) (t : Fin cfg0.N) : (datF m 0 c).after 4 t = iblk m c 4 t := by dsimp only [datF]
theorem beforeF_0 (c : Dev nD) (t : Fin cfg0.N) (d) : (datF m 0 c).before 0 t d = iblk m c 0 t :=
  before0_0_of m (datF m 0 c) (A_eqF m c 0) (afterF_0 m c) t d
theorem beforeF_1 (c : Dev nD) (t : Fin cfg0.N) (d) : (datF m 0 c).before 1 t d = iblk m c 1 t :=
  before0_1_of m (datF m 0 c) (A_eqF m c 1) (afterF_1 m c) t d
theorem beforeF_2 (c : Dev nD) (t : Fin cfg0.N) (d) : (datF m 0 c).before 2 t d = iblk m c 2 t :=
  before0_2_of m (datF m 0 c) (A_eqF m c 2) (afterF_2 m c) t d
theorem beforeF_3 (c : Dev nD) (t : Fin cfg0.N) (d) : (datF m 0 c).before 3 t d = iblk m c 3 t :=
  before0_3_of m (datF m 0 c) (A_eqF m c 3) (afterF_3 m c) t d
theorem beforeF_4 (c : Dev nD) (t : Fin cfg0.N) (d) : (datF m 0 c).before 4 t d = iblk m c 4 t :=
  before0_4_of m (datF m 0 c) (A_eqF m c 4) (afterF_4 m c) t d

/-- The class invariant, buffer by buffer. -/
theorem PhiA0_eq (c : Dev nD) :
    (Pipeline.ΦA spec0 c : sProp 𝕄)
      = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f)) ∗ (∃ r, prngReg c r)) := by
  unfold Pipeline.ΦA; rw [scopedRest0_eq]

/-- What the body is called with at point `t`, and what it returns. -/
def bodyPreF (c : Dev nD) (t : Fin cfg0.N) : sProp 𝕄 :=
  iprop((datF m 0 c).Φ t.castSucc ∗ (datF m 0 c).owesAt () t.castSucc ∗ (∃ d, owns (c : Thread nD τ) (win0_0.stage (cfg0.slots t 0)) fullShare ((datF m 0 c).before 0 t d)) ∗ (∃ d, owns (c : Thread nD τ) (win0_1.stage (cfg0.slots t 1)) fullShare ((datF m 0 c).before 1 t d)) ∗ (∃ d, owns (c : Thread nD τ) (win0_2.stage (cfg0.slots t 2)) fullShare ((datF m 0 c).before 2 t d)) ∗ (∃ d, owns (c : Thread nD τ) (win0_3.stage (cfg0.slots t 3)) fullShare ((datF m 0 c).before 3 t d)) ∗ (∃ d, owns (c : Thread nD τ) (win0_4.stage (cfg0.slots t 4)) fullShare ((datF m 0 c).before 4 t d)) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d))
def bodyPostF (c : Dev nD) (t : Fin cfg0.N) : sProp 𝕄 :=
  iprop((datF m 0 c).Φ t.succ ∗ (datF m 0 c).owesAt () t.succ ∗ owns (c : Thread nD τ) (win0_0.stage (cfg0.slots t 0)) fullShare ((datF m 0 c).after 0 t) ∗ owns (c : Thread nD τ) (win0_1.stage (cfg0.slots t 1)) fullShare ((datF m 0 c).after 1 t) ∗ owns (c : Thread nD τ) (win0_2.stage (cfg0.slots t 2)) fullShare ((datF m 0 c).after 2 t) ∗ owns (c : Thread nD τ) (win0_3.stage (cfg0.slots t 3)) fullShare ((datF m 0 c).after 3 t) ∗ owns (c : Thread nD τ) (win0_4.stage (cfg0.slots t 4)) fullShare ((datF m 0 c).after 4 t) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d))

set_option maxHeartbeats 2000000 in
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3, beforeF_4]
  rw [show (datF m 0 c).Φ t.succ = (datF m 0 c).Φ t.castSucc from rfl,
    show (datF m 0 c).owesAt () t.succ = (datF m 0 c).owesAt () t.castSucc from rfl,
    show (datF m 0 c).Φ t.castSucc = Pipeline.ΦA spec0 c from rfl, PhiA0_eq,
    afterF_0, afterF_1, afterF_2, afterF_3, afterF_4]
  iintro ⟨⟨⟨H13, H14, H15, H16, H17, H18, H19, H20⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave H2 := (owns_open c (win0_0.stage (cfg0.slots t 0)) (hstage0_0 ((cfg0.slots t 0).cast nbuf0_0)) _) $$ H2
  icases H2 with ⟨%f2, %e2, H2⟩
  rw [← e2]
  ihave H3 := (owns_open c (win0_1.stage (cfg0.slots t 1)) (hstage0_1 ((cfg0.slots t 1).cast nbuf0_1)) _) $$ H3
  icases H3 with ⟨%f3, %e3, H3⟩
  rw [← e3]
  ihave H4 := (owns_open c (win0_2.stage (cfg0.slots t 2)) (hstage0_2 ((cfg0.slots t 2).cast nbuf0_2)) _) $$ H4
  icases H4 with ⟨%f4, %e4, H4⟩
  rw [← e4]
  ihave H5 := (owns_open c (win0_3.stage (cfg0.slots t 3)) (hstage0_3 ((cfg0.slots t 3).cast nbuf0_3)) _) $$ H5
  icases H5 with ⟨%f5, %e5, H5⟩
  rw [← e5]
  ihave H6 := (owns_open c (win0_4.stage (cfg0.slots t 4)) (hstage0_4 ((cfg0.slots t 4).cast nbuf0_4)) _) $$ H6
  icases H6 with ⟨%f6, %e6, H6⟩
  rw [← e6]
  ihave H7 := (owns_open c (win0_5.stage (cfg0.slots t 5)) (hstage0_5 ((cfg0.slots t 5).cast nbuf0_5)) _) $$ H7
  icases H7 with ⟨%f7, -, H7⟩
  ihave H8 := (owns_open c (win0_6.stage (cfg0.slots t 6)) (hstage0_6 ((cfg0.slots t 6).cast nbuf0_6)) _) $$ H8
  icases H8 with ⟨%f8, -, H8⟩
  ihave H9 := (owns_open c (win0_7.stage (cfg0.slots t 7)) (hstage0_7 ((cfg0.slots t 7).cast nbuf0_7)) _) $$ H9
  icases H9 with ⟨%f9, -, H9⟩
  ihave H10 := (owns_open c (win0_8.stage (cfg0.slots t 8)) (hstage0_8 ((cfg0.slots t 8).cast nbuf0_8)) _) $$ H10
  icases H10 with ⟨%f10, -, H10⟩
  ihave H11 := (owns_open c (win0_9.stage (cfg0.slots t 9)) (hstage0_9 ((cfg0.slots t 9).cast nbuf0_9)) _) $$ H11
  icases H11 with ⟨%f11, -, H11⟩
  ihave H12 := (owns_open c (win0_10.stage (cfg0.slots t 10)) (hstage0_10 ((cfg0.slots t 10).cast nbuf0_10)) _) $$ H12
  icases H12 with ⟨%f12, -, H12⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) f2 f3 f4 f5 f6 _)
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, ⟨%g7, H7⟩, ⟨%g8, H8⟩, ⟨%g9, H9⟩, ⟨%g10, H10⟩, ⟨%g11, H11⟩, ⟨%g12, H12⟩, H13, H14, H15, H16, H17, H18, H19, H20⟩
  isplitl [H13 H14 H15 H16 H17 H18 H19 H20 Hg]
  · isplitr [Hg]
    · isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    · iexact Hg
  isplitl [Ho]; · iexact Ho
  isplitl [H2]; · iapply (owns_close c (win0_0.stage (cfg0.slots t 0)) (hstage0_0 ((cfg0.slots t 0).cast nbuf0_0)) _); iexact H2
  isplitl [H3]; · iapply (owns_close c (win0_1.stage (cfg0.slots t 1)) (hstage0_1 ((cfg0.slots t 1).cast nbuf0_1)) _); iexact H3
  isplitl [H4]; · iapply (owns_close c (win0_2.stage (cfg0.slots t 2)) (hstage0_2 ((cfg0.slots t 2).cast nbuf0_2)) _); iexact H4
  isplitl [H5]; · iapply (owns_close c (win0_3.stage (cfg0.slots t 3)) (hstage0_3 ((cfg0.slots t 3).cast nbuf0_3)) _); iexact H5
  isplitl [H6]; · iapply (owns_close c (win0_4.stage (cfg0.slots t 4)) (hstage0_4 ((cfg0.slots t 4).cast nbuf0_4)) _); iexact H6
  isplitl [H7]; · iexists _; iapply (owns_close c (win0_5.stage (cfg0.slots t 5)) (hstage0_5 ((cfg0.slots t 5).cast nbuf0_5)) _); iexact H7
  isplitl [H8]; · iexists _; iapply (owns_close c (win0_6.stage (cfg0.slots t 6)) (hstage0_6 ((cfg0.slots t 6).cast nbuf0_6)) _); iexact H8
  isplitl [H9]; · iexists _; iapply (owns_close c (win0_7.stage (cfg0.slots t 7)) (hstage0_7 ((cfg0.slots t 7).cast nbuf0_7)) _); iexact H9
  isplitl [H10]; · iexists _; iapply (owns_close c (win0_8.stage (cfg0.slots t 8)) (hstage0_8 ((cfg0.slots t 8).cast nbuf0_8)) _); iexact H10
  isplitl [H11]; · iexists _; iapply (owns_close c (win0_9.stage (cfg0.slots t 9)) (hstage0_9 ((cfg0.slots t 9).cast nbuf0_9)) _); iexact H11
  iexists _; iapply (owns_close c (win0_10.stage (cfg0.slots t 10)) (hstage0_10 ((cfg0.slots t 10).cast nbuf0_10)) _); iexact H12

theorem defs₀_row (t : Fin cfg0.N) : defs₀ (F := F) .tc cfg0.body (cfg0.bodyArgs t (cfg0.slots t)) = bodyAt0 t := by
  unfold defs₀; rw [Defs.onTc_tc]

theorem body_obligationF (c : Dev nD) :
    BodyObligation (datF (F := F) m 0 c) (defs₀ (F := F)) Variants.none () Set.univ forgets0 := fun t => by
  rw [bigSep_W0, bigSep_W0, defs₀_row]
  exact triple_restated (sound_bodyF m c t) rfl .rfl fun _ => .rfl

/-! ## The launch -/

-- unification of the launch theorem's conclusion with this statement unfolds plain definitions in a metavariable's type
set_option backward.isDefEq.respectTransparency.types false in
/-- Every weakly fair execution of @main terminates with the inputs' arrays unchanged and every semaphore counter at zero. -/
theorem run_mainF :
    θ_run defs (onTc (τ := τ) (main (F := F))) (s₀ m ρ)
      (fun r => Pipeline.RDat.FramePost (cfgs 0) (fun c => (datF m 0 c).toRForget forgets0) (V m) r ∧ r.2.sem = fun _ => 0) :=
  Pipeline.θ_run_frame_forget_shared cfgs (datF m) (0 : Fin 1) launch₀0 defs₀ Variants.none forgets0 m ρ main
    (hbody := fun c => (body_obligationF m c).loose) (hq := fun _ _ _ => rfl)
    (howed := fun _ _ => rfl) (V := V m) (hmain := hmain m Variants.none) (hA := A_eqF m) (hΦ := fun _ _ => rfl)
    (Q' := _) (hQ' := fun _ h => h)

variable {m ρ}

theorem final_in {r : PUnit × MemSt nD τ sig (Elt F)}
    (h : Pipeline.RDat.FramePost (cfgs 0) (fun c => (datF (F := F) m 0 c).toRForget forgets0) (V m) r) (c : Dev nD)
    (w : Fin cfg0.W) (hw : forgets0 w = false) (ho : (spec0 w).isOut = false) :
    r.2.mem ((cfg0.win w).arr.view.loc (c : Thread nD τ)) = V m c (Pipeline.arrRef spec0 w) :=
  (((datF m 0 c).toRForget_arrAt_iff hw _ _).mp ((h c).1 w)).trans (((datF m 0 c).arrAt_in w ho _).trans (A_eqF m c w))

/-- The frame. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨final_in h.1 c 0 rfl rfl, final_in h.1 c 1 rfl rfl, final_in h.1 c 3 rfl rfl, final_in h.1 c 4 rfl rfl⟩, h.2⟩) (run_mainF m ρ)

end Cert.KernelIdeal.Hand

end
-- ==== Proof.KernelIdeal.Spec.lean ====
/-
  What one trip of the kernel's loop writes, as functions of the rows it loads: the running sums of the gates about the
  middle of the chunk, the scaled rows, the scales, the codes, and each head's output and state.
-/
module

public import proofs.«01_k».proof.Proof.KernelIdeal.Trip

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The pieces `P 0`, …, `P (n - 1)`, the latest first. -/
def stack {α : Type} (P : ℕ → α) (n : ℕ) : List α := Nat.rec [] (fun n l => P n :: l) n

/-- The loaded rows of a chunk, one per token. -/
abbrev Toks (F : FTy → Type) (e : FTy) : Type := ℕ → FVec F S1x1x8x128 e

def tok {e : FTy} (x : FVec F S1x1x8x128 e) : FVec F S8x128 e := shapeCast S8x128 x shapeCasts_S1x1x8x128_S8x128

abbrev zeros8 : FVec F S8x128 .f32 := broadcast S8x128 (Scalar.ofBits .f32 0x00000000#32)

/-- The gates of the tokens after the middle one, summed. -/
def dUp (G : Toks F .f32) (n : ℕ) : FVec F S8x128 .f32 := Nat.rec zeros8 (fun n a => addf a (tok (G (32 + n)))) n
/-- The gates up to the middle token, taken away. -/
def dDn (G : Toks F .f32) (n : ℕ) : FVec F S8x128 .f32 := Nat.rec zeros8 (fun n a => subf a (tok (G (31 - n)))) n
/-- Token `t`'s cumulative gate less the middle token's. -/
def dTok (G : Toks F .f32) (t : ℕ) : FVec F S8x128 .f32 := bif t.ble 30 then dDn G (31 - t) else dUp G (t - 31)

def qRow (G : Toks F .f32) (Q : Toks F .bf16) (t : ℕ) : FVec F S8x128 .f32 :=
  mulf (extf .f32 (tok (Q t)) bitsLt_bf16_f32) (exp (dTok G t))
def kRow (G : Toks F .f32) (K : Toks F .bf16) (t : ℕ) : FVec F S8x128 .f32 :=
  mulf (extf .f32 (tok (K t)) bitsLt_bf16_f32) (divf (broadcast S8x128 (Scalar.ofBits .f32 0x3F800000#32)) (exp (dTok G t)))
def vRow (V : Toks F .bf16) (t : ℕ) : FVec F S8x128 .f32 := extf .f32 (tok (V t)) bitsLt_bf16_f32

/-- The largest magnitude of each lane over the first `n` rows. -/
def amaxOf (U : ℕ → FVec F S8x128 .f32) (n : ℕ) : FVec F S8x128 .f32 := Nat.rec zeros8 (fun n a => maximumf a (absf (U n))) n

def bMid (G : Toks F .f32) (g0 : FVec F S1x1x8x128 .f32) : FVec F S8x128 .f32 := subf (tok g0) (dTok G 0)
def qFac (G : Toks F .f32) (g0 : FVec F S1x1x8x128 .f32) : FVec F S8x128 .f32 :=
  mulf (broadcast S8x128 (Scalar.ofBits .f32 0x3DB504F3#32)) (exp (bMid G g0))
def kFac (G : Toks F .f32) : FVec F S8x128 .f32 := exp (dTok G 63)

/-- The largest magnitude of a head's scaled rows, over 448. -/
def headMax (U : ℕ → FVec F S8x128 .f32) (f : FVec F S8x128 .f32) : FVec F S8x1 .f32 :=
  mulf (shapeCast S8x1 (multiReduction .maximumf [1] S8 (mulf (amaxOf U 64) f) 0xFF800000#32 reduces_S8x128_S8 (.inl rfl) rfl) shapeCasts_S8_S8x1)
    (broadcast S8x1 (Scalar.ofBits .f32 0x3B124925#32))

/-- One rung: the scale multiplied by a power of two where `x` has not been passed, and its inverse divided by it. -/
def rung (x : FVec F S8x1 .f32) (m r : BitVec 32) (p : FVec F S8x1 .f32 × FVec F S8x1 .f32) : FVec F S8x1 .f32 × FVec F S8x1 .f32 :=
  ⟨select (cmpf .oge x (mulf p.1 (broadcast S8x1 (Scalar.ofBits .f32 m))))
      (mulf (mulf p.1 (broadcast S8x1 (Scalar.ofBits .f32 m))) (broadcast S8x1 (Scalar.ofBits .f32 0x40000000#32))) p.1,
    select (cmpf .oge x (mulf p.1 (broadcast S8x1 (Scalar.ofBits .f32 m)))) (mulf p.2 (broadcast S8x1 (Scalar.ofBits .f32 r))) p.2⟩

def ladder (x : FVec F S8x1 .f32) : FVec F S8x1 .f32 × FVec F S8x1 .f32 :=
  rung x 0x3F800000#32 0x3F000000#32 <| rung x 0x40000000#32 0x3E800000#32 <| rung x 0x41000000#32 0x3D800000#32 <|
  rung x 0x43000000#32 0x3B800000#32 <| rung x 0x47000000#32 0x37800000#32 <| rung x 0x4F000000#32 0x2F800000#32 <|
  rung x 0x5F000000#32 0x1F800000#32 <| rung x 0x5F000000#32 0x1F800000#32 <| rung x 0x5F000000#32 0x1F800000#32
    ⟨broadcast S8x1 (Scalar.ofBits .f32 0x00800000#32), broadcast S8x1 (Scalar.ofBits .f32 0x7E800000#32)⟩

def isOne (x : FVec F S8x1 .f32) : IVec S8x1 1 :=
  ori (cmpf .oeq x (broadcast S8x1 (Scalar.ofBits .f32 0x00000000#32)))
    (xori (cmpf .olt x (broadcast S8x1 (Scalar.ofBits .f32 0x7F800000#32))) (constantI S8x1 1 1#1))
def scaleOf (x : FVec F S8x1 .f32) : FVec F S8x1 .f32 :=
  select (isOne x) (broadcast S8x1 (Scalar.ofBits .f32 0x3F800000#32)) (ladder x).1
def invOf (x : FVec F S8x1 .f32) : FVec F S8x1 .f32 :=
  select (isOne x) (broadcast S8x1 (Scalar.ofBits .f32 0x3F800000#32)) (ladder x).2

def wide (s : FVec F S8x1 .f32) : FVec F S8x128 .f32 := broadcastTo S8x128 (shapeCast S8x1 s shapeCasts_S8x1_S8x1) broadcasts_S8x1_S8x128

/-- The scales of a chunk's eight heads, as one row. -/
def scaleRow (x : FVec F S8x1 .f32) : FVec F S1x1x8 .f32 :=
  shapeCast S1x1x8 (extractStridedSlice S1x8 ![0, 0] (shapeCast S1x128 (multiReduction .add [0] S128
    (select (cmpi .eq (iota .tc S8x128 32 [0] iota_S8x128_d0_w32) (iota .tc S8x128 32 [1] iota_S8x128_d1_w32)) (wide (scaleOf x)) zeros8)
    0x00000000#32 reduces_S8x128_S128 (.inl rfl) rfl) shapeCasts_S128_S1x128) slices_S1x128_o0_0_S1x8) shapeCasts_S1x8_S1x1x8

def codeFac (x : FVec F S8x1 .f32) (f : FVec F S8x128 .f32) : FVec F S8x128 .f32 := mulf f (broadcastTo S8x128 (invOf x) broadcasts_S8x1_S8x128)

/-- The codes of tokens `4 j` … `4 j + 3` of the rows `R`. -/
def codesOf (R : ℕ → FVec F S8x128 .f32) (fi : FVec F S8x128 .f32) (j : ℕ) : FVec F S32x128 .fp8e4m3 :=
  truncf .fp8e4m3 (minimumf (broadcast S32x128 (Scalar.ofBits .f32 0x43E00000#32)) (maximumf (broadcast S32x128 (Scalar.ofBits .f32 0xC3E00000#32))
    (concatenate S32x128 0 [⟨S8x128, mulf (R (4 * j)) fi⟩, ⟨S8x128, mulf (R (4 * j + 1)) fi⟩, ⟨S8x128, mulf (R (4 * j + 2)) fi⟩, ⟨S8x128, mulf (R (4 * j + 3)) fi⟩]
      concatenates_S8x128_S8x128_S8x128_S8x128_S32x128_d0))) bitsLt_fp8e4m3_f32

theorem slices_rows (i : ℕ) : S32x128.Slices ![8 * (i % 4), 0] S8x128 :=
  ⟨rfl, fun a => by match a with | ⟨0, _⟩ => show 8 * (i % 4) + 8 ≤ 32; omega | ⟨1, _⟩ => show 0 + 128 ≤ 128; omega⟩

/-- Token `t`'s row read back from its codes. -/
def decRow (R : ℕ → FVec F S8x128 .f32) (fi s : FVec F S8x128 .f32) (t : ℕ) : FVec F S8x128 .f32 :=
  mulf (extractStridedSlice S8x128 ![8 * (t % 4), 0] (extf .f32 (codesOf R fi (t / 4)) bitsLt_fp8e4m3_f32) (slices_rows t)) s

theorem rect9_inb (t : ℕ) : ∀ a, (![9 * (t % 64), 0] : Fin 2 → ℕ) a + S8x128.size a ≤ S576x128.size a := fun a => by
  match a with | ⟨0, _⟩ => show 9 * (t % 64) + 8 ≤ 576; omega | ⟨1, _⟩ => show 0 + 128 ≤ 128; omega
/-- Token `t`'s eight rows of a scratch buffer. -/
abbrev rect9 (t : ℕ) : Rect S576x128 := Rect.unit (s := S576x128) ![9 * (t % 64), 0] S8x128.size (rect9_inb t)
/-- Token `t`'s rows written. -/
def row9 (R : ℕ → FVec F S8x128 .f32) (t : ℕ) : View.Piece (Elt F) S576x128 .f32 := ⟨rect9 t, shapeCast S8x128 (R t) shapeCasts_S8x128_S8x128⟩
abbrev rows9 (R : ℕ → FVec F S8x128 .f32) : List (View.Piece (Elt F) S576x128 .f32) := stack (row9 R) 64

theorem strided_inb (h : ℕ) : ∀ a, S64x128.size a = 0 ∨ (![h % 8, 0] : Fin 2 → ℕ) a + (![9, 1] : Fin 2 → ℕ) a * (S64x128.size a - 1) < S576x128.size a := fun a => by
  match a with
  | ⟨0, _⟩ => exact .inr (show h % 8 + 9 * (64 - 1) < 576 by omega)
  | ⟨1, _⟩ => exact .inr (show 0 + 1 * (128 - 1) < 128 by omega)
/-- Head `h`'s row of every token of a scratch buffer. -/
abbrev headLd (h : ℕ) : LoadRect S576x128 := ⟨![h % 8, 0], S64x128.size, ![9, 1], strided_inb h⟩
abbrev headRect (h : ℕ) : Rect S576x128 := ⟨headLd h, spos_9_1⟩

theorem state_inb (h : ℕ) : ∀ a, (![0, h % 8, 0, 0] : Fin 4 → ℕ) a + S1x1x128x256.size a ≤ S1x8x128x256.size a := fun a => by
  match a with | ⟨0, _⟩ => show 0 + 1 ≤ 1; omega | ⟨1, _⟩ => show h % 8 + 1 ≤ 8; omega | ⟨2, _⟩ => show 0 + 128 ≤ 128; omega | ⟨3, _⟩ => show 0 + 256 ≤ 256; omega
abbrev stateRect (h : ℕ) : Rect S1x8x128x256 := Rect.unit (s := S1x8x128x256) ![0, h % 8, 0, 0] S1x1x128x256.size (state_inb h)

/-- A head's scores: the scaled rows' dot products, on and below the diagonal. -/
def scores (q k : FVec F S64x128 .f32) : FVec F S64x64 .f32 :=
  mulf (select (cmpi .sle (iota .tc S64x64 32 [1] iota_S64x64_d1_w32) (iota .tc S64x64 32 [0] iota_S64x64_d0_w32))
    (matmul dot_S64x128_S64x128_S64x64_1_1_0_0_n_n (some .fp32) q k (constant S64x64 .f32 0x00000000#32))
    (broadcast S64x64 (Scalar.ofBits .f32 0x00000000#32))) (broadcast S64x64 (Scalar.ofBits .f32 0x3DB504F3#32))
def vals (v0 v1 : FVec F S64x128 .f32) : FVec F S64x256 .f32 := concatenate S64x256 1 [⟨S64x128, v0⟩, ⟨S64x128, v1⟩] concatenates_S64x128_S64x128_S64x256_d1
def outOf (q k qc v0 v1 : FVec F S64x128 .f32) (s : FVec F S1x1x128x256 .f32) : FVec F S64x256 .f32 :=
  addf (matmul dot_S64x128_S128x256_S64x256_1_0_0_1_n_n (some .fp32) qc (shapeCast S128x256 s shapeCasts_S1x1x128x256_S128x256) (constant S64x256 .f32 0x00000000#32))
    (matmul dot_S64x64_S64x256_S64x256_1_0_0_1_n_n (some .fp32) (scores q k) (vals v0 v1) (constant S64x256 .f32 0x00000000#32))
def decayOf (G : Toks F .f32) (g0 : FVec F S1x1x8x128 .f32) : FVec F S128x8 .f32 :=
  transpose S128x8 [1, 0] (exp (addf (bMid G g0) (dTok G 63))) transposes_S8x128_p1_0_S128x8
theorem slices_decay (h : ℕ) : S128x8.Slices ![0, h % 8] S128x1 :=
  ⟨rfl, fun a => by match a with | ⟨0, _⟩ => show 0 + 128 ≤ 128; omega | ⟨1, _⟩ => show h % 8 + 1 ≤ 8; omega⟩
def nextState (dec : FVec F S128x8 .f32) (h : ℕ) (kc v0 v1 : FVec F S64x128 .f32) (s : FVec F S1x1x128x256 .f32) : FVec F S1x1x128x256 .f32 :=
  shapeCast S1x1x128x256 (addf (mulf (shapeCast S128x256 s shapeCasts_S1x1x128x256_S128x256)
      (broadcastTo S128x256 (extractStridedSlice S128x1 ![0, h % 8] dec (slices_decay h)) broadcasts_S128x1_S128x256))
    (matmul dot_S64x128_S64x256_S128x256_0_0_1_1_n_n (some .fp32) kc (vals v0 v1) (constant S128x256 .f32 0x00000000#32))) shapeCasts_S128x256_S1x1x128x256

/-- The codes of tokens `4 j` … `4 j + 3` written. -/
def codePiece (k : Fin k0_t1_loop.trips) (C : ℕ → FVec F S32x128 .fp8e4m3) (j : ℕ) : View.Piece (Elt F) S1x4096x128 .fp8e4m3 :=
  ⟨Rect.unit (s := S1x4096x128) (k0_off4 k (BitVec.ofNat 32 (4 * (j % 16)))) S1x32x128.size (k0_off4_inb k ⟨j % 16, Nat.mod_lt _ (by decide)⟩),
    shapeCast S1x32x128 (C j) shapeCasts_S32x128_S1x32x128⟩
/-- A head's next state written. -/
def statePiece (S : ℕ → FVec F S1x1x128x256 .f32) (h : ℕ) : View.Piece (Elt F) S1x8x128x256 .f32 := ⟨stateRect h, S h⟩
/-- The first or second half of a head's outputs written. -/
def outLo (O : ℕ → FVec F S64x256 .f32) (h : ℕ) : View.Piece (Elt F) S576x128 .f32 :=
  ⟨headRect h, shapeCast S64x128 (extractStridedSlice S64x128 ![0, 0] (O h) slices_S64x256_o0_0_S64x128) shapeCasts_S64x128_S64x128⟩
def outHi (O : ℕ → FVec F S64x256 .f32) (h : ℕ) : View.Piece (Elt F) S576x128 .f32 :=
  ⟨headRect h, shapeCast S64x128 (extractStridedSlice S64x128 ![0, 128] (O h) slices_S64x256_o0_128_S64x128) shapeCasts_S64x128_S64x128⟩
/-- A token's outputs written, by halves. -/
def tokLo (k : Fin k0_t1_loop.trips) (R : ℕ → FVec F S8x128 .f32) (t : ℕ) : View.Piece (Elt F) S1x512x8x256 .bf16 :=
  ⟨Rect.unit (s := S1x512x8x256) (k0_off5 k (BitVec.ofNat 32 (t % 64))) S1x1x8x128.size (k0_off5_inb k ⟨t % 64, Nat.mod_lt _ (by decide)⟩),
    shapeCast S1x1x8x128 (truncf .bf16 (R t) bitsLt_bf16_f32) shapeCasts_S8x128_S1x1x8x128⟩
def tokHi (k : Fin k0_t1_loop.trips) (R : ℕ → FVec F S8x128 .f32) (t : ℕ) : View.Piece (Elt F) S1x512x8x256 .bf16 :=
  ⟨Rect.unit (s := S1x512x8x256) (k0_off6 k (BitVec.ofNat 32 (t % 64))) S1x1x8x128.size (k0_off6_inb k ⟨t % 64, Nat.mod_lt _ (by decide)⟩),
    shapeCast S1x1x8x128 (truncf .bf16 (R t) bitsLt_bf16_f32) shapeCasts_S8x128_S1x1x8x128⟩
/-- Two families of pieces, one of each in turn. -/
def stack2 {α : Type} (P P' : ℕ → α) (n : ℕ) : List α := Nat.rec [] (fun n l => P' n :: P n :: l) n

end Cert.KernelIdeal.Hand

end
-- ==== Proof.KernelIdeal.SpecTrip.lean ====
/-
  The lists of one trip's writes are those of the functions of `Spec`.
-/
module

public import proofs.«01_k».proof.Proof.KernelIdeal.Spec

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F]

/-- Token `t`'s rows of a window's buffer. -/
def toks (c : Dev nD) {e : EltTy} (M : Memref sig .tc .vmem S1x512x8x128 e) (f : Bf (F := F) c M) (k : Fin k0_t1_loop.trips) : ℕ → Vec F S1x1x8x128 e := fun t =>
  View.readAt (Elt F) M.view (Rect.unit (s := S1x512x8x128) (k0_off1 k (BitVec.ofNat 32 (t % 64))) S1x1x8x128.size
    (k0_off1_inb k ⟨t % 64, Nat.mod_lt _ (by decide)⟩)).toLoadRect f
/-- The first token's rows, as the kernel loads them for the middle of the chunk. -/
def tok0 (c : Dev nD) (M : Memref sig .tc .vmem S1x512x8x128 .f32) (f : Bf (F := F) c M) (k : Fin k0_t1_loop.trips) : FVec F S1x1x8x128 .f32 :=
  View.readAt (Elt F) M.view (Rect.unit (s := S1x512x8x128) (k0_off2 k) S1x1x8x128.size (k0_off2_inb k)).toLoadRect f

variable (c : Dev nD) (k : Fin k0_t1_loop.trips)

theorem rowsQ (arg2 : Memref sig .tc .vmem S1x512x8x128 .bf16) (arg6 : Memref sig .tc .vmem S1x512x8x128 .f32) (f2 : Bf (F := F) c arg2) (f6 : Bf (F := F) c arg6) :
    trip.sl.H13_64 c arg2 arg6 f2 f6 k =
      rows9 (qRow (toks c arg6 f6 k) (toks c arg2 f2 k)) := by
  rfl

theorem rowsK (arg3 : Memref sig .tc .vmem S1x512x8x128 .bf16) (arg6 : Memref sig .tc .vmem S1x512x8x128 .f32) (f3 : Bf (F := F) c arg3) (f6 : Bf (F := F) c arg6) :
    trip.sl.H14_64 c arg3 arg6 f3 f6 k =
      rows9 (kRow (toks c arg6 f6 k) (toks c arg3 f3 k)) := by
  rfl

theorem rowsV0 (arg4 : Memref sig .tc .vmem S1x512x8x128 .bf16) (f4 : Bf (F := F) c arg4) :
    trip.sl.H17_64 c arg4 f4 k =
      rows9 (vRow (toks c arg4 f4 k)) := by
  rfl

theorem rowsV1 (arg5 : Memref sig .tc .vmem S1x512x8x128 .bf16) (f5 : Bf (F := F) c arg5) :
    trip.sl.H18_64 c arg5 f5 k =
      rows9 (vRow (toks c arg5 f5 k)) := by
  rfl

set_option maxHeartbeats 1000000

theorem amaxQ (arg2 : Memref sig .tc .vmem S1x512x8x128 .bf16) (arg6 : Memref sig .tc .vmem S1x512x8x128 .f32) (f2 : Bf (F := F) c arg2) (f6 : Bf (F := F) c arg6) :
    trip.sl.r_298 c arg2 arg6 f2 f6 k =
      amaxOf (qRow (toks c arg6 f6 k) (toks c arg2 f2 k)) 64 := by
  rfl

theorem amaxK (arg3 : Memref sig .tc .vmem S1x512x8x128 .bf16) (arg6 : Memref sig .tc .vmem S1x512x8x128 .f32) (f3 : Bf (F := F) c arg3) (f6 : Bf (F := F) c arg6) :
    trip.sl.r_299 c arg3 arg6 f3 f6 k =
      amaxOf (kRow (toks c arg6 f6 k) (toks c arg3 f3 k)) 64 := by
  rfl

theorem midG (arg6 : Memref sig .tc .vmem S1x512x8x128 .f32) (f6 : Bf (F := F) c arg6) :
    trip.sl.r_65 c arg6 f6 k =
      bMid (toks c arg6 f6 k) (tok0 c arg6 f6 k) := by
  rfl

theorem lastG (arg6 : Memref sig .tc .vmem S1x512x8x128 .f32) (f6 : Bf (F := F) c arg6) :
    trip.sl.r_32 c arg6 f6 k =
      dTok (toks c arg6 f6 k) 63 := by
  rfl

theorem pay_scaleQ (a b : FVec F S8x128 .f32) : k0_pay714 (k0_pay681 a b) (k0_pay706 (k0_pay681 a b) (k0_pay689 a b)) = scaleOf (k0_pay681 a b) := rfl
theorem pay_invQ (a b : FVec F S8x128 .f32) :
    k0_pay715 (k0_pay681 a b) (k0_pay703 (k0_pay681 a b) (k0_pay686 a b) (k0_pay688 a b) (k0_pay689 a b) (k0_pay690 a b)) (k0_pay705 (k0_pay681 a b) (k0_pay689 a b))
      (k0_pay706 (k0_pay681 a b) (k0_pay689 a b)) (k0_pay707 (k0_pay681 a b) (k0_pay686 a b) (k0_pay688 a b) (k0_pay689 a b) (k0_pay690 a b)) = invOf (k0_pay681 a b) := rfl
theorem pay_scaleK (a b : FVec F S8x128 .f32) : k0_pay749 (k0_pay716 a b) (k0_pay737 (k0_pay716 a b) (k0_pay721 a b)) = wide (scaleOf (k0_pay716 a b)) := rfl
theorem pay_invK (a b : FVec F S8x128 .f32) :
    k0_pay747 (k0_pay716 a b) (k0_pay734 (k0_pay716 a b) k0_pay718 (k0_pay720 a b) (k0_pay721 a b) (Scalar.ofBits .f32 0x1F800000#32)) (k0_pay736 (k0_pay716 a b) (k0_pay721 a b))
      (k0_pay737 (k0_pay716 a b) (k0_pay721 a b)) (Scalar.ofBits .f32 0x3B800000#32) = invOf (k0_pay716 a b) := rfl

theorem maxQ (arg2 : Memref sig .tc .vmem S1x512x8x128 .bf16) (arg6 : Memref sig .tc .vmem S1x512x8x128 .f32) (f2 : Bf (F := F) c arg2) (f6 : Bf (F := F) c arg6) :
    k0_pay681 (trip.sl.r_65 c arg6 f6 k) (trip.sl.r_298 c arg2 arg6 f2 f6 k) =
      (headMax (qRow (toks c arg6 f6 k) (toks c arg2 f2 k)) (qFac (toks c arg6 f6 k) (tok0 c arg6 f6 k))) := by
  rw [midG, amaxQ]; rfl

theorem maxK (arg3 : Memref sig .tc .vmem S1x512x8x128 .bf16) (arg6 : Memref sig .tc .vmem S1x512x8x128 .f32) (f3 : Bf (F := F) c arg3) (f6 : Bf (F := F) c arg6) :
    k0_pay716 (trip.sl.r_299 c arg3 arg6 f3 f6 k) (trip.sl.r_302 c arg6 f6 k) =
      (headMax (kRow (toks c arg6 f6 k) (toks c arg3 f3 k)) (kFac (toks c arg6 f6 k))) := by
  rw [amaxK, show trip.sl.r_302 c arg6 f6 k = kFac (toks c arg6 f6 k) from by rw [show trip.sl.r_302 c arg6 f6 k = k0_pay680 (trip.sl.r_32 c arg6 f6 k) from rfl, lastG]; rfl]; rfl

theorem scQ (arg2 : Memref sig .tc .vmem S1x512x8x128 .bf16) (arg6 : Memref sig .tc .vmem S1x512x8x128 .f32) (f2 : Bf (F := F) c arg2) (f6 : Bf (F := F) c arg6) :
    trip.sl.r_312 c arg2 arg6 f2 f6 k =
      scaleOf (headMax (qRow (toks c arg6 f6 k) (toks c arg2 f2 k)) (qFac (toks c arg6 f6 k) (tok0 c arg6 f6 k))) := by
  rw [← maxQ]; exact pay_scaleQ _ _

theorem inQ (arg2 : Memref sig .tc .vmem S1x512x8x128 .bf16) (arg6 : Memref sig .tc .vmem S1x512x8x128 .f32) (f2 : Bf (F := F) c arg2) (f6 : Bf (F := F) c arg6) :
    trip.sl.r_313 c arg2 arg6 f2 f6 k =
      invOf (headMax (qRow (toks c arg6 f6 k) (toks c arg2 f2 k)) (qFac (toks c arg6 f6 k) (tok0 c arg6 f6 k))) := by
  rw [← maxQ]; exact pay_invQ _ _

theorem scK (arg3 : Memref sig .tc .vmem S1x512x8x128 .bf16) (arg6 : Memref sig .tc .vmem S1x512x8x128 .f32) (f3 : Bf (F := F) c arg3) (f6 : Bf (F := F) c arg6) :
    trip.sl.r_322 c arg3 arg6 f3 f6 k =
      wide (scaleOf (headMax (kRow (toks c arg6 f6 k) (toks c arg3 f3 k)) (kFac (toks c arg6 f6 k)))) := by
  rw [← maxK]; exact pay_scaleK _ _

theorem inK (arg3 : Memref sig .tc .vmem S1x512x8x128 .bf16) (arg6 : Memref sig .tc .vmem S1x512x8x128 .f32) (f3 : Bf (F := F) c arg3) (f6 : Bf (F := F) c arg6) :
    trip.sl.r_320 c arg3 arg6 f3 f6 k =
      invOf (headMax (kRow (toks c arg6 f6 k) (toks c arg3 f3 k)) (kFac (toks c arg6 f6 k))) := by
  rw [← maxK]; exact pay_invK _ _

theorem scaleQ (arg2 : Memref sig .tc .vmem S1x512x8x128 .bf16) (arg6 : Memref sig .tc .vmem S1x512x8x128 .f32) (f2 : Bf (F := F) c arg2) (f6 : Bf (F := F) c arg6) :
    trip.sl.H10_1 c arg2 arg6 f2 f6 k =
      [⟨Rect.unit (s := S1x8x8) (k0_off3 k) S1x1x8.size (k0_off3_inb k), scaleRow (headMax (qRow (toks c arg6 f6 k) (toks c arg2 f2 k)) (qFac (toks c arg6 f6 k) (tok0 c arg6 f6 k)))⟩] := by
  rw [show trip.sl.H10_1 c arg2 arg6 f2 f6 k = [⟨Rect.unit (s := S1x8x8) (k0_off3 k) S1x1x8.size (k0_off3_inb k), k0_pay751 k0_pay3 (k0_pay748 (trip.sl.r_312 c arg2 arg6 f2 f6 k)) (k0_pay750 (F := F))⟩] from rfl, scQ]; rfl

theorem scaleK (arg3 : Memref sig .tc .vmem S1x512x8x128 .bf16) (arg6 : Memref sig .tc .vmem S1x512x8x128 .f32) (f3 : Bf (F := F) c arg3) (f6 : Bf (F := F) c arg6) :
    trip.sl.H12_1 c arg3 arg6 f3 f6 k =
      [⟨Rect.unit (s := S1x8x8) (k0_off3 k) S1x1x8.size (k0_off3_inb k), scaleRow (headMax (kRow (toks c arg6 f6 k) (toks c arg3 f3 k)) (kFac (toks c arg6 f6 k)))⟩] := by
  rw [show trip.sl.H12_1 c arg3 arg6 f3 f6 k = [⟨Rect.unit (s := S1x8x8) (k0_off3 k) S1x1x8.size (k0_off3_inb k), k0_pay752 k0_pay3 (trip.sl.r_322 c arg3 arg6 f3 f6 k)⟩] from rfl, scK]; rfl

/-- The factor a chunk is coded by. -/
def codeFac0 (f : FVec F S8x128 .f32) (i : FVec F S8x1 .f32) : FVec F S8x128 .f32 := mulf f (broadcastTo S8x128 i broadcasts_S8x1_S8x128)

theorem codesQ (arg2 : Memref sig .tc .vmem S1x512x8x128 .bf16) (arg6 : Memref sig .tc .vmem S1x512x8x128 .f32) (arg13 : Memref sig .tc .vmem S576x128 .f32) (f2 : Bf (F := F) c arg2) (f6 : Bf (F := F) c arg6) :
    trip.sl.H9_16 c arg2 arg6 arg13 f2 f6 k =
      stack (codePiece k (codesOf (fun t => arg13.view.readCov (trip.sl.H13_64 c arg2 arg6 f2 f6 k) (rect9 t).toLoadRect) (codeFac0 (trip.sl.r_301 c arg6 f6 k) (trip.sl.r_313 c arg2 arg6 f2 f6 k)))) 16 := rfl

theorem codesK (arg3 : Memref sig .tc .vmem S1x512x8x128 .bf16) (arg6 : Memref sig .tc .vmem S1x512x8x128 .f32) (arg14 : Memref sig .tc .vmem S576x128 .f32) (f3 : Bf (F := F) c arg3) (f6 : Bf (F := F) c arg6) :
    trip.sl.H11_16 c arg3 arg6 arg14 f3 f6 k =
      stack (codePiece k (codesOf (fun t => arg14.view.readCov (trip.sl.H14_64 c arg3 arg6 f3 f6 k) (rect9 t).toLoadRect) (codeFac0 (trip.sl.r_302 c arg6 f6 k) (trip.sl.r_320 c arg3 arg6 f3 f6 k)))) 16 := rfl

theorem decQ (arg2 : Memref sig .tc .vmem S1x512x8x128 .bf16) (arg6 : Memref sig .tc .vmem S1x512x8x128 .f32) (arg13 : Memref sig .tc .vmem S576x128 .f32) (f2 : Bf (F := F) c arg2) (f6 : Bf (F := F) c arg6) :
    trip.sl.H15_64 c arg2 arg6 arg13 f2 f6 k =
      rows9 (decRow (fun t => arg13.view.readCov (trip.sl.H13_64 c arg2 arg6 f2 f6 k) (rect9 t).toLoadRect) (codeFac0 (trip.sl.r_301 c arg6 f6 k) (trip.sl.r_313 c arg2 arg6 f2 f6 k)) (trip.sl.r_321 c arg2 arg6 f2 f6 k)) := rfl

theorem decK (arg3 : Memref sig .tc .vmem S1x512x8x128 .bf16) (arg6 : Memref sig .tc .vmem S1x512x8x128 .f32) (arg14 : Memref sig .tc .vmem S576x128 .f32) (f3 : Bf (F := F) c arg3) (f6 : Bf (F := F) c arg6) :
    trip.sl.H16_64 c arg3 arg6 arg14 f3 f6 k =
      rows9 (decRow (fun t => arg14.view.readCov (trip.sl.H14_64 c arg3 arg6 f3 f6 k) (rect9 t).toLoadRect) (codeFac0 (trip.sl.r_302 c arg6 f6 k) (trip.sl.r_320 c arg3 arg6 f3 f6 k)) (trip.sl.r_322 c arg3 arg6 f3 f6 k)) := rfl

theorem decayG (arg6 : Memref sig .tc .vmem S1x512x8x128 .f32) (f6 : Bf (F := F) c arg6) :
    trip.sl.r_376 c arg6 f6 k =
      decayOf (toks c arg6 f6 k) (tok0 c arg6 f6 k) := by
  rw [show trip.sl.r_376 c arg6 f6 k = k0_pay1009 (trip.sl.r_32 c arg6 f6 k) (trip.sl.r_65 c arg6 f6 k) from rfl, midG, lastG]; rfl

theorem stateL (arg3 : Memref sig .tc .vmem S1x512x8x128 .bf16) (arg4 : Memref sig .tc .vmem S1x512x8x128 .bf16) (arg5 : Memref sig .tc .vmem S1x512x8x128 .bf16) (arg6 : Memref sig .tc .vmem S1x512x8x128 .f32) (arg8 : Memref sig .tc .vmem S1x8x128x256 .f32) (arg14 : Memref sig .tc .vmem S576x128 .f32) (arg16 : Memref sig .tc .vmem S576x128 .f32) (arg17 : Memref sig .tc .vmem S576x128 .f32) (arg18 : Memref sig .tc .vmem S576x128 .f32) (f3 : Bf (F := F) c arg3) (f4 : Bf (F := F) c arg4) (f5 : Bf (F := F) c arg5) (f6 : Bf (F := F) c arg6) (f8 : Bf (F := F) c arg8) :
    trip.sl.H8_8 c arg3 arg4 arg5 arg6 arg8 arg14 arg16 arg17 arg18 f3 f4 f5 f6 f8 k =
      stack (statePiece (fun h => nextState (trip.sl.r_376 c arg6 f6 k) h (arg16.view.readCov (trip.sl.H16_64 c arg3 arg6 arg14 f3 f6 k) (headLd h)) (arg17.view.readCov (trip.sl.H17_64 c arg4 f4 k) (headLd h)) (arg18.view.readCov (trip.sl.H18_64 c arg5 f5 k) (headLd h)) (View.readAt (Elt F) arg8.view (stateRect h).toLoadRect f8))) 8 := rfl

theorem outLoL (arg2 : Memref sig .tc .vmem S1x512x8x128 .bf16) (arg3 : Memref sig .tc .vmem S1x512x8x128 .bf16) (arg4 : Memref sig .tc .vmem S1x512x8x128 .bf16) (arg5 : Memref sig .tc .vmem S1x512x8x128 .bf16) (arg6 : Memref sig .tc .vmem S1x512x8x128 .f32) (arg8 : Memref sig .tc .vmem S1x8x128x256 .f32) (arg13 : Memref sig .tc .vmem S576x128 .f32) (arg14 : Memref sig .tc .vmem S576x128 .f32) (arg15 : Memref sig .tc .vmem S576x128 .f32) (arg17 : Memref sig .tc .vmem S576x128 .f32) (arg18 : Memref sig .tc .vmem S576x128 .f32) (f2 : Bf (F := F) c arg2) (f3 : Bf (F := F) c arg3) (f4 : Bf (F := F) c arg4) (f5 : Bf (F := F) c arg5) (f6 : Bf (F := F) c arg6) (f8 : Bf (F := F) c arg8) :
    trip.sl.H19_8 c arg2 arg3 arg4 arg5 arg6 arg8 arg13 arg14 arg15 arg17 arg18 f2 f3 f4 f5 f6 f8 k =
      stack (outLo (fun h => outOf (arg13.view.readCov (trip.sl.H13_64 c arg2 arg6 f2 f6 k) (headLd h)) (arg14.view.readCov (trip.sl.H14_64 c arg3 arg6 f3 f6 k) (headLd h)) (arg15.view.readCov (trip.sl.H15_64 c arg2 arg6 arg13 f2 f6 k) (headLd h)) (arg17.view.readCov (trip.sl.H17_64 c arg4 f4 k) (headLd h)) (arg18.view.readCov (trip.sl.H18_64 c arg5 f5 k) (headLd h)) (View.readAt (Elt F) arg8.view (stateRect h).toLoadRect f8))) 8 := rfl

theorem outHiL (arg2 : Memref sig .tc .vmem S1x512x8x128 .bf16) (arg3 : Memref sig .tc .vmem S1x512x8x128 .bf16) (arg4 : Memref sig .tc .vmem S1x512x8x128 .bf16) (arg5 : Memref sig .tc .vmem S1x512x8x128 .bf16) (arg6 : Memref sig .tc .vmem S1x512x8x128 .f32) (arg8 : Memref sig .tc .vmem S1x8x128x256 .f32) (arg13 : Memref sig .tc .vmem S576x128 .f32) (arg14 : Memref sig .tc .vmem S576x128 .f32) (arg15 : Memref sig .tc .vmem S576x128 .f32) (arg17 : Memref sig .tc .vmem S576x128 .f32) (arg18 : Memref sig .tc .vmem S576x128 .f32) (f2 : Bf (F := F) c arg2) (f3 : Bf (F := F) c arg3) (f4 : Bf (F := F) c arg4) (f5 : Bf (F := F) c arg5) (f6 : Bf (F := F) c arg6) (f8 : Bf (F := F) c arg8) :
    trip.sl.H20_8 c arg2 arg3 arg4 arg5 arg6 arg8 arg13 arg14 arg15 arg17 arg18 f2 f3 f4 f5 f6 f8 k =
      stack (outHi (fun h => outOf (arg13.view.readCov (trip.sl.H13_64 c arg2 arg6 f2 f6 k) (headLd h)) (arg14.view.readCov (trip.sl.H14_64 c arg3 arg6 f3 f6 k) (headLd h)) (arg15.view.readCov (trip.sl.H15_64 c arg2 arg6 arg13 f2 f6 k) (headLd h)) (arg17.view.readCov (trip.sl.H17_64 c arg4 f4 k) (headLd h)) (arg18.view.readCov (trip.sl.H18_64 c arg5 f5 k) (headLd h)) (View.readAt (Elt F) arg8.view (stateRect h).toLoadRect f8))) 8 := rfl

theorem trip_lists (i : grid0.Coords) (arg2 : Memref sig .tc .vmem S1x512x8x128 .bf16) (harg2 : arg2.IsWhole) (arg3 : Memref sig .tc .vmem S1x512x8x128 .bf16) (harg3 : arg3.IsWhole) (arg4 : Memref sig .tc .vmem S1x512x8x128 .bf16) (harg4 : arg4.IsWhole) (arg5 : Memref sig .tc .vmem S1x512x8x128 .bf16) (harg5 : arg5.IsWhole) (arg6 : Memref sig .tc .vmem S1x512x8x128 .f32) (harg6 : arg6.IsWhole) (arg7 : Memref sig .tc .vmem S1x512x8x256 .bf16) (harg7 : arg7.IsWhole) (arg8 : Memref sig .tc .vmem S1x8x128x256 .f32) (harg8 : arg8.IsWhole) (arg9 : Memref sig .tc .vmem S1x4096x128 .fp8e4m3) (harg9 : arg9.IsWhole) (arg10 : Memref sig .tc .vmem S1x8x8 .f32) (harg10 : arg10.IsWhole) (arg11 : Memref sig .tc .vmem S1x4096x128 .fp8e4m3) (harg11 : arg11.IsWhole) (arg12 : Memref sig .tc .vmem S1x8x8 .f32) (harg12 : arg12.IsWhole) (arg13 : Memref sig .tc .vmem S576x128 .f32) (harg13 : arg13.IsWhole) (arg14 : Memref sig .tc .vmem S576x128 .f32) (harg14 : arg14.IsWhole) (arg15 : Memref sig .tc .vmem S576x128 .f32) (harg15 : arg15.IsWhole) (arg16 : Memref sig .tc .vmem S576x128 .f32) (harg16 : arg16.IsWhole) (arg17 : Memref sig .tc .vmem S576x128 .f32) (harg17 : arg17.IsWhole) (arg18 : Memref sig .tc .vmem S576x128 .f32) (harg18 : arg18.IsWhole) (arg19 : Memref sig .tc .vmem S576x128 .f32) (harg19 : arg19.IsWhole) (arg20 : Memref sig .tc .vmem S576x128 .f32) (harg20 : arg20.IsWhole)
    (f2 : Bf (F := F) c arg2) (f3 : Bf (F := F) c arg3) (f4 : Bf (F := F) c arg4) (f5 : Bf (F := F) c arg5) (f6 : Bf (F := F) c arg6) (f8 : Bf (F := F) c arg8) :
    (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f8 k).1 =
      ⟨stack2 (tokLo k (fun t => arg19.view.readCov (trip.sl.H19_8 c arg2 arg3 arg4 arg5 arg6 arg8 arg13 arg14 arg15 arg17 arg18 f2 f3 f4 f5 f6 f8 k) (rect9 t).toLoadRect))
          (tokHi k (fun t => arg20.view.readCov (trip.sl.H20_8 c arg2 arg3 arg4 arg5 arg6 arg8 arg13 arg14 arg15 arg17 arg18 f2 f3 f4 f5 f6 f8 k) (rect9 t).toLoadRect)) 64,
        trip.sl.H8_8 c arg3 arg4 arg5 arg6 arg8 arg14 arg16 arg17 arg18 f3 f4 f5 f6 f8 k, trip.sl.H9_16 c arg2 arg6 arg13 f2 f6 k, trip.sl.H10_1 c arg2 arg6 f2 f6 k,
        trip.sl.H11_16 c arg3 arg6 arg14 f3 f6 k, trip.sl.H12_1 c arg3 arg6 f3 f6 k⟩ := by
  unfold trip; rfl

end Cert.KernelIdeal.Hand

end
-- ==== Proof.KernelIdeal.Reads.lean ====
/-
  What the reads of the scratch buffers hold, once they have been written a row of heads at a time, or a head at a time.
-/
module

public import proofs.«01_k».proof.Proof.KernelIdeal.Spec
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem mem_stack {α : Type} (P : ℕ → α) (n : ℕ) (p : α) : p ∈ stack P n ↔ ∃ t < n, p = P t := by
  induction n with
  | zero => simp [stack]
  | succ n ih =>
    rw [show stack P (n + 1) = P n :: stack P n from rfl, List.mem_cons, ih]
    constructor
    · rintro (h | ⟨t, ht, h⟩)
      · exact ⟨n, by omega, h⟩
      · exact ⟨t, by omega, h⟩
    · rintro ⟨t, ht, h⟩
      by_cases e : t = n
      · subst e; exact .inl h
      · exact .inr ⟨t, by omega, h⟩

theorem mem_stack2 {α : Type} (P P' : ℕ → α) (n : ℕ) (p : α) : p ∈ stack2 P P' n ↔ ∃ t < n, p = P t ∨ p = P' t := by
  induction n with
  | zero => simp [stack2]
  | succ n ih =>
    rw [show stack2 P P' (n + 1) = P' n :: P n :: stack2 P P' n from rfl, List.mem_cons, List.mem_cons, ih]
    constructor
    · rintro (h | h | ⟨t, ht, h⟩)
      · exact ⟨n, by omega, .inr h⟩
      · exact ⟨n, by omega, .inl h⟩
      · exact ⟨t, by omega, h⟩
    · rintro ⟨t, ht, h⟩
      by_cases e : t = n
      · subst e; rcases h with h | h
        · exact .inr (.inl h)
        · exact .inl h
      · exact .inr (.inr ⟨t, by omega, h⟩)

/-- The canon of a stack at an index one of its pieces covers, where every piece agrees with one function. -/
theorem canon_stack {S : Shape} {e : EltTy} (P : ℕ → View.Piece (Elt F) S e) (n : ℕ) (G : S.Idx → Elt F e)
    (hG : ∀ t < n, ∀ x : (P t).1.shape.Idx, (P t).2 x = G ((P t).1.emb x)) (y : S.Idx) (t : ℕ) (ht : t < n) (hy : y ∈ (P t).1.set) :
    View.canon (stack P n) y = G y :=
  View.canon_apply_of_pieces G _ (fun p hp => by obtain ⟨t, ht, rfl⟩ := (mem_stack P n p).mp hp; exact hG t ht) y
    ⟨P t, (mem_stack P n _).mpr ⟨t, ht, rfl⟩, hy⟩

/-- Rows `9 t` … `9 t + 7` of a buffer are token `t`'s. -/
def ofRows (R : ℕ → FVec F S8x128 .f32) (y : S576x128.Idx) : F .f32 := R ((y 0).val / 9) (ix2 ⟨(y 0).val % 9 % 8, by omega⟩ (y 1))

theorem ofRows_at (R : ℕ → FVec F S8x128 .f32) (y : S576x128.Idx) (t : ℕ) (x : S8x128.Idx) (h0 : (y 0).val = 9 * t + (x 0).val) (h1 : (y 1).val = (x 1).val) :
    ofRows R y = R t x := by
  have hx : (x 0).val < 8 := (x 0).isLt
  unfold ofRows
  rw [show (y 0).val / 9 = t by omega]
  congr 1
  funext a
  match a with
  | ⟨0, _⟩ => exact Fin.ext (show (y 0).val % 9 % 8 = (x 0).val by omega)
  | ⟨1, _⟩ => exact Fin.ext h1

theorem row9_at (R : ℕ → FVec F S8x128 .f32) (t : ℕ) (ht : t < 64) (x : (row9 R t).1.shape.Idx) : (row9 R t).2 x = ofRows R ((row9 R t).1.emb x) := by
  refine Eq.trans ?_ (ofRows_at R _ t x ?_ ?_).symm
  · show shapeCast S8x128 (R t) shapeCasts_S8x128_S8x128 x = _; rw [shapeCast_self]
  · show 9 * (t % 64) + 1 * (x 0).val = _; rw [Nat.mod_eq_of_lt ht]; omega
  · show 0 + 1 * (x 1).val = _; omega

theorem canon_rows9 (R : ℕ → FVec F S8x128 .f32) (y : S576x128.Idx) (t : ℕ) (ht : t < 64) (x : S8x128.Idx) (h0 : (y 0).val = 9 * t + (x 0).val)
    (h1 : (y 1).val = (x 1).val) : View.canon (rows9 R) y = R t x := by
  rw [canon_stack _ _ (ofRows R) (row9_at R) y t ht, ofRows_at R y t x h0 h1]
  have hx : (x 0).val < 8 := (x 0).isLt
  have hx1 : (x 1).val < 128 := (x 1).isLt
  show y ∈ (rect9 t).set
  rw [Rect.mem_set_unit]
  intro a
  match a with
  | ⟨0, _⟩ => show 9 * (t % 64) ≤ (y 0).val ∧ (y 0).val < 9 * (t % 64) + 8; omega
  | ⟨1, _⟩ => show 0 ≤ (y 1).val ∧ (y 1).val < 0 + 128; omega

/-- A token's rows read back. -/
theorem read_rows9 (v : View sig .tc .vmem S576x128 .f32) (R : ℕ → FVec F S8x128 .f32) (t : ℕ) :
    v.readCov (Val := Elt F) (rows9 R) (rect9 t).toLoadRect = R (t % 64) := by
  rw [View.readCov_eq_canon']
  funext x
  exact canon_rows9 R _ (t % 64) (by omega) x (by show 9 * (t % 64) + 1 * (x 0).val = _; omega) (by show 0 + 1 * (x 1).val = _; omega)

/-- The head's row of every token. -/
def headOf (R : ℕ → FVec F S8x128 .f32) (h : ℕ) : FVec F S64x128 .f32 := fun y : S64x128.Idx => R (y 0).val (ix2 ⟨h % 8, by omega⟩ (y 1))

/-- A head's row of every token read back. -/
theorem read_head (v : View sig .tc .vmem S576x128 .f32) (R : ℕ → FVec F S8x128 .f32) (h : ℕ) :
    v.readCov (Val := Elt F) (rows9 R) (headLd h) = headOf R h := by
  rw [View.readCov_eq_canon']
  funext y
  exact canon_rows9 R _ (y 0).val (y 0).isLt _ (by show h % 8 + 9 * (y 0).val = 9 * (y 0).val + h % 8; omega) (by show 0 + 1 * (y 1).val = (y 1).val; omega)

/-- What a buffer holds once every head's outputs are written into it, token by token. -/
theorem read_outs (v : View sig .tc .vmem S576x128 .f32) (P : ℕ → View.Piece (Elt F) S576x128 .f32) (o : ℕ) (ho : o ≤ 128) (O : ℕ → FVec F S64x256 .f32)
    (hP : ∀ h, P h = ⟨headRect h, fun y : S64x128.Idx => O h (ix2 (y 0) ⟨o + (y 1).val, by have := (y 1).isLt; simp at this; omega⟩)⟩) (t : ℕ) :
    v.readCov (Val := Elt F) (stack P 8) (rect9 t).toLoadRect
      = fun y : S8x128.Idx => O (y 0).val (ix2 ⟨t % 64, by omega⟩ ⟨o + (y 1).val, by have := (y 1).isLt; simp at this; omega⟩) := by
  rw [View.readCov_eq_canon']
  funext y
  have hy : (y 0).val < 8 := (y 0).isLt
  have hy1 : (y 1).val < 128 := (y 1).isLt
  have e0 : (((rect9 t).toLoadRect.idx y) 0).val = 9 * (t % 64) + (y 0).val := by show 9 * (t % 64) + 1 * (y 0).val = _; omega
  have e1 : (((rect9 t).toLoadRect.idx y) 1).val = (y 1).val := by show 0 + 1 * (y 1).val = _; omega
  rw [canon_stack P 8 (fun z : S576x128.Idx => O ((z 0).val % 9) (ix2 ⟨(z 0).val / 9 % 64, by omega⟩ ⟨o + (z 1).val % 128, by omega⟩)) ?_ _ (y 0).val hy ?_]
  · show O ((((rect9 t).toLoadRect.idx y) 0).val % 9) _ = _
    rw [show (((rect9 t).toLoadRect.idx y) 0).val % 9 = (y 0).val by omega]
    congr 1
    funext a
    match a with
    | ⟨0, _⟩ => exact Fin.ext (by show (((rect9 t).toLoadRect.idx y) 0).val / 9 % 64 = t % 64; omega)
    | ⟨1, _⟩ => exact Fin.ext (by show o + (((rect9 t).toLoadRect.idx y) 1).val % 128 = o + (y 1).val; omega)
  · intro h hh
    rw [hP h]
    intro x
    have hx0 : (x 0).val < 64 := (x 0).isLt
    have hx1 : (x 1).val < 128 := (x 1).isLt
    have e0 : (((headRect h).emb x) 0).val = h + 9 * (x 0).val := by show h % 8 + 9 * (x 0).val = _; omega
    have e1 : (((headRect h).emb x) 1).val = (x 1).val := by show 0 + 1 * (x 1).val = _; omega
    show O h _ = O ((((headRect h).emb x) 0).val % 9) _
    rw [show (((headRect h).emb x) 0).val % 9 = h by omega]
    congr 1
    funext a
    match a with
    | ⟨0, _⟩ => exact Fin.ext (by show (x 0).val = (((headRect h).emb x) 0).val / 9 % 64; omega)
    | ⟨1, _⟩ => exact Fin.ext (by show o + (x 1).val = o + (((headRect h).emb x) 1).val % 128; omega)
  · rw [hP]
    show _ ∈ (headRect (y 0).val).set
    rw [LoadRect.mem_set]
    intro a
    match a with
    | ⟨0, _⟩ => exact ⟨t % 64, by show t % 64 < 64; omega, by show (((rect9 t).toLoadRect.idx y) 0).val = (y 0).val % 8 + 9 * (t % 64); omega⟩
    | ⟨1, _⟩ => exact ⟨(y 1).val, hy1, by show (((rect9 t).toLoadRect.idx y) 1).val = 0 + 1 * (y 1).val; omega⟩

end Cert.KernelIdeal.Hand

end
-- ==== Proof.KernelIdeal.Chunk.lean ====
/-
  One chunk of the kernel as a function of the chunk's tokens: the trip's written pieces, with the reads of the scratch
  buffers replaced by what was written into them.
-/
module

public import proofs.«01_k».proof.Proof.KernelIdeal.SpecTrip
public import proofs.«01_k».proof.Proof.KernelIdeal.Reads

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- A chunk's tokens: queries, keys, the two halves of the values, gates. -/
structure ChunkIn (F : FTy → Type) where
  q : Toks F .bf16
  k : Toks F .bf16
  v0 : Toks F .bf16
  v1 : Toks F .bf16
  g : Toks F .f32

namespace ChunkIn
variable (D : ChunkIn F)

/-- Each head's largest scaled query and key magnitude over 448. -/
def xq : FVec F S8x1 .f32 := headMax (qRow D.g D.q) (qFac D.g (D.g 0))
def xk : FVec F S8x1 .f32 := headMax (kRow D.g D.k) (kFac D.g)
/-- What the scaled rows are multiplied by before they are coded. -/
def fq : FVec F S8x128 .f32 := codeFac0 (qFac D.g (D.g 0)) (invOf D.xq)
def fk : FVec F S8x128 .f32 := codeFac0 (kFac D.g) (invOf D.xk)
/-- The scaled rows, read back from scratch. -/
def rq (t : ℕ) : FVec F S8x128 .f32 := qRow D.g D.q (t % 64)
def rk (t : ℕ) : FVec F S8x128 .f32 := kRow D.g D.k (t % 64)
/-- The codes of four tokens, and a token's row read back from its codes. -/
def cq : ℕ → FVec F S32x128 .fp8e4m3 := codesOf D.rq D.fq
def ck : ℕ → FVec F S32x128 .fp8e4m3 := codesOf D.rk D.fk
def dq : ℕ → FVec F S8x128 .f32 := decRow D.rq D.fq (wide (scaleOf D.xq))
def dk : ℕ → FVec F S8x128 .f32 := decRow D.rk D.fk (wide (scaleOf D.xk))

end ChunkIn

/-- A head's state. -/
def stateAt (S : FVec F S1x8x128x256 .f32) (h : ℕ) : FVec F S1x1x128x256 .f32 := fun y : S1x1x128x256.Idx => S (ix4 (0 : Fin 1) ⟨h % 8, by omega⟩ (y 2) (y 3))

namespace ChunkIn
variable (D : ChunkIn F)

/-- A head's outputs and next state, from the state before the chunk. -/
def out (S : FVec F S1x8x128x256 .f32) (h : ℕ) : FVec F S64x256 .f32 :=
  outOf (headOf (qRow D.g D.q) h) (headOf (kRow D.g D.k) h) (headOf D.dq h) (headOf (vRow D.v0) h) (headOf (vRow D.v1) h) (stateAt S h)
def next (S : FVec F S1x8x128x256 .f32) (h : ℕ) : FVec F S1x1x128x256 .f32 :=
  nextState (decayOf D.g (D.g 0)) h (headOf D.dk h) (headOf (vRow D.v0) h) (headOf (vRow D.v1) h) (stateAt S h)
/-- A token's outputs, the half that starts at lane `o`. -/
def row (S : FVec F S1x8x128x256 .f32) (o : ℕ) (ho : o ≤ 128) (t : ℕ) : FVec F S8x128 .f32 :=
  fun y : S8x128.Idx => D.out S (y 0).val (ix2 ⟨t % 64, by omega⟩ ⟨o + (y 1).val, by have := (y 1).isLt; simp at this; omega⟩)

end ChunkIn

variable (c : Dev nD) (k : Fin k0_t1_loop.trips)

theorem tok0_eq (M : Memref sig .tc .vmem S1x512x8x128 .f32) (f : Bf (F := F) c M) : tok0 c M f k = toks c M f k 0 := by
  unfold tok0 toks
  have e : k0_off2 k = k0_off1 k (BitVec.ofNat 32 (0 % 64)) := by
    funext a
    match a with
    | ⟨0, _⟩ => rfl
    | ⟨1, _⟩ => exact (by decide +kernel : ∀ k : Fin 8, k0_off2 k 1 = k0_off1 k (BitVec.ofNat 32 (0 % 64)) 1) k
    | ⟨2, _⟩ => rfl
    | ⟨3, _⟩ => rfl
  congr 3

theorem read_state (M : Memref sig .tc .vmem S1x8x128x256 .f32) (f : Bf (F := F) c M) (h : ℕ) :
    View.readAt (Elt F) M.view (stateRect h).toLoadRect f = stateAt (M.view.read (Elt F) f) h := by
  funext y
  rw [View.readAt_apply]
  unfold stateAt
  congr 1
  funext a
  match a with
  | ⟨0, _⟩ => exact Fin.ext (by have : (y 0).val < 1 := (y 0).isLt; show 0 + 1 * (y 0).val = 0; omega)
  | ⟨1, _⟩ => exact Fin.ext (by have : (y 1).val < 1 := (y 1).isLt; show h % 8 + 1 * (y 1).val = h % 8; omega)
  | ⟨2, _⟩ => exact Fin.ext (by show 0 + 1 * (y 2).val = (y 2).val; omega)
  | ⟨3, _⟩ => exact Fin.ext (by show 0 + 1 * (y 3).val = (y 3).val; omega)

theorem outLo_eq (O : ℕ → FVec F S64x256 .f32) (h : ℕ) :
    outLo O h = ⟨headRect h, fun y : S64x128.Idx => O h (ix2 (y 0) ⟨0 + (y 1).val, by have := (y 1).isLt; simp at this; omega⟩)⟩ := by
  unfold outLo
  congr 1
  rw [shapeCast_self]
  funext y
  refine extractStridedSlice_apply _ _ _ _ _ fun a => ?_
  match a with
  | ⟨0, _⟩ => show (y 0).val = 0 + (y 0).val; omega
  | ⟨1, _⟩ => rfl
theorem outHi_eq (O : ℕ → FVec F S64x256 .f32) (h : ℕ) :
    outHi O h = ⟨headRect h, fun y : S64x128.Idx => O h (ix2 (y 0) ⟨128 + (y 1).val, by have := (y 1).isLt; simp at this; omega⟩)⟩ := by
  unfold outHi
  congr 1
  rw [shapeCast_self]
  funext y
  refine extractStridedSlice_apply _ _ _ _ _ fun a => ?_
  match a with
  | ⟨0, _⟩ => show (y 0).val = 0 + (y 0).val; omega
  | ⟨1, _⟩ => rfl

set_option maxHeartbeats 1000000 in
theorem trip_chunk (i : grid0.Coords) (arg2 : Memref sig .tc .vmem S1x512x8x128 .bf16) (harg2 : arg2.IsWhole) (arg3 : Memref sig .tc .vmem S1x512x8x128 .bf16) (harg3 : arg3.IsWhole) (arg4 : Memref sig .tc .vmem S1x512x8x128 .bf16) (harg4 : arg4.IsWhole) (arg5 : Memref sig .tc .vmem S1x512x8x128 .bf16) (harg5 : arg5.IsWhole) (arg6 : Memref sig .tc .vmem S1x512x8x128 .f32) (harg6 : arg6.IsWhole) (arg7 : Memref sig .tc .vmem S1x512x8x256 .bf16) (harg7 : arg7.IsWhole) (arg8 : Memref sig .tc .vmem S1x8x128x256 .f32) (harg8 : arg8.IsWhole) (arg9 : Memref sig .tc .vmem S1x4096x128 .fp8e4m3) (harg9 : arg9.IsWhole) (arg10 : Memref sig .tc .vmem S1x8x8 .f32) (harg10 : arg10.IsWhole) (arg11 : Memref sig .tc .vmem S1x4096x128 .fp8e4m3) (harg11 : arg11.IsWhole) (arg12 : Memref sig .tc .vmem S1x8x8 .f32) (harg12 : arg12.IsWhole) (arg13 : Memref sig .tc .vmem S576x128 .f32) (harg13 : arg13.IsWhole) (arg14 : Memref sig .tc .vmem S576x128 .f32) (harg14 : arg14.IsWhole) (arg15 : Memref sig .tc .vmem S576x128 .f32) (harg15 : arg15.IsWhole) (arg16 : Memref sig .tc .vmem S576x128 .f32) (harg16 : arg16.IsWhole) (arg17 : Memref sig .tc .vmem S576x128 .f32) (harg17 : arg17.IsWhole) (arg18 : Memref sig .tc .vmem S576x128 .f32) (harg18 : arg18.IsWhole) (arg19 : Memref sig .tc .vmem S576x128 .f32) (harg19 : arg19.IsWhole) (arg20 : Memref sig .tc .vmem S576x128 .f32) (harg20 : arg20.IsWhole)
    (f2 : Bf (F := F) c arg2) (f3 : Bf (F := F) c arg3) (f4 : Bf (F := F) c arg4) (f5 : Bf (F := F) c arg5) (f6 : Bf (F := F) c arg6) (f8 : Bf (F := F) c arg8) (D : ChunkIn F)
    (hq : toks c arg2 f2 k = D.q) (hk : toks c arg3 f3 k = D.k) (hv0 : toks c arg4 f4 k = D.v0) (hv1 : toks c arg5 f5 k = D.v1) (hg : toks c arg6 f6 k = D.g) :
    (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f8 k).1 =
      ⟨stack2 (tokLo k (D.row (arg8.view.read (Elt F) f8) 0 (by decide))) (tokHi k (D.row (arg8.view.read (Elt F) f8) 128 (by decide))) 64,
        stack (statePiece (D.next (arg8.view.read (Elt F) f8))) 8, stack (codePiece k D.cq) 16,
        [⟨Rect.unit (s := S1x8x8) (k0_off3 k) S1x1x8.size (k0_off3_inb k), scaleRow D.xq⟩], stack (codePiece k D.ck) 16,
        [⟨Rect.unit (s := S1x8x8) (k0_off3 k) S1x1x8.size (k0_off3_inb k), scaleRow D.xk⟩]⟩ := by
  have eq1 : trip.sl.r_301 c arg6 f6 k = qFac D.g (D.g 0) := by
    rw [show trip.sl.r_301 c arg6 f6 k = k0_pay679 (trip.sl.r_65 c arg6 f6 k) from rfl, midG, tok0_eq, hg]; rfl
  have eq2 : trip.sl.r_302 c arg6 f6 k = kFac D.g := by
    rw [show trip.sl.r_302 c arg6 f6 k = k0_pay680 (trip.sl.r_32 c arg6 f6 k) from rfl, lastG, hg]; rfl
  have eq3 : trip.sl.r_321 c arg2 arg6 f2 f6 k = wide (scaleOf D.xq) := by
    rw [show trip.sl.r_321 c arg2 arg6 f2 f6 k = k0_pay748 (trip.sl.r_312 c arg2 arg6 f2 f6 k) from rfl, scQ, tok0_eq, hg, hq]; rfl
  have lo := fun O : ℕ → FVec F S64x256 .f32 => fun t => read_outs arg19.view (outLo O) 0 (by decide) O (outLo_eq O) t
  have hi := fun O : ℕ → FVec F S64x256 .f32 => fun t => read_outs arg20.view (outHi O) 128 (by decide) O (outHi_eq O) t
  rw [trip_lists, outLoL, outHiL, stateL]
  simp only [lo, hi]
  simp only [codesQ, codesK, decQ, decK, rowsQ, rowsK, rowsV0, rowsV1, scaleQ, scaleK, decayG, read_rows9, read_head, read_state, tok0_eq, eq1, eq2, eq3, scK, inQ, inK, hq, hk, hv0, hv1, hg]
  rfl

end Cert.KernelIdeal.Hand

end
-- ==== Proof.KernelIdeal.Fills.lean ====
/-
  What the result blocks hold after some trips of the loop: each trip fills its chunk's part of a block and leaves the rest.
-/
module

public import proofs.«01_k».proof.Proof.KernelIdeal.Chunk

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- Reading after pieces that agree with one function, at an index some piece covers or whose contents agreed before. -/
theorem read_writes_fill {S : Shape} {e : EltTy} {sp : Space} (v : View sig .tc sp S e) (f : v.ty.Idx → Elt F v.ty.elt) (L : List (View.Piece (Elt F) S e))
    (G : S.Idx → Elt F e) (hG : ∀ p ∈ L, ∀ x : p.1.shape.Idx, p.2 x = G (p.1.emb x)) (y : S.Idx)
    (h : (∃ p ∈ L, y ∈ p.1.set) ∨ v.read (Elt F) f y = G y) : v.read (Elt F) (v.writes (Elt F) f L) y = G y := by
  by_cases hc : ∃ p ∈ L, y ∈ p.1.set
  · rw [View.read_writes_apply_eq_canon v f y L hc, View.canon_apply_of_pieces G L hG y hc]
  · refine Eq.trans ?_ (h.resolve_left hc)
    induction L with
    | nil => rfl
    | cons p L ih =>
      rw [View.writes_cons, View.read_slice_write_of_not_mem]
      · exact ih (fun q hq => hG q (List.mem_cons_of_mem _ hq)) (h.imp (fun ⟨q, hq, hy⟩ => (hc ⟨q, List.mem_cons.mpr ((List.mem_cons.mp hq)), hy⟩).elim) id) (fun ⟨q, hq, hy⟩ => hc ⟨q, List.mem_cons_of_mem _ hq, hy⟩)
      · exact fun hy => hc ⟨p, List.mem_cons_self, by rw [← Rect.map_emb_univ]; exact hy⟩

theorem off5_at (k : Fin k0_t1_loop.trips) (t : ℕ) : k0_off5 k (BitVec.ofNat 32 (t % 64)) 1 = 64 * k.val + t % 64 :=
  (by decide +kernel : ∀ (k : Fin 8) (t : Fin 64), k0_off5 k (BitVec.ofNat 32 t.val) 1 = 64 * k.val + t.val) k ⟨t % 64, Nat.mod_lt _ (by decide)⟩
theorem off6_at (k : Fin k0_t1_loop.trips) (t : ℕ) : k0_off6 k (BitVec.ofNat 32 (t % 64)) 1 = 64 * k.val + t % 64 :=
  (by decide +kernel : ∀ (k : Fin 8) (t : Fin 64), k0_off6 k (BitVec.ofNat 32 t.val) 1 = 64 * k.val + t.val) k ⟨t % 64, Nat.mod_lt _ (by decide)⟩
theorem off4_at (k : Fin k0_t1_loop.trips) (j : ℕ) : k0_off4 k (BitVec.ofNat 32 (4 * (j % 16))) 1 = 512 * k.val + 32 * (j % 16) :=
  (by decide +kernel : ∀ (k : Fin 8) (j : Fin 16), k0_off4 k (BitVec.ofNat 32 (4 * j.val)) 1 = 512 * k.val + 32 * j.val) k ⟨j % 16, Nat.mod_lt _ (by decide)⟩
theorem off3_at (k : Fin k0_t1_loop.trips) : k0_off3 k 1 = k.val :=
  (by decide +kernel : ∀ (k : Fin 8), k0_off3 k 1 = k.val) k

variable (D : ℕ → ChunkIn F) (S : ℕ → FVec F S1x8x128x256 .f32)

/-- The output, code and scale blocks, from each chunk's tokens and the state before it. -/
def oF (y : S1x512x8x256.Idx) : F .bf16 :=
  truncf .bf16 ((D ((y 1).val / 64)).out (S ((y 1).val / 64)) (y 2).val) bitsLt_bf16_f32 (ix2 ⟨(y 1).val % 64, by omega⟩ (y 3))
def codeF (C : ℕ → ℕ → FVec F S32x128 .fp8e4m3) (y : S1x4096x128.Idx) : F .fp8e4m3 :=
  C ((y 1).val / 512) ((y 1).val % 512 / 32) (ix2 ⟨(y 1).val % 32, by omega⟩ (y 2))
def scaleF (x : ℕ → FVec F S8x1 .f32) (y : S1x8x8.Idx) : F .f32 := scaleRow (x (y 1).val) (ix3 (0 : Fin 1) (0 : Fin 1) (y 2))

theorem code_fill (v : View sig .tc .vmem S1x4096x128 .fp8e4m3) (f : v.ty.Idx → Elt F v.ty.elt) (k : Fin k0_t1_loop.trips) (C : ℕ → ℕ → FVec F S32x128 .fp8e4m3)
    (h : ∀ y : S1x4096x128.Idx, (y 1).val < 512 * k.val → v.read (Elt F) f y = codeF C y) (y : S1x4096x128.Idx) (hy : (y 1).val < 512 * (k.val + 1)) :
    v.read (Elt F) (v.writes (Elt F) f (stack (codePiece k (C k.val)) 16)) y = codeF C y := by
  have hy0 : (y 0).val < 1 := (y 0).isLt
  have hy2 : (y 2).val < 128 := (y 2).isLt
  refine read_writes_fill v f _ (codeF C) ?_ y ?_
  · intro p hp
    obtain ⟨j, hj, rfl⟩ := (mem_stack _ _ _).mp hp
    intro (x : S1x32x128.Idx)
    have hx0 : (x 0).val < 1 := (x 0).isLt
    have hx1 : (x 1).val < 32 := (x 1).isLt
    have e1 : (((codePiece k (C k.val) j).1.emb x) 1).val = 512 * k.val + 32 * (j % 16) + (x 1).val := by
      rw [← off4_at]; show k0_off4 k _ 1 + 1 * (x 1).val = k0_off4 k _ 1 + (x 1).val; omega
    have e2 : (((codePiece k (C k.val) j).1.emb x) 2).val = (x 2).val := by show 0 + 1 * (x 2).val = _; omega
    show shapeCast S1x32x128 (C k.val j) shapeCasts_S32x128_S1x32x128 x = C ((((codePiece k (C k.val) j).1.emb x) 1).val / 512) ((((codePiece k (C k.val) j).1.emb x) 1).val % 512 / 32) _
    rw [show (((codePiece k (C k.val) j).1.emb x) 1).val / 512 = k.val by omega, show (((codePiece k (C k.val) j).1.emb x) 1).val % 512 / 32 = j by omega,
      shapeCast_apply _ _ x (ix2 (n0 := 32) (n1 := 128) (x 1) (x 2))]
    · congr 1
      funext a
      match a with
      | ⟨0, _⟩ => exact Fin.ext (by show (x 1).val = (((codePiece k (C k.val) j).1.emb x) 1).val % 32; omega)
      | ⟨1, _⟩ => exact Fin.ext e2.symm
    · rw [Shape.rowMajor_val_two, Shape.rowMajor_val_three]
      show (x 1).val * 128 + (x 2).val = ((x 0).val * 32 + (x 1).val) * 128 + (x 2).val
      omega
  · by_cases hk : (y 1).val < 512 * k.val
    · exact .inr (h y hk)
    · refine .inl ⟨_, (mem_stack _ _ _).mpr ⟨((y 1).val - 512 * k.val) / 32, by omega, rfl⟩, ?_⟩
      refine (Rect.mem_set_unit (inb := k0_off4_inb k ⟨((y 1).val - 512 * k.val) / 32 % 16, Nat.mod_lt _ (by decide)⟩)).mpr fun a => ?_
      match a with
      | ⟨0, _⟩ => exact ⟨Nat.zero_le _, by show (y 0).val < 0 + 1; omega⟩
      | ⟨1, _⟩ =>
        show k0_off4 k _ 1 ≤ (y 1).val ∧ (y 1).val < k0_off4 k _ 1 + 32
        rw [off4_at]; omega
      | ⟨2, _⟩ => exact ⟨Nat.zero_le _, by show (y 2).val < 0 + 128; omega⟩

theorem scale_fill (v : View sig .tc .vmem S1x8x8 .f32) (f : v.ty.Idx → Elt F v.ty.elt) (k : Fin k0_t1_loop.trips) (x : ℕ → FVec F S8x1 .f32)
    (h : ∀ y : S1x8x8.Idx, (y 1).val < k.val → v.read (Elt F) f y = scaleF x y) (y : S1x8x8.Idx) (hy : (y 1).val < k.val + 1) :
    v.read (Elt F) (v.writes (Elt F) f [⟨Rect.unit (s := S1x8x8) (k0_off3 k) S1x1x8.size (k0_off3_inb k), scaleRow (x k.val)⟩]) y = scaleF x y := by
  have hy0 : (y 0).val < 1 := (y 0).isLt
  have hy2 : (y 2).val < 8 := (y 2).isLt
  refine read_writes_fill v f _ (scaleF x) ?_ y ?_
  · intro p hp
    obtain rfl := List.mem_singleton.mp hp
    intro (z : S1x1x8.Idx)
    have hz0 : (z 0).val < 1 := (z 0).isLt
    have hz1 : (z 1).val < 1 := (z 1).isLt
    have e1 : (((Rect.unit (s := S1x8x8) (k0_off3 k) S1x1x8.size (k0_off3_inb k)).emb z) 1).val = k.val := by
      refine Eq.trans ?_ (off3_at k); show k0_off3 k 1 + 1 * (z 1).val = k0_off3 k 1; omega
    show scaleRow (x k.val) z = scaleRow (x (((Rect.unit (s := S1x8x8) (k0_off3 k) S1x1x8.size (k0_off3_inb k)).emb z) 1).val) _
    rw [e1]
    congr 1
    funext a
    match a with
    | ⟨0, _⟩ => exact Fin.ext (by show (z 0).val = 0; omega)
    | ⟨1, _⟩ => exact Fin.ext (by show (z 1).val = 0; omega)
    | ⟨2, _⟩ => exact Fin.ext (by show (z 2).val = 0 + 1 * (z 2).val; omega)
  · by_cases hk : (y 1).val < k.val
    · exact .inr (h y hk)
    · refine .inl ⟨_, List.mem_singleton.mpr rfl, ?_⟩
      refine (Rect.mem_set_unit (inb := k0_off3_inb k)).mpr fun a => ?_
      match a with
      | ⟨0, _⟩ => exact ⟨Nat.zero_le _, by show (y 0).val < 0 + 1; omega⟩
      | ⟨1, _⟩ =>
        show k0_off3 k 1 ≤ (y 1).val ∧ (y 1).val < k0_off3 k 1 + 1
        rw [off3_at]; omega
      | ⟨2, _⟩ => exact ⟨Nat.zero_le _, by show (y 2).val < 0 + 8; omega⟩

theorem state_fill (v : View sig .tc .vmem S1x8x128x256 .f32) (f : v.ty.Idx → Elt F v.ty.elt) (N : ℕ → FVec F S1x1x128x256 .f32) :
    v.read (Elt F) (v.writes (Elt F) f (stack (statePiece N) 8)) = fun y : S1x8x128x256.Idx => N (y 1).val (ix4 (0 : Fin 1) (0 : Fin 1) (y 2) (y 3)) := by
  funext y
  have hy0 : (y 0).val < 1 := (y 0).isLt
  have hy1 : (y 1).val < 8 := (y 1).isLt
  have hy2 : (y 2).val < 128 := (y 2).isLt
  have hy3 : (y 3).val < 256 := (y 3).isLt
  refine read_writes_fill v f _ (fun y : S1x8x128x256.Idx => N (y 1).val (ix4 (0 : Fin 1) (0 : Fin 1) (y 2) (y 3))) ?_ y (.inl ?_)
  · intro p hp
    obtain ⟨j, hj, rfl⟩ := (mem_stack _ _ _).mp hp
    intro x
    have hx0 : (x 0).val < 1 := (x 0).isLt
    have hx1 : (x 1).val < 1 := (x 1).isLt
    have e1 : (((stateRect j).emb x) 1).val = j := by show j % 8 + 1 * (x 1).val = _; omega
    show N j x = N (((stateRect j).emb x) 1).val _
    rw [e1]
    congr 1
    funext a
    match a with
    | ⟨0, _⟩ => exact Fin.ext (by show (x 0).val = 0; omega)
    | ⟨1, _⟩ => exact Fin.ext (by show (x 1).val = 0; omega)
    | ⟨2, _⟩ => exact Fin.ext (by show (x 2).val = 0 + 1 * (x 2).val; omega)
    | ⟨3, _⟩ => exact Fin.ext (by show (x 3).val = 0 + 1 * (x 3).val; omega)
  · refine ⟨_, (mem_stack _ _ _).mpr ⟨(y 1).val, hy1, rfl⟩, ?_⟩
    show y ∈ (stateRect (y 1).val).set
    rw [Rect.mem_set_unit]
    intro a
    match a with
    | ⟨0, _⟩ => exact ⟨Nat.zero_le _, by show (y 0).val < 0 + 1; omega⟩
    | ⟨1, _⟩ => show (y 1).val % 8 ≤ (y 1).val ∧ (y 1).val < (y 1).val % 8 + 1; omega
    | ⟨2, _⟩ => exact ⟨Nat.zero_le _, by show (y 2).val < 0 + 128; omega⟩
    | ⟨3, _⟩ => exact ⟨Nat.zero_le _, by show (y 3).val < 0 + 256; omega⟩

theorem out_fill (v : View sig .tc .vmem S1x512x8x256 .bf16) (f : v.ty.Idx → Elt F v.ty.elt) (k : Fin k0_t1_loop.trips)
    (h : ∀ y : S1x512x8x256.Idx, (y 1).val < 64 * k.val → v.read (Elt F) f y = oF D S y) (y : S1x512x8x256.Idx) (hy : (y 1).val < 64 * (k.val + 1)) :
    v.read (Elt F) (v.writes (Elt F) f (stack2 (tokLo k ((D k.val).row (S k.val) 0 (by decide))) (tokHi k ((D k.val).row (S k.val) 128 (by decide))) 64)) y = oF D S y := by
  have hy0 : (y 0).val < 1 := (y 0).isLt
  have hy2 : (y 2).val < 8 := (y 2).isLt
  have hy3 : (y 3).val < 256 := (y 3).isLt
  refine read_writes_fill v f _ (oF D S) ?_ y ?_
  · intro p hp
    obtain ⟨t, ht, hp⟩ := (mem_stack2 _ _ _ _).mp hp
    rcases hp with rfl | rfl
    · intro (x : S1x1x8x128.Idx)
      have hx0 : (x 0).val < 1 := (x 0).isLt
      have hx1 : (x 1).val < 1 := (x 1).isLt
      have hx2 : (x 2).val < 8 := (x 2).isLt
      have hx3 : (x 3).val < 128 := (x 3).isLt
      have e1 : (((tokLo k ((D k.val).row (S k.val) 0 (by decide)) t).1.emb x) 1).val = 64 * k.val + t % 64 := by
        rw [← off5_at]; show k0_off5 k _ 1 + 1 * (x 1).val = k0_off5 k _ 1; omega
      have e2 : (((tokLo k ((D k.val).row (S k.val) 0 (by decide)) t).1.emb x) 2).val = (x 2).val := by show 0 + 1 * (x 2).val = _; omega
      have e3 : (((tokLo k ((D k.val).row (S k.val) 0 (by decide)) t).1.emb x) 3).val = 0 + (x 3).val := by show 0 + 1 * (x 3).val = _; omega
      show shapeCast S1x1x8x128 (truncf .bf16 ((D k.val).row (S k.val) 0 (by decide) t) bitsLt_bf16_f32) shapeCasts_S8x128_S1x1x8x128 x = oF D S _
      unfold oF
      rw [show (((tokLo k ((D k.val).row (S k.val) 0 (by decide)) t).1.emb x) 1).val / 64 = k.val by omega, e2,
        shapeCast_apply _ _ x (ix2 (n0 := 8) (n1 := 128) (x 2) (x 3))]
      · show truncf .bf16 ((D k.val).out (S k.val) (x 2).val) bitsLt_bf16_f32 (ix2 ⟨t % 64, _⟩ ⟨0 + (x 3).val, _⟩) = _
        congr 1
        funext a
        match a with
        | ⟨0, _⟩ => exact Fin.ext (by show t % 64 = (((tokLo k ((D k.val).row (S k.val) 0 (by decide)) t).1.emb x) 1).val % 64; omega)
        | ⟨1, _⟩ => exact Fin.ext e3.symm
      · rw [Shape.rowMajor_val_two, Shape.rowMajor_val_four]
        show (x 2).val * 128 + (x 3).val = (((x 0).val * 1 + (x 1).val) * 8 + (x 2).val) * 128 + (x 3).val
        omega
    · intro (x : S1x1x8x128.Idx)
      have hx0 : (x 0).val < 1 := (x 0).isLt
      have hx1 : (x 1).val < 1 := (x 1).isLt
      have hx2 : (x 2).val < 8 := (x 2).isLt
      have hx3 : (x 3).val < 128 := (x 3).isLt
      have e1 : (((tokHi k ((D k.val).row (S k.val) 128 (by decide)) t).1.emb x) 1).val = 64 * k.val + t % 64 := by
        rw [← off6_at]; show k0_off6 k _ 1 + 1 * (x 1).val = k0_off6 k _ 1; omega
      have e2 : (((tokHi k ((D k.val).row (S k.val) 128 (by decide)) t).1.emb x) 2).val = (x 2).val := by show 0 + 1 * (x 2).val = _; omega
      have e3 : (((tokHi k ((D k.val).row (S k.val) 128 (by decide)) t).1.emb x) 3).val = 128 + (x 3).val := by show 128 + 1 * (x 3).val = _; omega
      show shapeCast S1x1x8x128 (truncf .bf16 ((D k.val).row (S k.val) 128 (by decide) t) bitsLt_bf16_f32) shapeCasts_S8x128_S1x1x8x128 x = oF D S _
      unfold oF
      rw [show (((tokHi k ((D k.val).row (S k.val) 128 (by decide)) t).1.emb x) 1).val / 64 = k.val by omega, e2,
        shapeCast_apply _ _ x (ix2 (n0 := 8) (n1 := 128) (x 2) (x 3))]
      · show truncf .bf16 ((D k.val).out (S k.val) (x 2).val) bitsLt_bf16_f32 (ix2 ⟨t % 64, _⟩ ⟨128 + (x 3).val, _⟩) = _
        congr 1
        funext a
        match a with
        | ⟨0, _⟩ => exact Fin.ext (by show t % 64 = (((tokHi k ((D k.val).row (S k.val) 128 (by decide)) t).1.emb x) 1).val % 64; omega)
        | ⟨1, _⟩ => exact Fin.ext e3.symm
      · rw [Shape.rowMajor_val_two, Shape.rowMajor_val_four]
        show (x 2).val * 128 + (x 3).val = (((x 0).val * 1 + (x 1).val) * 8 + (x 2).val) * 128 + (x 3).val
        omega
  · by_cases hk : (y 1).val < 64 * k.val
    · exact .inr (h y hk)
    · by_cases hl : (y 3).val < 128
      · refine .inl ⟨_, (mem_stack2 _ _ _ _).mpr ⟨(y 1).val - 64 * k.val, by omega, .inl rfl⟩, ?_⟩
        refine (Rect.mem_set_unit (inb := k0_off5_inb k ⟨((y 1).val - 64 * k.val) % 64, Nat.mod_lt _ (by decide)⟩)).mpr fun a => ?_
        match a with
        | ⟨0, _⟩ => exact ⟨Nat.zero_le _, by show (y 0).val < 0 + 1; omega⟩
        | ⟨1, _⟩ =>
          show k0_off5 k _ 1 ≤ (y 1).val ∧ (y 1).val < k0_off5 k _ 1 + 1
          rw [off5_at]; omega
        | ⟨2, _⟩ => exact ⟨Nat.zero_le _, by show (y 2).val < 0 + 8; omega⟩
        | ⟨3, _⟩ => exact ⟨Nat.zero_le _, by show (y 3).val < 0 + 128; omega⟩
      · refine .inl ⟨_, (mem_stack2 _ _ _ _).mpr ⟨(y 1).val - 64 * k.val, by omega, .inr rfl⟩, ?_⟩
        refine (Rect.mem_set_unit (inb := k0_off6_inb k ⟨((y 1).val - 64 * k.val) % 64, Nat.mod_lt _ (by decide)⟩)).mpr fun a => ?_
        match a with
        | ⟨0, _⟩ => exact ⟨Nat.zero_le _, by show (y 0).val < 0 + 1; omega⟩
        | ⟨1, _⟩ =>
          show k0_off6 k _ 1 ≤ (y 1).val ∧ (y 1).val < k0_off6 k _ 1 + 1
          rw [off6_at]; omega
        | ⟨2, _⟩ => exact ⟨Nat.zero_le _, by show (y 2).val < 0 + 8; omega⟩
        | ⟨3, _⟩ => show 128 ≤ (y 3).val ∧ (y 3).val < 128 + 128; omega

end Cert.KernelIdeal.Hand

end
-- ==== Proof.KernelIdeal.Loop.lean ====
/-
  The kernel's loop and body with what they compute: the result blocks filled chunk by chunk, the state carried.
-/
module

public import proofs.«01_k».proof.Proof.KernelIdeal.Frame
public import proofs.«01_k».proof.Proof.KernelIdeal.Fills

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- What each result block holds after `N` trips. -/
def P7 (D : ℕ → ChunkIn F) (S : ℕ → FVec F S1x8x128x256 .f32) (N : ℕ) (X : S1x512x8x256.Idx → F .bf16) : Prop := ∀ y : S1x512x8x256.Idx, (y 1).val < 64 * N → X y = oF D S y
def P8 (S : ℕ → FVec F S1x8x128x256 .f32) (N : ℕ) (X : S1x8x128x256.Idx → F .f32) : Prop := X = S N
def PC (C : ℕ → ℕ → FVec F S32x128 .fp8e4m3) (N : ℕ) (X : S1x4096x128.Idx → F .fp8e4m3) : Prop := ∀ y : S1x4096x128.Idx, (y 1).val < 512 * N → X y = codeF C y
def PS (x : ℕ → FVec F S8x1 .f32) (N : ℕ) (X : S1x8x8.Idx → F .f32) : Prop := ∀ y : S1x8x8.Idx, (y 1).val < N → X y = scaleF x y

theorem P7_all {D : ℕ → ChunkIn F} {S : ℕ → FVec F S1x8x128x256 .f32} {X : S1x512x8x256.Idx → F .bf16} (h : P7 D S 8 X) : X = oF D S := funext fun y => h y (show (y 1).val < 512 from (y 1).isLt)
theorem PC_all {C : ℕ → ℕ → FVec F S32x128 .fp8e4m3} {X : S1x4096x128.Idx → F .fp8e4m3} (h : PC C 8 X) : X = codeF C := funext fun y => h y (show (y 1).val < 4096 from (y 1).isLt)
theorem PS_all {x : ℕ → FVec F S8x1 .f32} {X : S1x8x8.Idx → F .f32} (h : PS x 8 X) : X = scaleF x := funext fun y => h y (show (y 1).val < 8 from (y 1).isLt)

/-- The inputs at their contents, each result block filled as far as `N` trips fill it, the scratch buffers at anything. -/
def inv (c : Dev nD) (arg2 : Memref sig .tc .vmem S1x512x8x128 .bf16) (arg3 : Memref sig .tc .vmem S1x512x8x128 .bf16) (arg4 : Memref sig .tc .vmem S1x512x8x128 .bf16) (arg5 : Memref sig .tc .vmem S1x512x8x128 .bf16) (arg6 : Memref sig .tc .vmem S1x512x8x128 .f32) (arg7 : Memref sig .tc .vmem S1x512x8x256 .bf16) (arg8 : Memref sig .tc .vmem S1x8x128x256 .f32) (arg9 : Memref sig .tc .vmem S1x4096x128 .fp8e4m3) (arg10 : Memref sig .tc .vmem S1x8x8 .f32) (arg11 : Memref sig .tc .vmem S1x4096x128 .fp8e4m3) (arg12 : Memref sig .tc .vmem S1x8x8 .f32) (arg13 : Memref sig .tc .vmem S576x128 .f32) (arg14 : Memref sig .tc .vmem S576x128 .f32) (arg15 : Memref sig .tc .vmem S576x128 .f32) (arg16 : Memref sig .tc .vmem S576x128 .f32) (arg17 : Memref sig .tc .vmem S576x128 .f32) (arg18 : Memref sig .tc .vmem S576x128 .f32) (arg19 : Memref sig .tc .vmem S576x128 .f32) (arg20 : Memref sig .tc .vmem S576x128 .f32)
    (f2 : Bf (F := F) c arg2) (f3 : Bf (F := F) c arg3) (f4 : Bf (F := F) c arg4) (f5 : Bf (F := F) c arg5) (f6 : Bf (F := F) c arg6) (D : ℕ → ChunkIn F) (S : ℕ → FVec F S1x8x128x256 .f32) (N : ℕ) : sProp 𝕄 :=
  iprop(pt c arg2 f2 ∗ pt c arg3 f3 ∗ pt c arg4 f4 ∗ pt c arg5 f5 ∗ pt c arg6 f6 ∗ (∃ f, ⌜P7 D S N (arg7.view.read (Elt F) f)⌝ ∗ pt c arg7 f) ∗ (∃ f, ⌜P8 S N (arg8.view.read (Elt F) f)⌝ ∗ pt c arg8 f) ∗ (∃ f, ⌜PC (fun k => (D k).cq) N (arg9.view.read (Elt F) f)⌝ ∗ pt c arg9 f) ∗ (∃ f, ⌜PS (fun k => (D k).xq) N (arg10.view.read (Elt F) f)⌝ ∗ pt c arg10 f) ∗ (∃ f, ⌜PC (fun k => (D k).ck) N (arg11.view.read (Elt F) f)⌝ ∗ pt c arg11 f) ∗ (∃ f, ⌜PS (fun k => (D k).xk) N (arg12.view.read (Elt F) f)⌝ ∗ pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f))

set_option maxHeartbeats 1000000 in
/-- One trip, with what it fills. -/
theorem trip_val (c : Dev nD) (i : grid0.Coords) (arg2 : Memref sig .tc .vmem S1x512x8x128 .bf16) (harg2 : arg2.IsWhole) (arg3 : Memref sig .tc .vmem S1x512x8x128 .bf16) (harg3 : arg3.IsWhole) (arg4 : Memref sig .tc .vmem S1x512x8x128 .bf16) (harg4 : arg4.IsWhole) (arg5 : Memref sig .tc .vmem S1x512x8x128 .bf16) (harg5 : arg5.IsWhole) (arg6 : Memref sig .tc .vmem S1x512x8x128 .f32) (harg6 : arg6.IsWhole) (arg7 : Memref sig .tc .vmem S1x512x8x256 .bf16) (harg7 : arg7.IsWhole) (arg8 : Memref sig .tc .vmem S1x8x128x256 .f32) (harg8 : arg8.IsWhole) (arg9 : Memref sig .tc .vmem S1x4096x128 .fp8e4m3) (harg9 : arg9.IsWhole) (arg10 : Memref sig .tc .vmem S1x8x8 .f32) (harg10 : arg10.IsWhole) (arg11 : Memref sig .tc .vmem S1x4096x128 .fp8e4m3) (harg11 : arg11.IsWhole) (arg12 : Memref sig .tc .vmem S1x8x8 .f32) (harg12 : arg12.IsWhole) (arg13 : Memref sig .tc .vmem S576x128 .f32) (harg13 : arg13.IsWhole) (arg14 : Memref sig .tc .vmem S576x128 .f32) (harg14 : arg14.IsWhole) (arg15 : Memref sig .tc .vmem S576x128 .f32) (harg15 : arg15.IsWhole) (arg16 : Memref sig .tc .vmem S576x128 .f32) (harg16 : arg16.IsWhole) (arg17 : Memref sig .tc .vmem S576x128 .f32) (harg17 : arg17.IsWhole) (arg18 : Memref sig .tc .vmem S576x128 .f32) (harg18 : arg18.IsWhole) (arg19 : Memref sig .tc .vmem S576x128 .f32) (harg19 : arg19.IsWhole) (arg20 : Memref sig .tc .vmem S576x128 .f32) (harg20 : arg20.IsWhole)
    (f2 : Bf (F := F) c arg2) (f3 : Bf (F := F) c arg3) (f4 : Bf (F := F) c arg4) (f5 : Bf (F := F) c arg5) (f6 : Bf (F := F) c arg6)
    (D : ℕ → ChunkIn F) (S : ℕ → FVec F S1x8x128x256 .f32) (hS : ∀ k, S (k + 1) = fun y : S1x8x128x256.Idx => (D k).next (S k) (y 1).val (ix4 (0 : Fin 1) (0 : Fin 1) (y 2) (y 3)))
    (hq : ∀ k : Fin k0_t1_loop.trips, toks c arg2 f2 k = (D k.val).q) (hk : ∀ k : Fin k0_t1_loop.trips, toks c arg3 f3 k = (D k.val).k) (hv0 : ∀ k : Fin k0_t1_loop.trips, toks c arg4 f4 k = (D k.val).v0) (hv1 : ∀ k : Fin k0_t1_loop.trips, toks c arg5 f5 k = (D k.val).v1) (hg : ∀ k : Fin k0_t1_loop.trips, toks c arg6 f6 k = (D k.val).g) (k : Fin k0_t1_loop.trips) (acc : Unit) :
    inv c arg2 arg3 arg4 arg5 arg6 arg7 arg8 arg9 arg10 arg11 arg12 arg13 arg14 arg15 arg16 arg17 arg18 arg19 arg20 f2 f3 f4 f5 f6 D S k.val
      ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k acc) (fun _ => inv c arg2 arg3 arg4 arg5 arg6 arg7 arg8 arg9 arg10 arg11 arg12 arg13 arg14 arg15 arg16 arg17 arg18 arg19 arg20 f2 f3 f4 f5 f6 D S (k.val + 1)) := by
  unfold inv
  iintro ⟨H2, H3, H4, H5, H6, ⟨%f7, %e7, H7⟩, ⟨%f8, %e8, H8⟩, ⟨%f9, %e9, H9⟩, ⟨%f10, %e10, H10⟩, ⟨%f11, %e11, H11⟩, ⟨%f12, %e12, H12⟩, ⟨%f13, H13⟩, ⟨%f14, H14⟩, ⟨%f15, H15⟩, ⟨%f16, H16⟩, ⟨%f17, H17⟩, ⟨%f18, H18⟩, ⟨%f19, H19⟩, ⟨%f20, H20⟩⟩
  have L := trip_chunk c k i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f8 (D k.val) (hq k) (hk k) (hv0 k) (hv1 k) (hg k)
  rw [show arg8.view.read (Elt F) f8 = S k.val from e8] at L
  iapply ((trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f8 k).2 f7 f9 f10 f11 f12 f13 f14 f15 f16 f17 f18 f19 f20 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, H10, H11, H12, H13, H14, H15, H16, H17, H18, H19, H20⟩
  isplitl [H2]; · iexact H2
  isplitl [H3]; · iexact H3
  isplitl [H4]; · iexact H4
  isplitl [H5]; · iexact H5
  isplitl [H6]; · iexact H6
  isplitl [H7]
  · iexists _; isplitr; rotate_left; · iexact H7
    ipureintro; rw [L]; exact fun y hy => out_fill D S arg7.view f7 k e7 y hy
  isplitl [H8]
  · iexists _; isplitr; rotate_left; · iexact H8
    ipureintro; rw [L]; exact (state_fill arg8.view f8 ((D k.val).next (S k.val))).trans (hS k.val).symm
  isplitl [H9]
  · iexists _; isplitr; rotate_left; · iexact H9
    ipureintro; rw [L]; exact fun y hy => code_fill arg9.view f9 k (fun k => (D k).cq) e9 y hy
  isplitl [H10]
  · iexists _; isplitr; rotate_left; · iexact H10
    ipureintro; rw [L]; exact fun y hy => scale_fill arg10.view f10 k (fun k => (D k).xq) e10 y hy
  isplitl [H11]
  · iexists _; isplitr; rotate_left; · iexact H11
    ipureintro; rw [L]; exact fun y hy => code_fill arg11.view f11 k (fun k => (D k).ck) e11 y hy
  isplitl [H12]
  · iexists _; isplitr; rotate_left; · iexact H12
    ipureintro; rw [L]; exact fun y hy => scale_fill arg12.view f12 k (fun k => (D k).xk) e12 y hy
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- A counted loop from an invariant, the loop kept as one value. -/
theorem wp_loop (c : Dev nD) (l : Scf.Loop 32) (hok : l.OK) (body : Fin l.trips → Unit → Prog (TpuEff nD τ sig (Elt F) Λ₀ .tc) Unit) (I : ℕ → sProp 𝕄)
    (h : ∀ (k : Fin l.trips) (acc : Unit), I k.val ⊢ wp frame (wpE (defs₀ (F := F)) Variants.none c none) Set.univ (body k acc) (fun _ => I (k.val + 1))) (Q : Unit → sProp 𝕄) :
    iprop(I 0 ∗ (I l.trips -∗ Q ⟨⟩)) ⊢ wp frame (wpE (defs₀ (F := F)) Variants.none c none) Set.univ (Scf.Loop.for l hok ⟨⟩ body) Q := by
  iintro ⟨H, Hk⟩
  iapply (Scf.wp_for frame (wpE (defs₀ (F := F)) Variants.none c none) Set.univ l.lb l.ub l.st hok () body (fun N _ => I N) h)
  isplitl [H]; · iexact H
  iintro %u H
  iapply Hk
  iexact H

/-- The loop, with what it fills. -/
theorem loop_val (c : Dev nD) (i : grid0.Coords) (arg2 : Memref sig .tc .vmem S1x512x8x128 .bf16) (harg2 : arg2.IsWhole) (arg3 : Memref sig .tc .vmem S1x512x8x128 .bf16) (harg3 : arg3.IsWhole) (arg4 : Memref sig .tc .vmem S1x512x8x128 .bf16) (harg4 : arg4.IsWhole) (arg5 : Memref sig .tc .vmem S1x512x8x128 .bf16) (harg5 : arg5.IsWhole) (arg6 : Memref sig .tc .vmem S1x512x8x128 .f32) (harg6 : arg6.IsWhole) (arg7 : Memref sig .tc .vmem S1x512x8x256 .bf16) (harg7 : arg7.IsWhole) (arg8 : Memref sig .tc .vmem S1x8x128x256 .f32) (harg8 : arg8.IsWhole) (arg9 : Memref sig .tc .vmem S1x4096x128 .fp8e4m3) (harg9 : arg9.IsWhole) (arg10 : Memref sig .tc .vmem S1x8x8 .f32) (harg10 : arg10.IsWhole) (arg11 : Memref sig .tc .vmem S1x4096x128 .fp8e4m3) (harg11 : arg11.IsWhole) (arg12 : Memref sig .tc .vmem S1x8x8 .f32) (harg12 : arg12.IsWhole) (arg13 : Memref sig .tc .vmem S576x128 .f32) (harg13 : arg13.IsWhole) (arg14 : Memref sig .tc .vmem S576x128 .f32) (harg14 : arg14.IsWhole) (arg15 : Memref sig .tc .vmem S576x128 .f32) (harg15 : arg15.IsWhole) (arg16 : Memref sig .tc .vmem S576x128 .f32) (harg16 : arg16.IsWhole) (arg17 : Memref sig .tc .vmem S576x128 .f32) (harg17 : arg17.IsWhole) (arg18 : Memref sig .tc .vmem S576x128 .f32) (harg18 : arg18.IsWhole) (arg19 : Memref sig .tc .vmem S576x128 .f32) (harg19 : arg19.IsWhole) (arg20 : Memref sig .tc .vmem S576x128 .f32) (harg20 : arg20.IsWhole)
    (f2 : Bf (F := F) c arg2) (f3 : Bf (F := F) c arg3) (f4 : Bf (F := F) c arg4) (f5 : Bf (F := F) c arg5) (f6 : Bf (F := F) c arg6)
    (D : ℕ → ChunkIn F) (S : ℕ → FVec F S1x8x128x256 .f32) (hS : ∀ k, S (k + 1) = fun y : S1x8x128x256.Idx => (D k).next (S k) (y 1).val (ix4 (0 : Fin 1) (0 : Fin 1) (y 2) (y 3)))
    (hq : ∀ k : Fin k0_t1_loop.trips, toks c arg2 f2 k = (D k.val).q) (hk : ∀ k : Fin k0_t1_loop.trips, toks c arg3 f3 k = (D k.val).k) (hv0 : ∀ k : Fin k0_t1_loop.trips, toks c arg4 f4 k = (D k.val).v0) (hv1 : ∀ k : Fin k0_t1_loop.trips, toks c arg5 f5 k = (D k.val).v1) (hg : ∀ k : Fin k0_t1_loop.trips, toks c arg6 f6 k = (D k.val).g) (Q : Unit → sProp 𝕄) :
    iprop(pt c arg2 f2 ∗ pt c arg3 f3 ∗ pt c arg4 f4 ∗ pt c arg5 f5 ∗ pt c arg6 f6 ∗ (∃ f, ⌜P7 D S 0 (arg7.view.read (Elt F) f)⌝ ∗ pt c arg7 f) ∗ (∃ f, ⌜P8 S 0 (arg8.view.read (Elt F) f)⌝ ∗ pt c arg8 f) ∗ (∃ f, ⌜PC (fun k => (D k).cq) 0 (arg9.view.read (Elt F) f)⌝ ∗ pt c arg9 f) ∗ (∃ f, ⌜PS (fun k => (D k).xq) 0 (arg10.view.read (Elt F) f)⌝ ∗ pt c arg10 f) ∗ (∃ f, ⌜PC (fun k => (D k).ck) 0 (arg11.view.read (Elt F) f)⌝ ∗ pt c arg11 f) ∗ (∃ f, ⌜PS (fun k => (D k).xk) 0 (arg12.view.read (Elt F) f)⌝ ∗ pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)
      ∗ (inv c arg2 arg3 arg4 arg5 arg6 arg7 arg8 arg9 arg10 arg11 arg12 arg13 arg14 arg15 arg16 arg17 arg18 arg19 arg20 f2 f3 f4 f5 f6 D S 8 -∗ Q ⟨⟩))
    ⊢ wp frame (wpE (defs₀ (F := F)) Variants.none c none) Set.univ
        (Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)) Q := by
  iintro ⟨H2, H3, H4, H5, H6, H7, H8, H9, H10, H11, H12, H13, H14, H15, H16, H17, H18, H19, H20, Hk⟩
  iapply (wp_loop c k0_t1_loop k0_t1_ok (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (inv c arg2 arg3 arg4 arg5 arg6 arg7 arg8 arg9 arg10 arg11 arg12 arg13 arg14 arg15 arg16 arg17 arg18 arg19 arg20 f2 f3 f4 f5 f6 D S) (trip_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 D S hS hq hk hv0 hv1 hg) Q)
  isplitl [H2 H3 H4 H5 H6 H7 H8 H9 H10 H11 H12 H13 H14 H15 H16 H17 H18 H19 H20]
  · unfold inv
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  have e8 : k0_t1_loop.trips = 8 := by decide +kernel
  rw [e8]
  iintro H
  iapply Hk
  iexact H

/-- Anything fills nothing. -/
theorem P7_zero (D : ℕ → ChunkIn F) (S : ℕ → FVec F S1x8x128x256 .f32) (X : S1x512x8x256.Idx → F .bf16) : P7 D S 0 X := fun y hy => absurd hy (Nat.not_lt_zero _)
theorem PC_zero (C : ℕ → ℕ → FVec F S32x128 .fp8e4m3) (X : S1x4096x128.Idx → F .fp8e4m3) : PC C 0 X := fun y hy => absurd hy (Nat.not_lt_zero _)
theorem PS_zero (x : ℕ → FVec F S8x1 .f32) (X : S1x8x8.Idx → F .f32) : PS x 0 X := fun y hy => absurd hy (Nat.not_lt_zero _)

theorem first_iff : ∀ j : Fin 64, (Scalar.cmpi .ne (Scalar.extui (Scalar.cmpi .eq (BitVec.ofNat 32 j.val) 0#32) : BitVec 32) 0#32 = 1#1) ↔ j.val = 0 := by decide +kernel

/-- A state block written whole with zeros. -/
theorem zero_fill (v : View sig .tc .vmem S1x8x128x256 .f32) (f : v.ty.Idx → Elt F v.ty.elt) (L : List (View.Piece (Elt F) S1x8x128x256 .f32))
    (hL : L = [⟨Rect.unit (s := S1x8x128x256) ![0, 0, 0, 0] S1x8x128x256.size inb_S1x8x128x256_S1x8x128x256_0_0_0_0, broadcast S1x8x128x256 (Scalar.ofBits .f32 0x00000000#32)⟩]) :
    v.read (Elt F) (v.writes (Elt F) f L) = broadcast S1x8x128x256 (Scalar.ofBits .f32 0x00000000#32) := by
  subst hL
  funext y
  refine read_writes_fill v f _ (broadcast S1x8x128x256 (Scalar.ofBits .f32 0x00000000#32)) ?_ y (.inl ?_)
  · intro p hp
    obtain rfl := List.mem_singleton.mp hp
    intro x; rfl
  · refine ⟨_, List.mem_singleton.mpr rfl, (Rect.mem_set_unit (inb := inb_S1x8x128x256_S1x8x128x256_0_0_0_0)).mpr fun a => ?_⟩
    have h0 : (y 0).val < 1 := (y 0).isLt
    have h1 : (y 1).val < 8 := (y 1).isLt
    have h2 : (y 2).val < 128 := (y 2).isLt
    have h3 : (y 3).val < 256 := (y 3).isLt
    match a with
    | ⟨0, _⟩ => exact ⟨Nat.zero_le _, by show (y 0).val < 0 + 1; omega⟩
    | ⟨1, _⟩ => exact ⟨Nat.zero_le _, by show (y 1).val < 0 + 8; omega⟩
    | ⟨2, _⟩ => exact ⟨Nat.zero_le _, by show (y 2).val < 0 + 128; omega⟩
    | ⟨3, _⟩ => exact ⟨Nat.zero_le _, by show (y 3).val < 0 + 256; omega⟩

/-- The kernel's body at a grid point, with what it fills: the first point of a sequence starts the state at zero. -/
theorem kernelVal (c : Dev nD) (i : grid0.Coords) (arg2 : Memref sig .tc .vmem S1x512x8x128 .bf16) (harg2 : arg2.IsWhole) (arg3 : Memref sig .tc .vmem S1x512x8x128 .bf16) (harg3 : arg3.IsWhole) (arg4 : Memref sig .tc .vmem S1x512x8x128 .bf16) (harg4 : arg4.IsWhole) (arg5 : Memref sig .tc .vmem S1x512x8x128 .bf16) (harg5 : arg5.IsWhole) (arg6 : Memref sig .tc .vmem S1x512x8x128 .f32) (harg6 : arg6.IsWhole) (arg7 : Memref sig .tc .vmem S1x512x8x256 .bf16) (harg7 : arg7.IsWhole) (arg8 : Memref sig .tc .vmem S1x8x128x256 .f32) (harg8 : arg8.IsWhole) (arg9 : Memref sig .tc .vmem S1x4096x128 .fp8e4m3) (harg9 : arg9.IsWhole) (arg10 : Memref sig .tc .vmem S1x8x8 .f32) (harg10 : arg10.IsWhole) (arg11 : Memref sig .tc .vmem S1x4096x128 .fp8e4m3) (harg11 : arg11.IsWhole) (arg12 : Memref sig .tc .vmem S1x8x8 .f32) (harg12 : arg12.IsWhole) (arg13 : Memref sig .tc .vmem S576x128 .f32) (harg13 : arg13.IsWhole) (arg14 : Memref sig .tc .vmem S576x128 .f32) (harg14 : arg14.IsWhole) (arg15 : Memref sig .tc .vmem S576x128 .f32) (harg15 : arg15.IsWhole) (arg16 : Memref sig .tc .vmem S576x128 .f32) (harg16 : arg16.IsWhole) (arg17 : Memref sig .tc .vmem S576x128 .f32) (harg17 : arg17.IsWhole) (arg18 : Memref sig .tc .vmem S576x128 .f32) (harg18 : arg18.IsWhole) (arg19 : Memref sig .tc .vmem S576x128 .f32) (harg19 : arg19.IsWhole) (arg20 : Memref sig .tc .vmem S576x128 .f32) (harg20 : arg20.IsWhole)
    (f2 : Bf (F := F) c arg2) (f3 : Bf (F := F) c arg3) (f4 : Bf (F := F) c arg4) (f5 : Bf (F := F) c arg5) (f6 : Bf (F := F) c arg6) (f8 : Bf (F := F) c arg8)
    (D : ℕ → ChunkIn F) (S : ℕ → FVec F S1x8x128x256 .f32) (hS : ∀ k, S (k + 1) = fun y : S1x8x128x256.Idx => (D k).next (S k) (y 1).val (ix4 (0 : Fin 1) (0 : Fin 1) (y 2) (y 3)))
    (hq : ∀ k : Fin k0_t1_loop.trips, toks c arg2 f2 k = (D k.val).q) (hk : ∀ k : Fin k0_t1_loop.trips, toks c arg3 f3 k = (D k.val).k) (hv0 : ∀ k : Fin k0_t1_loop.trips, toks c arg4 f4 k = (D k.val).v0) (hv1 : ∀ k : Fin k0_t1_loop.trips, toks c arg5 f5 k = (D k.val).v1) (hg : ∀ k : Fin k0_t1_loop.trips, toks c arg6 f6 k = (D k.val).g)
    (h0 : (i 1).val = 0 → S 0 = broadcast S1x8x128x256 (Scalar.ofBits .f32 0x00000000#32)) (h8 : (i 1).val ≠ 0 → arg8.view.read (Elt F) f8 = S 0) (Q : Unit → sProp 𝕄) :
    iprop(pt c arg2 f2 ∗ pt c arg3 f3 ∗ pt c arg4 f4 ∗ pt c arg5 f5 ∗ pt c arg6 f6 ∗ (∃ f, pt c arg7 f) ∗ pt c arg8 f8 ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)
      ∗ (inv c arg2 arg3 arg4 arg5 arg6 arg7 arg8 arg9 arg10 arg11 arg12 arg13 arg14 arg15 arg16 arg17 arg18 arg19 arg20 f2 f3 f4 f5 f6 D S 8 -∗ Q ⟨⟩))
    ⊢ wp frame (wpE (defs₀ (F := F)) Variants.none c none) Set.univ
        (cc0_chunked_gla i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
  simp only [cc0_chunked_gla_eq_skeleton]; unfold cc0_chunked_gla_skel
  iintro ⟨H2, H3, H4, H5, H6, ⟨%f7, H7⟩, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, Hk⟩
  by_cases h1 : Scalar.cmpi .ne (Scalar.extui (Scalar.cmpi .eq (BitVec.ofNat 32 (i 1).val) 0#32) : BitVec 32) 0#32 = 1#1
  · simp only [h1, dite_true, dite_false, reduceDIte]
    sl_exec
    rw [wp_bind]
    iapply (loop_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 D S hS hq hk hv0 hv1 hg _)
    isplitl [H2]; · iexact H2
    isplitl [H3]; · iexact H3
    isplitl [H4]; · iexact H4
    isplitl [H5]; · iexact H5
    isplitl [H6]; · iexact H6
    isplitl [H7]
    · iexists _; isplitr; rotate_left; · iexact H7
      ipureintro; exact P7_zero _ _ _
    isplitl [H8]
    · iexists _; isplitr; rotate_left; · iexact H8
      ipureintro; exact (zero_fill arg8.view _ _ rfl).trans (h0 ((first_iff (i 1)).mp h1)).symm
    isplitl [H9]
    · iexists _; isplitr; rotate_left; · iexact H9
      ipureintro; exact PC_zero _ _
    isplitl [H10]
    · iexists _; isplitr; rotate_left; · iexact H10
      ipureintro; exact PS_zero _ _
    isplitl [H11]
    · iexists _; isplitr; rotate_left; · iexact H11
      ipureintro; exact PC_zero _ _
    isplitl [H12]
    · iexists _; isplitr; rotate_left; · iexact H12
      ipureintro; exact PS_zero _ _
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iintro H
    sl_step
    iapply Hk
    iexact H
  · simp only [h1, dite_true, dite_false, reduceDIte]
    sl_exec
    rw [wp_bind]
    iapply (loop_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 D S hS hq hk hv0 hv1 hg _)
    isplitl [H2]; · iexact H2
    isplitl [H3]; · iexact H3
    isplitl [H4]; · iexact H4
    isplitl [H5]; · iexact H5
    isplitl [H6]; · iexact H6
    isplitl [H7]
    · iexists _; isplitr; rotate_left; · iexact H7
      ipureintro; exact P7_zero _ _ _
    isplitl [H8]
    · iexists _; isplitr; rotate_left; · iexact H8
      ipureintro; exact h8 fun e => h1 ((first_iff (i 1)).mpr e)
    isplitl [H9]
    · iexists _; isplitr; rotate_left; · iexact H9
      ipureintro; exact PC_zero _ _
    isplitl [H10]
    · iexists _; isplitr; rotate_left; · iexact H10
      ipureintro; exact PS_zero _ _
    isplitl [H11]
    · iexists _; isplitr; rotate_left; · iexact H11
      ipureintro; exact PC_zero _ _
    isplitl [H12]
    · iexists _; isplitr; rotate_left; · iexact H12
      ipureintro; exact PS_zero _ _
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iintro H
    sl_step
    iapply Hk
    iexact H

end Cert.KernelIdeal.Hand

end
-- ==== Proof.KernelIdeal.Value.lean ====
/-
  The run of the kernel with its result arrays: each chunk's codes and scales, its outputs and the state carried along
  the chunks of a sequence, as functions of the argument arrays.
-/
module

public import proofs.«01_k».proof.Proof.KernelIdeal.Loop
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- Chunk `n` of sequence `b` of an array, token by token; of an array twice as wide, the half from lane `o`. -/
def tokOf {α : Type} (A : S2x32768x8x128.Idx → α) (b n t : ℕ) : S1x1x8x128.Idx → α :=
  fun y => A (ix4 ⟨b % 2, by omega⟩ ⟨(64 * n + t % 64) % 32768, by omega⟩ (y 2) (y 3))
def tokHalf {α : Type} (A : S2x32768x8x256.Idx → α) (o : ℕ) (ho : o ≤ 128) (b n t : ℕ) : S1x1x8x128.Idx → α :=
  fun y => A (ix4 ⟨b % 2, by omega⟩ ⟨(64 * n + t % 64) % 32768, by omega⟩ (y 2) ⟨o + (y 3).val, by have := (y 3).isLt; simp at this; omega⟩)

/-- A chunk's tokens, out of the argument arrays. -/
def chunkOf (Q K : S2x32768x8x128.Idx → F .bf16) (W : S2x32768x8x256.Idx → F .bf16) (G : S2x32768x8x128.Idx → F .f32) (b n : ℕ) : ChunkIn F :=
  ⟨tokOf Q b n, tokOf K b n, tokHalf W 0 (by decide) b n, tokHalf W 128 (by decide) b n, tokOf G b n⟩

/-- The state before chunk `n`, and after it. -/
def stateOf (D : ℕ → ChunkIn F) (n : ℕ) : FVec F S1x8x128x256 .f32 :=
  Nat.rec (broadcast S1x8x128x256 (Scalar.ofBits .f32 0x00000000#32))
    (fun n S => fun y : S1x8x128x256.Idx => (D n).next S (y 1).val (ix4 (0 : Fin 1) (0 : Fin 1) (y 2) (y 3))) n

theorem toks_read (c : Dev nD) (k : Fin k0_t1_loop.trips) {e : EltTy} (M : Memref sig .tc .vmem S1x512x8x128 e) (f : Bf (F := F) c M) (t : ℕ) (y : S1x1x8x128.Idx) :
    toks c M f k t y = M.view.read (Elt F) f (ix4 (0 : Fin 1) ⟨(64 * k.val + t % 64) % 512, by omega⟩ (y 2) (y 3)) := by
  unfold toks
  rw [View.readAt_apply]
  congr 1
  have hk : k.val < 8 := k.isLt
  have e : k0_off1 k (BitVec.ofNat 32 (t % 64)) 1 = 64 * k.val + t % 64 :=
    (by decide +kernel : ∀ (k : Fin 8) (t : Fin 64), k0_off1 k (BitVec.ofNat 32 t.val) 1 = 64 * k.val + t.val) k ⟨t % 64, Nat.mod_lt _ (by decide)⟩
  funext a
  match a with
  | ⟨0, _⟩ => exact Fin.ext (by have : (y 0).val < 1 := (y 0).isLt; show 0 + 1 * (y 0).val = 0; omega)
  | ⟨1, _⟩ => exact Fin.ext (by have : (y 1).val < 1 := (y 1).isLt; show k0_off1 k _ 1 + 1 * (y 1).val = (64 * k.val + t % 64) % 512; rw [e]; omega)
  | ⟨2, _⟩ => exact Fin.ext (by show 0 + 1 * (y 2).val = (y 2).val; omega)
  | ⟨3, _⟩ => exact Fin.ext (by show 0 + 1 * (y 3).val = (y 3).val; omega)

theorem idx : ∀ t : Fin cfg0.N, win0_0.index t = ![t.val / 64, t.val % 64, 0, 0] ∧ win0_1.index t = ![t.val / 64, t.val % 64, 0, 0]
    ∧ win0_2.index t = ![t.val / 64, t.val % 64, 0, 0] ∧ win0_3.index t = ![t.val / 64, t.val % 64, 0, 1] ∧ win0_4.index t = ![t.val / 64, t.val % 64, 0, 0]
    ∧ win0_5.index t = ![t.val / 64, t.val % 64, 0, 0] ∧ win0_6.index t = ![t.val / 64, 0, 0, 0] ∧ win0_7.index t = ![t.val / 64, t.val % 64, 0]
    ∧ win0_8.index t = ![t.val / 64, t.val % 64, 0] ∧ win0_9.index t = ![t.val / 64, t.val % 64, 0] ∧ win0_10.index t = ![t.val / 64, t.val % 64, 0]
    ∧ t.val / 64 < 2 ∧ (grid0.coords t 1).val = t.val % 64 :=
  (by decide +kernel : ∀ t : Fin grid0.N, _)

variable (m : (ℓ : Loc nD τ sig) → Buf (Elt F) ℓ) (ρ : Dev nD → PrngReg)

/-- The chunks of sequence `b`, as launched. -/
def chunkM (c : Dev nD) (b n : ℕ) : ChunkIn F :=
  chunkOf (m ((c : Thread nD τ).loc main_arg0)) (m ((c : Thread nD τ).loc main_arg1)) (m ((c : Thread nD τ).loc main_arg2)) (m ((c : Thread nD τ).loc main_arg3)) b n
/-- The state of sequence `b` before chunk `n`. -/
def stateM (c : Dev nD) (b : ℕ) : ℕ → FVec F S1x8x128x256 .f32 := stateOf (chunkM m c b)

theorem toks_w0 (c : Dev nD) (t : Fin cfg0.N) (M : Memref sig .tc .vmem S1x512x8x128 .bf16) (f : Bf (F := F) c M) (hf : M.view.read (Elt F) f = iblk m c 0 t) (k : Fin k0_t1_loop.trips) :
    toks c M f k = (chunkM m c (t.val / 64) (8 * (t.val % 64) + k.val)).q := by
  funext s y
  rw [toks_read, hf]
  have hk : k.val < 8 := k.isLt
  have ht : t.val / 64 < 2 := (idx t).2.2.2.2.2.2.2.2.2.2.2.1
  unfold chunkM chunkOf tokOf
  show iblk m c 0 t _ = _
  blk_ext [iblk, V, idx t]

theorem toks_w1 (c : Dev nD) (t : Fin cfg0.N) (M : Memref sig .tc .vmem S1x512x8x128 .bf16) (f : Bf (F := F) c M) (hf : M.view.read (Elt F) f = iblk m c 1 t) (k : Fin k0_t1_loop.trips) :
    toks c M f k = (chunkM m c (t.val / 64) (8 * (t.val % 64) + k.val)).k := by
  funext s y
  rw [toks_read, hf]
  have hk : k.val < 8 := k.isLt
  have ht : t.val / 64 < 2 := (idx t).2.2.2.2.2.2.2.2.2.2.2.1
  unfold chunkM chunkOf tokOf
  show iblk m c 1 t _ = _
  blk_ext [iblk, V, idx t]

theorem toks_w2 (c : Dev nD) (t : Fin cfg0.N) (M : Memref sig .tc .vmem S1x512x8x128 .bf16) (f : Bf (F := F) c M) (hf : M.view.read (Elt F) f = iblk m c 2 t) (k : Fin k0_t1_loop.trips) :
    toks c M f k = (chunkM m c (t.val / 64) (8 * (t.val % 64) + k.val)).v0 := by
  funext s y
  rw [toks_read, hf]
  have hk : k.val < 8 := k.isLt
  have ht : t.val / 64 < 2 := (idx t).2.2.2.2.2.2.2.2.2.2.2.1
  unfold chunkM chunkOf tokHalf
  show iblk m c 2 t _ = _
  blk_ext [iblk, V, idx t]

theorem toks_w3 (c : Dev nD) (t : Fin cfg0.N) (M : Memref sig .tc .vmem S1x512x8x128 .bf16) (f : Bf (F := F) c M) (hf : M.view.read (Elt F) f = iblk m c 3 t) (k : Fin k0_t1_loop.trips) :
    toks c M f k = (chunkM m c (t.val / 64) (8 * (t.val % 64) + k.val)).v1 := by
  funext s y
  rw [toks_read, hf]
  have hk : k.val < 8 := k.isLt
  have ht : t.val / 64 < 2 := (idx t).2.2.2.2.2.2.2.2.2.2.2.1
  unfold chunkM chunkOf tokHalf
  show iblk m c 3 t _ = _
  blk_ext [iblk, V, idx t]

theorem toks_w4 (c : Dev nD) (t : Fin cfg0.N) (M : Memref sig .tc .vmem S1x512x8x128 .f32) (f : Bf (F := F) c M) (hf : M.view.read (Elt F) f = iblk m c 4 t) (k : Fin k0_t1_loop.trips) :
    toks c M f k = (chunkM m c (t.val / 64) (8 * (t.val % 64) + k.val)).g := by
  funext s y
  rw [toks_read, hf]
  have hk : k.val < 8 := k.isLt
  have ht : t.val / 64 < 2 := (idx t).2.2.2.2.2.2.2.2.2.2.2.1
  unfold chunkM chunkOf tokOf
  show iblk m c 4 t _ = _
  blk_ext [iblk, V, idx t]

/-- The proof data on core `c`: the arrays as the region finds them; each input's buffer left at its block, each output's
    filled. -/
def datV (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => oF (fun k => chunkM m c (t.val / 64) (8 * (t.val % 64) + k)) (fun k => stateM m c (t.val / 64) (8 * (t.val % 64) + k))
    | ⟨6, _⟩ => stateM m c (t.val / 64) (8 * (t.val % 64) + 8)
    | ⟨7, _⟩ => codeF (fun k => (chunkM m c (t.val / 64) (8 * (t.val % 64) + k)).cq)
    | ⟨8, _⟩ => scaleF (fun k => (chunkM m c (t.val / 64) (8 * (t.val % 64) + k)).xq)
    | ⟨9, _⟩ => codeF (fun k => (chunkM m c (t.val / 64) (8 * (t.val % 64) + k)).ck)
    | ⟨10, _⟩ => scaleF (fun k => (chunkM m c (t.val / 64) (8 * (t.val % 64) + k)).xk)
  Φ _ := Pipeline.ΦA spec0 c
  q w := Pipeline.shareOf spec0 w
  owed _ := 0

theorem A_eqV (c : Dev nD) (w : Fin cfg0.W) : (datV m 0 c).A w = V m c (Pipeline.arrRef spec0 w) := by dsimp only [datV]
theorem afterV_0 (c : Dev nD) (t : Fin cfg0.N) : (datV m 0 c).after 0 t = iblk m c 0 t := by dsimp only [datV]
theorem afterV_1 (c : Dev nD) (t : Fin cfg0.N) : (datV m 0 c).after 1 t = iblk m c 1 t := by dsimp only [datV]
theorem afterV_2 (c : Dev nD) (t : Fin cfg0.N) : (datV m 0 c).after 2 t = iblk m c 2 t := by dsimp only [datV]
theorem afterV_3 (c : Dev nD) (t : Fin cfg0.N) : (datV m 0 c).after 3 t = iblk m c 3 t := by dsimp only [datV]
theorem afterV_4 (c : Dev nD) (t : Fin cfg0.N) : (datV m 0 c).after 4 t = iblk m c 4 t := by dsimp only [datV]
theorem afterV_5 (c : Dev nD) (t : Fin cfg0.N) : (datV m 0 c).after 5 t = oF (fun k => chunkM m c (t.val / 64) (8 * (t.val % 64) + k)) (fun k => stateM m c (t.val / 64) (8 * (t.val % 64) + k)) := by dsimp only [datV]
theorem afterV_6 (c : Dev nD) (t : Fin cfg0.N) : (datV m 0 c).after 6 t = stateM m c (t.val / 64) (8 * (t.val % 64) + 8) := by dsimp only [datV]
theorem afterV_7 (c : Dev nD) (t : Fin cfg0.N) : (datV m 0 c).after 7 t = codeF (fun k => (chunkM m c (t.val / 64) (8 * (t.val % 64) + k)).cq) := by dsimp only [datV]
theorem afterV_8 (c : Dev nD) (t : Fin cfg0.N) : (datV m 0 c).after 8 t = scaleF (fun k => (chunkM m c (t.val / 64) (8 * (t.val % 64) + k)).xq) := by dsimp only [datV]
theorem afterV_9 (c : Dev nD) (t : Fin cfg0.N) : (datV m 0 c).after 9 t = codeF (fun k => (chunkM m c (t.val / 64) (8 * (t.val % 64) + k)).ck) := by dsimp only [datV]
theorem afterV_10 (c : Dev nD) (t : Fin cfg0.N) : (datV m 0 c).after 10 t = scaleF (fun k => (chunkM m c (t.val / 64) (8 * (t.val % 64) + k)).xk) := by dsimp only [datV]
theorem beforeV_0 (c : Dev nD) (t : Fin cfg0.N) (d) : (datV m 0 c).before 0 t d = iblk m c 0 t :=
  before0_0_of m (datV m 0 c) (A_eqV m c 0) (afterV_0 m c) t d
theorem beforeV_1 (c : Dev nD) (t : Fin cfg0.N) (d) : (datV m 0 c).before 1 t d = iblk m c 1 t :=
  before0_1_of m (datV m 0 c) (A_eqV m c 1) (afterV_1 m c) t d
theorem beforeV_2 (c : Dev nD) (t : Fin cfg0.N) (d) : (datV m 0 c).before 2 t d = iblk m c 2 t :=
  before0_2_of m (datV m 0 c) (A_eqV m c 2) (afterV_2 m c) t d
theorem beforeV_3 (c : Dev nD) (t : Fin cfg0.N) (d) : (datV m 0 c).before 3 t d = iblk m c 3 t :=
  before0_3_of m (datV m 0 c) (A_eqV m c 3) (afterV_3 m c) t d
theorem beforeV_4 (c : Dev nD) (t : Fin cfg0.N) (d) : (datV m 0 c).before 4 t d = iblk m c 4 t :=
  before0_4_of m (datV m 0 c) (A_eqV m c 4) (afterV_4 m c) t d

/-- Past the first point of a sequence the state's buffer holds the state so far. -/
theorem beforeV_6 (c : Dev nD) (t : Fin cfg0.N) (ht : t.val % 64 ≠ 0) (d) : (datV m 0 c).before 6 t d = stateM m c (t.val / 64) (8 * (t.val % 64)) := by
  have h0 : t.val ≠ 0 := fun h => ht (by rw [h])
  rw [(datV m 0 c).before_out_kept 6 rfl t h0 ?_ (fun _ => rfl) (fun _ _ => rfl) d, afterV_6]
  · show stateM m c ((t.val - 1) / 64) (8 * ((t.val - 1) % 64) + 8) = _
    rw [show (t.val - 1) / 64 = t.val / 64 by omega, show 8 * ((t.val - 1) % 64) + 8 = 8 * (t.val % 64) by omega]
  · rw [← Bool.not_eq_true]
    intro h
    have h' : (t.val - 1) % 64 = 63 := (flush0_6 _).mp h
    omega

theorem owns_close_eq (c : Dev nD) {sp : Space} {S : Shape} {e : EltTy} (M : Memref sig .tc sp S e) (hM : M.IsWhole) (f : Bf (F := F) c M) (X : S.Idx → Elt F e) (h : M.view.read (Elt F) f = X) :
    (pt c M f : sProp 𝕄) ⊢ owns (c : Thread nD τ) M fullShare X := by subst h; exact owns_close c M hM f

/-- What the body is called with at point `t`, and what it returns. -/
def bodyPreV (c : Dev nD) (t : Fin cfg0.N) : sProp 𝕄 :=
  iprop((datV m 0 c).Φ t.castSucc ∗ (datV m 0 c).owesAt () t.castSucc ∗ (∃ d, owns (c : Thread nD τ) (win0_0.stage (cfg0.slots t 0)) fullShare ((datV m 0 c).before 0 t d)) ∗ (∃ d, owns (c : Thread nD τ) (win0_1.stage (cfg0.slots t 1)) fullShare ((datV m 0 c).before 1 t d)) ∗ (∃ d, owns (c : Thread nD τ) (win0_2.stage (cfg0.slots t 2)) fullShare ((datV m 0 c).before 2 t d)) ∗ (∃ d, owns (c : Thread nD τ) (win0_3.stage (cfg0.slots t 3)) fullShare ((datV m 0 c).before 3 t d)) ∗ (∃ d, owns (c : Thread nD τ) (win0_4.stage (cfg0.slots t 4)) fullShare ((datV m 0 c).before 4 t d)) ∗ (∃ d, owns (c : Thread nD τ) (win0_5.stage (cfg0.slots t 5)) fullShare ((datV m 0 c).before 5 t d)) ∗ (∃ d, owns (c : Thread nD τ) (win0_6.stage (cfg0.slots t 6)) fullShare ((datV m 0 c).before 6 t d)) ∗ (∃ d, owns (c : Thread nD τ) (win0_7.stage (cfg0.slots t 7)) fullShare ((datV m 0 c).before 7 t d)) ∗ (∃ d, owns (c : Thread nD τ) (win0_8.stage (cfg0.slots t 8)) fullShare ((datV m 0 c).before 8 t d)) ∗ (∃ d, owns (c : Thread nD τ) (win0_9.stage (cfg0.slots t 9)) fullShare ((datV m 0 c).before 9 t d)) ∗ (∃ d, owns (c : Thread nD τ) (win0_10.stage (cfg0.slots t 10)) fullShare ((datV m 0 c).before 10 t d)))
def bodyPostV (c : Dev nD) (t : Fin cfg0.N) : sProp 𝕄 :=
  iprop((datV m 0 c).Φ t.succ ∗ (datV m 0 c).owesAt () t.succ ∗ owns (c : Thread nD τ) (win0_0.stage (cfg0.slots t 0)) fullShare ((datV m 0 c).after 0 t) ∗ owns (c : Thread nD τ) (win0_1.stage (cfg0.slots t 1)) fullShare ((datV m 0 c).after 1 t) ∗ owns (c : Thread nD τ) (win0_2.stage (cfg0.slots t 2)) fullShare ((datV m 0 c).after 2 t) ∗ owns (c : Thread nD τ) (win0_3.stage (cfg0.slots t 3)) fullShare ((datV m 0 c).after 3 t) ∗ owns (c : Thread nD τ) (win0_4.stage (cfg0.slots t 4)) fullShare ((datV m 0 c).after 4 t) ∗ owns (c : Thread nD τ) (win0_5.stage (cfg0.slots t 5)) fullShare ((datV m 0 c).after 5 t) ∗ owns (c : Thread nD τ) (win0_6.stage (cfg0.slots t 6)) fullShare ((datV m 0 c).after 6 t) ∗ owns (c : Thread nD τ) (win0_7.stage (cfg0.slots t 7)) fullShare ((datV m 0 c).after 7 t) ∗ owns (c : Thread nD τ) (win0_8.stage (cfg0.slots t 8)) fullShare ((datV m 0 c).after 8 t) ∗ owns (c : Thread nD τ) (win0_9.stage (cfg0.slots t 9)) fullShare ((datV m 0 c).after 9 t) ∗ owns (c : Thread nD τ) (win0_10.stage (cfg0.slots t 10)) fullShare ((datV m 0 c).after 10 t))

set_option maxHeartbeats 2000000 in
theorem sound_bodyV (c : Dev nD) (t : Fin cfg0.N) :
    bodyPreV m c t ⊢ wp frame (wpE (defs₀ (F := F)) Variants.none c none) Set.univ (bodyAt0 t) (fun _ => bodyPostV m c t) := by
  unfold bodyPreV bodyPostV bodyAt0
  simp only [beforeV_0, beforeV_1, beforeV_2, beforeV_3, beforeV_4]
  rw [show (datV m 0 c).Φ t.succ = (datV m 0 c).Φ t.castSucc from rfl,
    show (datV m 0 c).owesAt () t.succ = (datV m 0 c).owesAt () t.castSucc from rfl,
    show (datV m 0 c).Φ t.castSucc = Pipeline.ΦA spec0 c from rfl, PhiA0_eq,
    afterV_0, afterV_1, afterV_2, afterV_3, afterV_4, afterV_5, afterV_6, afterV_7, afterV_8, afterV_9, afterV_10]
  iintro ⟨⟨⟨H13, H14, H15, H16, H17, H18, H19, H20⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave H2 := (owns_open c (win0_0.stage (cfg0.slots t 0)) (hstage0_0 ((cfg0.slots t 0).cast nbuf0_0)) _) $$ H2
  icases H2 with ⟨%f2, %e2, H2⟩
  ihave H3 := (owns_open c (win0_1.stage (cfg0.slots t 1)) (hstage0_1 ((cfg0.slots t 1).cast nbuf0_1)) _) $$ H3
  icases H3 with ⟨%f3, %e3, H3⟩
  ihave H4 := (owns_open c (win0_2.stage (cfg0.slots t 2)) (hstage0_2 ((cfg0.slots t 2).cast nbuf0_2)) _) $$ H4
  icases H4 with ⟨%f4, %e4, H4⟩
  ihave H5 := (owns_open c (win0_3.stage (cfg0.slots t 3)) (hstage0_3 ((cfg0.slots t 3).cast nbuf0_3)) _) $$ H5
  icases H5 with ⟨%f5, %e5, H5⟩
  ihave H6 := (owns_open c (win0_4.stage (cfg0.slots t 4)) (hstage0_4 ((cfg0.slots t 4).cast nbuf0_4)) _) $$ H6
  icases H6 with ⟨%f6, %e6, H6⟩
  ihave H7 := (owns_open c (win0_5.stage (cfg0.slots t 5)) (hstage0_5 ((cfg0.slots t 5).cast nbuf0_5)) _) $$ H7
  icases H7 with ⟨%f7, -, H7⟩
  ihave H8 := (owns_open c (win0_6.stage (cfg0.slots t 6)) (hstage0_6 ((cfg0.slots t 6).cast nbuf0_6)) _) $$ H8
  icases H8 with ⟨%f8, %e8, H8⟩
  ihave H9 := (owns_open c (win0_7.stage (cfg0.slots t 7)) (hstage0_7 ((cfg0.slots t 7).cast nbuf0_7)) _) $$ H9
  icases H9 with ⟨%f9, -, H9⟩
  ihave H10 := (owns_open c (win0_8.stage (cfg0.slots t 8)) (hstage0_8 ((cfg0.slots t 8).cast nbuf0_8)) _) $$ H10
  icases H10 with ⟨%f10, -, H10⟩
  ihave H11 := (owns_open c (win0_9.stage (cfg0.slots t 9)) (hstage0_9 ((cfg0.slots t 9).cast nbuf0_9)) _) $$ H11
  icases H11 with ⟨%f11, -, H11⟩
  ihave H12 := (owns_open c (win0_10.stage (cfg0.slots t 10)) (hstage0_10 ((cfg0.slots t 10).cast nbuf0_10)) _) $$ H12
  icases H12 with ⟨%f12, -, H12⟩
  have hj : (grid0.coords t 1).val = t.val % 64 := (idx t).2.2.2.2.2.2.2.2.2.2.2.2
  iapply (kernelVal c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) f2 f3 f4 f5 f6 f8 (fun k => chunkM m c (t.val / 64) (8 * (t.val % 64) + k)) (fun k => stateM m c (t.val / 64) (8 * (t.val % 64) + k)) (fun k => rfl)
    (toks_w0 m c t _ f2 e2) (toks_w1 m c t _ f3 e3) (toks_w2 m c t _ f4 e4) (toks_w3 m c t _ f5 e5) (toks_w4 m c t _ f6 e6)
    (fun h => by rw [hj] at h; show stateM m c (t.val / 64) (8 * (t.val % 64) + 0) = _; rw [h]; rfl)
    (fun h => e8.trans (beforeV_6 m c t (by rw [← hj]; exact h) d8)) _)
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexists _; iexact H10
  isplitl [H11]; · iexists _; iexact H11
  isplitl [H12]; · iexists _; iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  unfold inv
  iintro ⟨H2, H3, H4, H5, H6, ⟨%g7, %p7, H7⟩, ⟨%g8, %p8, H8⟩, ⟨%g9, %p9, H9⟩, ⟨%g10, %p10, H10⟩, ⟨%g11, %p11, H11⟩, ⟨%g12, %p12, H12⟩, H13, H14, H15, H16, H17, H18, H19, H20⟩
  isplitl [H13 H14 H15 H16 H17 H18 H19 H20 Hg]
  · isplitr [Hg]
    · isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    · iexact Hg
  isplitl [Ho]; · iexact Ho
  isplitl [H2]; · iapply (owns_close_eq c (win0_0.stage (cfg0.slots t 0)) (hstage0_0 ((cfg0.slots t 0).cast nbuf0_0)) _ _ e2); iexact H2
  isplitl [H3]; · iapply (owns_close_eq c (win0_1.stage (cfg0.slots t 1)) (hstage0_1 ((cfg0.slots t 1).cast nbuf0_1)) _ _ e3); iexact H3
  isplitl [H4]; · iapply (owns_close_eq c (win0_2.stage (cfg0.slots t 2)) (hstage0_2 ((cfg0.slots t 2).cast nbuf0_2)) _ _ e4); iexact H4
  isplitl [H5]; · iapply (owns_close_eq c (win0_3.stage (cfg0.slots t 3)) (hstage0_3 ((cfg0.slots t 3).cast nbuf0_3)) _ _ e5); iexact H5
  isplitl [H6]; · iapply (owns_close_eq c (win0_4.stage (cfg0.slots t 4)) (hstage0_4 ((cfg0.slots t 4).cast nbuf0_4)) _ _ e6); iexact H6
  isplitl [H7]; · iapply (owns_close_eq c (win0_5.stage (cfg0.slots t 5)) (hstage0_5 ((cfg0.slots t 5).cast nbuf0_5)) _ _ (P7_all p7)); iexact H7
  isplitl [H8]; · iapply (owns_close_eq c (win0_6.stage (cfg0.slots t 6)) (hstage0_6 ((cfg0.slots t 6).cast nbuf0_6)) _ _ (p8)); iexact H8
  isplitl [H9]; · iapply (owns_close_eq c (win0_7.stage (cfg0.slots t 7)) (hstage0_7 ((cfg0.slots t 7).cast nbuf0_7)) _ _ (PC_all p9)); iexact H9
  isplitl [H10]; · iapply (owns_close_eq c (win0_8.stage (cfg0.slots t 8)) (hstage0_8 ((cfg0.slots t 8).cast nbuf0_8)) _ _ (PS_all p10)); iexact H10
  isplitl [H11]; · iapply (owns_close_eq c (win0_9.stage (cfg0.slots t 9)) (hstage0_9 ((cfg0.slots t 9).cast nbuf0_9)) _ _ (PC_all p11)); iexact H11
  iapply (owns_close_eq c (win0_10.stage (cfg0.slots t 10)) (hstage0_10 ((cfg0.slots t 10).cast nbuf0_10)) _ _ (PS_all p12)); iexact H12

theorem body_obligationV (c : Dev nD) :
    BodyObligation (datV (F := F) m 0 c) (defs₀ (F := F)) Variants.none () Set.univ := fun t => by
  rw [bigSep_W0, bigSep_W0, defs₀_row]
  exact triple_restated (sound_bodyV m c t) rfl .rfl fun _ => .rfl

/-! ## The launch -/

-- unification of the launch theorem's conclusion with this statement unfolds plain definitions in a metavariable's type
set_option backward.isDefEq.respectTransparency.types false in
/-- Every weakly fair execution of @main terminates with the arrays at what the windows' data say, every semaphore counter at zero. -/
theorem run_mainV :
    θ_run defs (onTc (τ := τ) (main (F := F))) (s₀ m ρ)
      (fun r => Pipeline.FramePost cfgs (datV m) 0 (V m) r ∧ r.2.sem = fun _ => 0) :=
  Pipeline.θ_run_frame_shared cfgs (datV m) (0 : Fin 1) launch₀0 defs₀ Variants.none m ρ main
    (hbody := fun c => (body_obligationV m c).loose) (hq := fun _ _ _ => rfl)
    (howed := fun _ _ => rfl) (V := V m) (hmain := hmain m Variants.none) (hA := A_eqV m) (hΦ := fun _ _ => rfl)
    (Q' := _) (hQ' := fun _ h => h)

end Cert.KernelIdeal.Hand

end
-- ==== Proof.KernelIdeal.Final.lean ====
/-
  The kernel's six result arrays after the run, as whole arrays.
-/
module

public import proofs.«01_k».proof.Proof.KernelIdeal.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat)

variable {F : FTy → Type} [FloatOps F]
variable (m : (ℓ : Loc nD τ sig) → Buf (Elt F) ℓ)

theorem cong5 {α β γ : Type} (f : ℕ → ℕ → ℕ → β → γ → α) {a a' b b' c c' : ℕ} {d d' : β} {e e' : γ} (ha : a = a') (hb : b = b') (hc : c = c') (hd : d = d') (he : e = e') :
    f a b c d e = f a' b' c' d' e' := by subst ha hb hc hd he; rfl

/-- The outputs, the state, the codes and the scales, each as one array. -/
def outArr (c : Dev nD) : S2x32768x8x256.Idx → F .bf16 := fun y =>
  FloatOps.truncf .bf16 bitsLt_bf16_f32 ((chunkM m c (y 0).val ((y 1).val / 64)).out (stateM m c (y 0).val ((y 1).val / 64)) (y 2).val (ix2 ⟨(y 1).val % 64, by omega⟩ (y 3)))
def stateArr (c : Dev nD) : S2x8x128x256.Idx → F .f32 := fun y => stateM m c (y 0).val 512 (ix4 (0 : Fin 1) (y 1) (y 2) (y 3))
def codeArr (C : ChunkIn F → ℕ → FVec F S32x128 .fp8e4m3) (c : Dev nD) : S2x262144x128.Idx → F .fp8e4m3 := fun y =>
  C (chunkM m c (y 0).val ((y 1).val / 512)) ((y 1).val % 512 / 32) (ix2 ⟨(y 1).val % 32, by omega⟩ (y 2))
def scaleArr (X : ChunkIn F → FVec F S8x1 .f32) (c : Dev nD) : S2x512x8.Idx → F .f32 := fun y =>
  scaleRow (X (chunkM m c (y 0).val (y 1).val)) (ix3 (0 : Fin 1) (0 : Fin 1) (y 2))

theorem final7 (c : Dev nD) : (datV m 0 c).arrAt 7 cfg0.N = codeArr m ChunkIn.cq c := by
  refine (datV m 0 c).arrAt_eq_of_covers 7 _ (by decide +kernel) fun t hf y => ?_
  blk_simp
  rw [afterV_7]
  have h1 : (y 1).val < 4096 := (y 1).isLt
  have h0 : (y 0).val < 1 := (y 0).isLt
  have e0 : ((((cfg0.win 7).blk t).view.emb y) 0 : ℕ) = t.val / 64 := by blk_simp [idx t]
  have e1 : ((((cfg0.win 7).blk t).view.emb y) 1 : ℕ) = t.val % 64 * 4096 + (y 1).val := by blk_simp [idx t]
  have e2 : ((((cfg0.win 7).blk t).view.emb y) 2 : ℕ) = (y 2).val := by blk_simp [idx t]
  generalize (((cfg0.win 7).blk t).view.emb y) = z at e0 e1 e2
  exact cong5 (fun b n j (r : Fin 32) (l : Fin 128) => (chunkM m c b n).cq j (ix2 r l)) e0.symm
    (by rw [e1]; omega : 8 * (t.val % 64) + (y 1).val / 512 = (z 1).val / 512) (by rw [e1]; omega : (y 1).val % 512 / 32 = (z 1).val % 512 / 32)
    (Fin.ext (by show (y 1).val % 32 = (z 1).val % 32; rw [e1]; omega)) (Fin.ext e2.symm)

theorem final9 (c : Dev nD) : (datV m 0 c).arrAt 9 cfg0.N = codeArr m ChunkIn.ck c := by
  refine (datV m 0 c).arrAt_eq_of_covers 9 _ (by decide +kernel) fun t hf y => ?_
  blk_simp
  rw [afterV_9]
  have h1 : (y 1).val < 4096 := (y 1).isLt
  have h0 : (y 0).val < 1 := (y 0).isLt
  have e0 : ((((cfg0.win 9).blk t).view.emb y) 0 : ℕ) = t.val / 64 := by blk_simp [idx t]
  have e1 : ((((cfg0.win 9).blk t).view.emb y) 1 : ℕ) = t.val % 64 * 4096 + (y 1).val := by blk_simp [idx t]
  have e2 : ((((cfg0.win 9).blk t).view.emb y) 2 : ℕ) = (y 2).val := by blk_simp [idx t]
  generalize (((cfg0.win 9).blk t).view.emb y) = z at e0 e1 e2
  exact cong5 (fun b n j (r : Fin 32) (l : Fin 128) => (chunkM m c b n).ck j (ix2 r l)) e0.symm
    (by rw [e1]; omega : 8 * (t.val % 64) + (y 1).val / 512 = (z 1).val / 512) (by rw [e1]; omega : (y 1).val % 512 / 32 = (z 1).val % 512 / 32)
    (Fin.ext (by show (y 1).val % 32 = (z 1).val % 32; rw [e1]; omega)) (Fin.ext e2.symm)

theorem final8 (c : Dev nD) : (datV m 0 c).arrAt 8 cfg0.N = scaleArr m ChunkIn.xq c := by
  refine (datV m 0 c).arrAt_eq_of_covers 8 _ (by decide +kernel) fun t hf y => ?_
  blk_simp
  rw [afterV_8]
  have h0 : (y 0).val < 1 := (y 0).isLt
  have e0 : ((((cfg0.win 8).blk t).view.emb y) 0 : ℕ) = t.val / 64 := by blk_simp [idx t]
  have e1 : ((((cfg0.win 8).blk t).view.emb y) 1 : ℕ) = t.val % 64 * 8 + (y 1).val := by blk_simp [idx t]
  have e2 : ((((cfg0.win 8).blk t).view.emb y) 2 : ℕ) = (y 2).val := by blk_simp [idx t]
  generalize (((cfg0.win 8).blk t).view.emb y) = z at e0 e1 e2
  exact cong5 (fun b n _ (_ : Fin 1) (l : Fin 8) => scaleRow (chunkM m c b n).xq (ix3 (0 : Fin 1) (0 : Fin 1) l)) e0.symm
    (by rw [e1]; omega : 8 * (t.val % 64) + (y 1).val = (z 1).val) (rfl : 0 = 0) (rfl : (0 : Fin 1) = 0) (Fin.ext e2.symm)

theorem final10 (c : Dev nD) : (datV m 0 c).arrAt 10 cfg0.N = scaleArr m ChunkIn.xk c := by
  refine (datV m 0 c).arrAt_eq_of_covers 10 _ (by decide +kernel) fun t hf y => ?_
  blk_simp
  rw [afterV_10]
  have h0 : (y 0).val < 1 := (y 0).isLt
  have e0 : ((((cfg0.win 10).blk t).view.emb y) 0 : ℕ) = t.val / 64 := by blk_simp [idx t]
  have e1 : ((((cfg0.win 10).blk t).view.emb y) 1 : ℕ) = t.val % 64 * 8 + (y 1).val := by blk_simp [idx t]
  have e2 : ((((cfg0.win 10).blk t).view.emb y) 2 : ℕ) = (y 2).val := by blk_simp [idx t]
  generalize (((cfg0.win 10).blk t).view.emb y) = z at e0 e1 e2
  exact cong5 (fun b n _ (_ : Fin 1) (l : Fin 8) => scaleRow (chunkM m c b n).xk (ix3 (0 : Fin 1) (0 : Fin 1) l)) e0.symm
    (by rw [e1]; omega : 8 * (t.val % 64) + (y 1).val = (z 1).val) (rfl : 0 = 0) (rfl : (0 : Fin 1) = 0) (Fin.ext e2.symm)

theorem final6 (c : Dev nD) : (datV m 0 c).arrAt 6 cfg0.N = stateArr m c := by
  refine (datV m 0 c).arrAt_eq_of_covers 6 _ (by decide +kernel) fun t hf y => ?_
  have hf' : t.val % 64 = 63 := (flush0_6 t).mp hf
  blk_simp
  rw [afterV_6]
  have h0 : (y 0).val < 1 := (y 0).isLt
  have e0 : ((((cfg0.win 6).blk t).view.emb y) 0 : ℕ) = t.val / 64 := by blk_simp [idx t]
  have e1 : ((((cfg0.win 6).blk t).view.emb y) 1 : ℕ) = (y 1).val := by blk_simp [idx t]
  have e2 : ((((cfg0.win 6).blk t).view.emb y) 2 : ℕ) = (y 2).val := by blk_simp [idx t]
  have e3 : ((((cfg0.win 6).blk t).view.emb y) 3 : ℕ) = (y 3).val := by blk_simp [idx t]
  generalize (((cfg0.win 6).blk t).view.emb y) = z at e0 e1 e2 e3
  refine (cong5 (fun b n _ (_ : Fin 1) (i : S1x8x128x256.Idx) => stateM m c b n i) e0.symm
    (by omega : 8 * (t.val % 64) + 8 = 512) (rfl : 0 = 0) (rfl : (0 : Fin 1) = 0) (e' := (ix4 (0 : Fin 1) (z 1) (z 2) (z 3))) ?_)
  funext a
  match a with
  | ⟨0, _⟩ => exact Fin.ext (by show (y 0).val = 0; omega)
  | ⟨1, _⟩ => exact Fin.ext e1.symm
  | ⟨2, _⟩ => exact Fin.ext e2.symm
  | ⟨3, _⟩ => exact Fin.ext e3.symm

theorem final5 (c : Dev nD) : (datV m 0 c).arrAt 5 cfg0.N = outArr m c := by
  refine (datV m 0 c).arrAt_eq_of_covers 5 _ (by decide +kernel) fun t hf y => ?_
  blk_simp
  rw [afterV_5]
  have h0 : (y 0).val < 1 := (y 0).isLt
  have h1 : (y 1).val < 512 := (y 1).isLt
  have e0 : ((((cfg0.win 5).blk t).view.emb y) 0 : ℕ) = t.val / 64 := by blk_simp [idx t]
  have e1 : ((((cfg0.win 5).blk t).view.emb y) 1 : ℕ) = t.val % 64 * 512 + (y 1).val := by blk_simp [idx t]
  have e2 : ((((cfg0.win 5).blk t).view.emb y) 2 : ℕ) = (y 2).val := by blk_simp [idx t]
  have e3 : ((((cfg0.win 5).blk t).view.emb y) 3 : ℕ) = (y 3).val := by blk_simp [idx t]
  generalize (((cfg0.win 5).blk t).view.emb y) = z at e0 e1 e2 e3
  exact cong5 (fun b n h (r : Fin 64) (l : Fin 256) => FloatOps.truncf .bf16 bitsLt_bf16_f32 ((chunkM m c b n).out (stateM m c b n) h (ix2 r l))) e0.symm
    (by rw [e1]; omega : 8 * (t.val % 64) + (y 1).val / 64 = (z 1).val / 64) e2.symm
    (Fin.ext (by show (y 1).val % 64 = (z 1).val % 64; rw [e1]; omega)) (Fin.ext e3.symm)

end Cert.KernelIdeal.Hand

end
-- ==== Proof.Math.Scale.lean ====
/-
  The power of two above a magnitude, found by a ladder of comparisons and by a search of a table.
-/
module

public import Idealize.ShloMosaic.Lib.Pointwise
public import Idealize.ShloMosaic.Lib.IdealHost

@[expose] public section

set_option maxRecDepth 16384

noncomputable section

namespace Cert.Math

open Idealize.ShloMosaic

/-- A power of two, as an extended real. -/
def p2 (e : ℤ) : EReal := (((2 : ℝ) ^ e : ℝ) : EReal)

theorem p2_mul (a b : ℤ) : p2 a * p2 b = p2 (a + b) := by
  unfold p2; rw [← EReal.coe_mul, zpow_add₀ (by norm_num)]
theorem p2_le {a b : ℤ} : p2 a ≤ p2 b ↔ a ≤ b := by
  unfold p2; rw [EReal.coe_le_coe_iff]; exact zpow_le_zpow_iff_right₀ (by norm_num)
theorem p2_lt {a b : ℤ} : p2 a < p2 b ↔ a < b := by
  unfold p2; rw [EReal.coe_lt_coe_iff]; exact zpow_lt_zpow_iff_right₀ (by norm_num)
theorem p2_pos (a : ℤ) : 0 < p2 a := by
  unfold p2; rw [← EReal.coe_zero, EReal.coe_lt_coe_iff]; positivity
theorem p2_zero : p2 0 = 1 := by unfold p2; simp

theorem w1 : Ideal.ofBits .f32 0x40000000#32 = p2 1 := by simp [p2, Ideal.ofBits, Ideal.ieee, -EReal.coe_mul]; try norm_num
theorem w3 : Ideal.ofBits .f32 0x41000000#32 = p2 3 := by simp [p2, Ideal.ofBits, Ideal.ieee, -EReal.coe_mul]; norm_num; rw [← EReal.coe_pow]; norm_num
theorem w7 : Ideal.ofBits .f32 0x43000000#32 = p2 7 := by simp [p2, Ideal.ofBits, Ideal.ieee, -EReal.coe_mul]; norm_num; rw [← EReal.coe_pow]; norm_num
theorem w15 : Ideal.ofBits .f32 0x47000000#32 = p2 15 := by simp [p2, Ideal.ofBits, Ideal.ieee, -EReal.coe_mul]; norm_num; rw [← EReal.coe_pow]; norm_num
theorem w31 : Ideal.ofBits .f32 0x4F000000#32 = p2 31 := by simp [p2, Ideal.ofBits, Ideal.ieee, -EReal.coe_mul]; norm_num; rw [← EReal.coe_pow]; norm_num
theorem w63 : Ideal.ofBits .f32 0x5F000000#32 = p2 63 := by simp [p2, Ideal.ofBits, Ideal.ieee, -EReal.coe_mul]; norm_num; rw [← EReal.coe_pow]; norm_num
theorem w126 : Ideal.ofBits .f32 0x7E800000#32 = p2 126 := by simp [p2, Ideal.ofBits, Ideal.ieee, -EReal.coe_mul]; norm_num; rw [← EReal.coe_pow]; norm_num
theorem n1 : Ideal.ofBits .f32 0x3F000000#32 = p2 (-1) := by simp [p2, Ideal.ofBits, Ideal.ieee, -EReal.coe_mul]; try norm_num
theorem n2 : Ideal.ofBits .f32 0x3E800000#32 = p2 (-2) := by simp [p2, Ideal.ofBits, Ideal.ieee, -EReal.coe_mul]; try norm_num
theorem n4 : Ideal.ofBits .f32 0x3D800000#32 = p2 (-4) := by simp [p2, Ideal.ofBits, Ideal.ieee, -EReal.coe_mul]; try norm_num
theorem n8 : Ideal.ofBits .f32 0x3B800000#32 = p2 (-8) := by simp [p2, Ideal.ofBits, Ideal.ieee, -EReal.coe_mul]; try norm_num
theorem n16 : Ideal.ofBits .f32 0x37800000#32 = p2 (-16) := by simp [p2, Ideal.ofBits, Ideal.ieee, -EReal.coe_mul]; try norm_num
theorem n32 : Ideal.ofBits .f32 0x2F800000#32 = p2 (-32) := by simp [p2, Ideal.ofBits, Ideal.ieee, -EReal.coe_mul]; try norm_num
theorem n64 : Ideal.ofBits .f32 0x1F800000#32 = p2 (-64) := by simp [p2, Ideal.ofBits, Ideal.ieee, -EReal.coe_mul]; try norm_num
theorem n126 : Ideal.ofBits .f32 0x00800000#32 = p2 (-126) := by simp [p2, Ideal.ofBits, Ideal.ieee, -EReal.coe_mul]; try norm_num
theorem l126 : Ideal.ofBits .f32 0x42FC0000#32 = ((126 : ℝ) : EReal) := by simp [Ideal.ofBits, Ideal.ieee, -EReal.coe_mul]; try norm_num
theorem l448 : Ideal.ofBits .f32 0x43E00000#32 = ((448 : ℝ) : EReal) := by simp [Ideal.ofBits, Ideal.ieee, -EReal.coe_mul]; try norm_num
theorem ln448 : Ideal.ofBits .f32 0xC3E00000#32 = ((-448 : ℝ) : EReal) := by simp [Ideal.ofBits, Ideal.ieee, -EReal.coe_mul]; try norm_num
theorem ltop : Ideal.ofBits .f32 0x7F800000#32 = ⊤ := by simp [Ideal.ofBits, Ideal.ieee, -EReal.coe_mul]
theorem lbot : Ideal.ofBits .f32 0xFF800000#32 = ⊥ := by simp [Ideal.ofBits, Ideal.ieee, -EReal.coe_mul]
theorem l448inv : ∃ r : ℝ, Ideal.ofBits .f32 0x3B124925#32 = (r : EReal) ∧ 0 < r := ⟨_, by simp [Ideal.ofBits, Ideal.ieee, -EReal.coe_mul]; rfl, by norm_num⟩
theorem lscore : ∃ r : ℝ, Ideal.ofBits .f32 0x3DB504F3#32 = (r : EReal) ∧ 0 < r := ⟨_, by simp [Ideal.ofBits, Ideal.ieee, -EReal.coe_mul]; rfl, by norm_num⟩

/-- One rung, on numbers. -/
def rungS (x : EReal) (m r : BitVec 32) (p : EReal × EReal) : EReal × EReal :=
  ⟨if p.1 * Ideal.ofBits .f32 m ≤ x then p.1 * Ideal.ofBits .f32 m * Ideal.ofBits .f32 0x40000000#32 else p.1,
    if p.1 * Ideal.ofBits .f32 m ≤ x then p.2 * Ideal.ofBits .f32 r else p.2⟩
def ladderS (x : EReal) : EReal × EReal :=
  rungS x 0x3F800000#32 0x3F000000#32 <| rungS x 0x40000000#32 0x3E800000#32 <| rungS x 0x41000000#32 0x3D800000#32 <|
  rungS x 0x43000000#32 0x3B800000#32 <| rungS x 0x47000000#32 0x37800000#32 <| rungS x 0x4F000000#32 0x2F800000#32 <|
  rungS x 0x5F000000#32 0x1F800000#32 <| rungS x 0x5F000000#32 0x1F800000#32 <| rungS x 0x5F000000#32 0x1F800000#32
    ⟨Ideal.ofBits .f32 0x00800000#32, Ideal.ofBits .f32 0x7E800000#32⟩

/-- The ladder at exponent `e` with `R` steps left to climb. -/
def At (x : EReal) (R e : ℤ) (p : EReal × EReal) : Prop :=
  p = ⟨p2 e, p2 (-e)⟩ ∧ (e = -126 ∨ p2 (e - 1) ≤ x) ∧ (e + R = 129 ∨ x < p2 (e + R)) ∧ -126 ≤ e ∧ e + R ≤ 129

theorem rung_step {x : EReal} {R : ℤ} {p : EReal × EReal} (m r : BitVec 32) (k : ℤ) (hm : Ideal.ofBits .f32 m = p2 (k - 1)) (hr : Ideal.ofBits .f32 r = p2 (-k))
    (hk : 0 < k) (hR : k - 1 ≤ R) (h : ∃ e, At x (k + R) e p) : ∃ e, At x R e (rungS x m r p) := by
  obtain ⟨e, rfl, h1, h2, h3, h4⟩ := h
  unfold rungS
  rw [hm, hr, w1]
  simp only [p2_mul]
  by_cases hx : p2 (e + (k - 1)) ≤ x
  · refine ⟨e + k, ?_, .inr ?_, ?_, by omega, by omega⟩
    · rw [if_pos hx, if_pos hx, show e + (k - 1) + 1 = e + k by omega, show -e + -k = -(e + k) by omega]
    · rwa [show e + k - 1 = e + (k - 1) by omega]
    · rwa [show e + k + R = e + (k + R) by omega]
  · refine ⟨e, ?_, h1, .inr ?_, h3, by omega⟩
    · rw [if_neg hx, if_neg hx]
    · exact lt_of_lt_of_le (not_le.mp hx) (p2_le.mpr (by omega))

theorem ladderS_at (x : EReal) : ∃ e, At x 0 e (ladderS x) := by
  unfold ladderS
  refine rung_step (R := 0) _ _ 1 (by rw [Ideal.ofBits_one_f32]; exact p2_zero.symm) n1 (by decide) (by decide) ?_
  refine rung_step (R := 1 + 0) _ _ 2 w1 n2 (by decide) (by decide) ?_
  refine rung_step (R := 2 + (1 + 0)) _ _ 4 w3 n4 (by decide) (by decide) ?_
  refine rung_step (R := 4 + (2 + (1 + 0))) _ _ 8 w7 n8 (by decide) (by decide) ?_
  refine rung_step (R := 8 + (4 + (2 + (1 + 0)))) _ _ 16 w15 n16 (by decide) (by decide) ?_
  refine rung_step (R := 16 + (8 + (4 + (2 + (1 + 0))))) _ _ 32 w31 n32 (by decide) (by decide) ?_
  refine rung_step (R := 32 + (16 + (8 + (4 + (2 + (1 + 0)))))) _ _ 64 w63 n64 (by decide) (by decide) ?_
  refine rung_step (R := 64 + (32 + (16 + (8 + (4 + (2 + (1 + 0))))))) _ _ 64 w63 n64 (by decide) (by decide) ?_
  refine rung_step (R := 64 + (64 + (32 + (16 + (8 + (4 + (2 + (1 + 0)))))))) _ _ 64 w63 n64 (by decide) (by decide) ?_
  exact ⟨-126, by rw [n126, w126]; rfl, .inl rfl, .inl (by decide), by decide, by decide⟩

/-- The search of the table of powers. -/
def searchS (x : EReal) : EReal :=
  Finset.univ.fold min ⊤ fun j : Fin 256 => if x < p2 ((j.val : ℤ) - 126) then p2 ((j.val : ℤ) - 126) else p2 129

theorem search_eq (x : EReal) : searchS x = (ladderS x).1 ∧ ∃ e, (ladderS x).1 = p2 e ∧ (ladderS x).2 = p2 (-e) := by
  obtain ⟨e, hp, h1, h2, h3, h4⟩ := ladderS_at x
  rw [add_zero] at h2 h4
  rw [hp]
  refine ⟨?_, e, rfl, rfl⟩
  unfold searchS
  refine le_antisymm ?_ ?_
  · refine Finset.fold_min_le _ |>.mpr (.inr ⟨⟨(e + 126).toNat, by omega⟩, Finset.mem_univ _, ?_⟩)
    have he : (((⟨(e + 126).toNat, by omega⟩ : Fin 256).val : ℕ) : ℤ) - 126 = e := by show ((e + 126).toNat : ℤ) - 126 = e; omega
    rw [he]
    split
    · exact le_rfl
    · rcases h2 with h2 | h2
      · rw [h2]
      · contradiction
  · refine Finset.le_fold_min _ |>.mpr ⟨le_top, fun j _ => ?_⟩
    split
    · rename_i hj
      refine p2_le.mpr ?_
      rcases h1 with h1 | h1
      · rw [h1]; omega
      · have := p2_lt.mp (lt_of_le_of_lt h1 hj); omega
    · exact p2_le.mpr h4

/-- The scale of a magnitude, and its reciprocal. -/
def scaleS (x : EReal) : EReal := if x = 0 then 1 else searchS x

theorem scaleS_pow (x : EReal) : ∃ e, scaleS x = p2 e := by
  unfold scaleS
  split
  · exact ⟨0, p2_zero.symm⟩
  · obtain ⟨h, e, h1, -⟩ := search_eq x; exact ⟨e, h.trans h1⟩
theorem ladder_scale (x : EReal) : (if x = 0 then 1 else (ladderS x).1) = scaleS x := by
  unfold scaleS; rw [(search_eq x).1]
theorem div_p2 (e : ℤ) : Ideal.div 1 (p2 e) = p2 (-e) := by
  unfold p2; rw [Ideal.div_coe (by positivity), one_mul, zpow_neg, one_div]
theorem ladder_inv (x : EReal) : (if x = 0 then 1 else (ladderS x).2) = Ideal.div 1 (scaleS x) := by
  unfold scaleS
  split
  · have := div_p2 0
    rw [neg_zero, p2_zero] at this; exact this.symm
  · obtain ⟨h, e, h1, h2⟩ := search_eq x
    rw [h, h1, h2, div_p2]

end Cert.Math

end
-- ==== Proof.Math.Spec.lean ====
/-
  One chunk of gated attention over the reals: cumulative gates, scaled queries and keys, their codes and scales, the
  scores, the outputs and the next state.
-/
module

public import proofs.«01_k».proof.Proof.Math.Scale

@[expose] public section

set_option maxRecDepth 16384

noncomputable section

namespace Cert.Math

open Idealize.ShloMosaic

/-- A real for each token, head and lane. -/
abbrev RTok := ℕ → Fin 8 → Fin 128 → ℝ

/-- The gates up to and at a token, summed. -/
def cum (g : RTok) (t : ℕ) (h : Fin 8) (d : Fin 128) : ℝ := ∑ s ∈ Finset.range (t + 1), g s h d
theorem cum_zero (g : RTok) (h : Fin 8) (d : Fin 128) : cum g 0 h d = g 0 h d := by simp [cum]
theorem cum_succ (g : RTok) (t : ℕ) (h : Fin 8) (d : Fin 128) : cum g (t + 1) h d = cum g t h d + g (t + 1) h d := by
  unfold cum; rw [Finset.sum_range_succ]

def cS : ℝ := (Ideal.ofBits .f32 0x3DB504F3#32).toReal
theorem cS_eq : Ideal.ofBits .f32 0x3DB504F3#32 = (cS : EReal) := by
  obtain ⟨r, h, -⟩ := lscore; unfold cS; rw [h]; simp
theorem cS_pos : 0 < cS := by
  obtain ⟨r, h, hr⟩ := lscore; unfold cS; rw [h]; simpa using hr

/-- The scaled queries and keys. -/
def XQ (g q : RTok) : RTok := fun t h d => q t h d * cS * Real.exp (cum g t h d)
def XK (g k : RTok) : RTok := fun t h d => k t h d * Real.exp (cum g 63 h d - cum g t h d)

/-- A head's largest magnitude, its scale, its codes. -/
def top (X : RTok) (h : Fin 8) : EReal := ⨆ p : Fin 64 × Fin 128, ((|X p.1.val h p.2| : ℝ) : EReal)
def sc (X : RTok) (h : Fin 8) : EReal := scaleS (top X h * Ideal.ofBits .f32 0x3B124925#32)
def code (X : RTok) (t : ℕ) (h : Fin 8) (d : Fin 128) : EReal :=
  min (Ideal.ofBits .f32 0x43E00000#32) (max (Ideal.ofBits .f32 0xC3E00000#32) ((X t h d : EReal) * Ideal.div 1 (sc X h)))

/-- The score of a token against an earlier one. -/
def att (g q k : RTok) (t s : ℕ) (h : Fin 8) : ℝ := ∑ d : Fin 128, q t h d * cS * k s h d * Real.exp (cum g t h d - cum g s h d)

abbrev VTok := ℕ → Fin 8 → Fin 256 → EReal
abbrev State := Fin 8 → Fin 128 → Fin 256 → EReal

def nextS (g k : RTok) (v : VTok) (S : State) : State := fun h d l =>
  S h d l * (Real.exp (cum g 63 h d) : EReal) + (∑ t : Fin 64, code (XK g k) t.val h d * v t.val h l) * sc (XK g k) h
def outS (g q k : RTok) (v : VTok) (S : State) (t : ℕ) (h : Fin 8) (l : Fin 256) : EReal :=
  (∑ d : Fin 128, code (XQ g q) t h d * S h d l) * sc (XQ g q) h
    + ∑ s : Fin 64, (if s.val ≤ t then ((att g q k t s.val h : ℝ) : EReal) else 0) * v s.val h l

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_mul_p2 {ι : Type} (s : Finset ι) (f : ι → EReal) (e : ℤ) : (∑ i ∈ s, f i) * p2 e = ∑ i ∈ s, f i * p2 e := by
  classical
  induction s using Finset.induction_on with
  | empty => simp
  | insert a s ha ih => rw [Finset.sum_insert ha, Finset.sum_insert ha, EReal.right_distrib_of_nonneg_of_ne_top (p2_pos e).le (EReal.coe_ne_top _), ih]

theorem sum_mul_sc {ι : Type} (s : Finset ι) (f : ι → EReal) (X : RTok) (h : Fin 8) : (∑ i ∈ s, f i) * sc X h = ∑ i ∈ s, f i * sc X h := by
  obtain ⟨e, he⟩ := scaleS_pow (top X h * Ideal.ofBits .f32 0x3B124925#32)
  unfold sc; rw [he]; exact sum_mul_p2 s f e

theorem top_eq (X : RTok) (h : Fin 8) (m : EReal) (h1 : ∀ (t : Fin 64) (d : Fin 128), ((|X t.val h d| : ℝ) : EReal) ≤ m)
    (h2 : ∃ (t : Fin 64) (d : Fin 128), m ≤ ((|X t.val h d| : ℝ) : EReal)) : m = top X h := by
  obtain ⟨t, d, h2⟩ := h2
  exact le_antisymm (h2.trans (le_iSup (fun p : Fin 64 × Fin 128 => ((|X p.1.val h p.2| : ℝ) : EReal)) (t, d))) (iSup_le fun p => h1 p.1 p.2)

theorem coe_max (a b : ℝ) : max (a : EReal) (b : EReal) = ((max a b : ℝ) : EReal) := (EReal.coe_strictMono.monotone.map_max).symm
theorem abs_coe (a : ℝ) : max (a : EReal) (-(a : EReal)) = ((|a| : ℝ) : EReal) := by
  rw [← EReal.coe_neg, coe_max]; rfl

/-- The largest of the first `n` magnitudes. -/
def runMax (u : ℕ → ℝ) (n : ℕ) : ℝ := Nat.rec 0 (fun n a => max a |u n|) n
theorem le_runMax (u : ℕ → ℝ) : ∀ (n t : ℕ), t < n → |u t| ≤ runMax u n
  | 0, t, h => absurd h (by omega)
  | n + 1, t, h => by
    rcases Nat.lt_or_ge t n with h' | h'
    · exact (le_runMax u n t h').trans (le_max_left _ _)
    · rw [show t = n by omega]; exact le_max_right _ _
theorem runMax_mem (u : ℕ → ℝ) : ∀ n : ℕ, ∃ t ≤ n, runMax u (n + 1) = |u t|
  | 0 => ⟨0, le_rfl, max_eq_right (abs_nonneg _)⟩
  | n + 1 => by
    obtain ⟨t, ht, e⟩ := runMax_mem u n
    rcases max_choice (runMax u (n + 1)) |u (n + 1)| with h | h
    · exact ⟨t, by omega, h.trans e⟩
    · exact ⟨n + 1, le_rfl, h⟩

/-- Each lane's largest magnitude over the tokens, times the lane's positive factor, largest over the lanes. -/
theorem fold_top (X : RTok) (h : Fin 8) (u : Fin 128 → ℕ → ℝ) (f : Fin 128 → ℝ) (hf : ∀ d, 0 < f d) (hX : ∀ (t : Fin 64) d, u d t.val * f d = X t.val h d) :
    Finset.univ.fold max (⊥ : EReal) (fun d : Fin 128 => ((runMax (u d) 64 : ℝ) : EReal) * (f d : EReal)) = top X h := by
  have hb : ∀ (t : Fin 64) d, |X t.val h d| = |u d t.val| * f d := fun t d => by rw [← hX, abs_mul, abs_of_pos (hf d)]
  refine top_eq X h _ (fun t d => ?_) ?_
  · refine Finset.le_fold_max _ |>.mpr (.inr ⟨d, Finset.mem_univ _, ?_⟩)
    rw [← EReal.coe_mul, EReal.coe_le_coe_iff, hb]
    exact mul_le_mul_of_nonneg_right (le_runMax _ _ _ t.isLt) (hf d).le
  · obtain ⟨d, -, hd⟩ := Finset.exists_max_image (Finset.univ : Finset (Fin 128)) (fun d => runMax (u d) 64 * f d) ⟨0, Finset.mem_univ _⟩
    obtain ⟨t, ht, e⟩ := runMax_mem (u d) 63
    refine ⟨⟨t, by omega⟩, d, Finset.fold_max_le _ |>.mpr ⟨bot_le, fun d' _ => ?_⟩⟩
    rw [← EReal.coe_mul, EReal.coe_le_coe_iff, hb]
    refine (hd d' (Finset.mem_univ _)).trans (le_of_eq ?_)
    show runMax (u d) (63 + 1) * f d = |u d t| * f d
    rw [e]

end Cert.Math

end
-- ==== Proof.KernelIdeal.Reals.lean ====
/-
  The kernel's chunk at real queries, keys and gates: its codes, scales, outputs and next state.
-/
module

public import proofs.«01_k».proof.Proof.KernelIdeal.Final
public import proofs.«01_k».proof.Proof.Math.Spec

@[expose] public section

set_option maxRecDepth 16384

noncomputable section

namespace Cert.KernelIdeal.Hand

open Cert.KernelIdeal Cert.KernelIdeal.Gen Cert.Math
open Idealize.ShloMosaic Idealize.ShloMosaic.TcCoe
open Idealize.SL.Sem

theorem rung_at (x : FVec Ideal S8x1 .f32) (m r : BitVec 32) (p : FVec Ideal S8x1 .f32 × FVec Ideal S8x1 .f32) (h : Fin 8) :
    (⟨(rung x m r p).1 (ix2 h (0 : Fin 1)), (rung x m r p).2 (ix2 h (0 : Fin 1))⟩ : EReal × EReal) =
      rungS (x (ix2 h (0 : Fin 1))) m r ⟨p.1 (ix2 h (0 : Fin 1)), p.2 (ix2 h (0 : Fin 1))⟩ := by
  refine Prod.ext ?_ ?_
  · unfold rungS
    pointwise [rung]
  · unfold rungS
    pointwise [rung]
theorem ladder_at (x : FVec Ideal S8x1 .f32) (h : Fin 8) :
    (⟨(ladder x).1 (ix2 h (0 : Fin 1)), (ladder x).2 (ix2 h (0 : Fin 1))⟩ : EReal × EReal) = ladderS (x (ix2 h (0 : Fin 1))) := by
  unfold ladder ladderS
  iterate 9 rw [rung_at]
  rfl

theorem isOne_at (a b : EReal) (x : EReal) (hx : x < ⊤) :
    Scalar.select (IntOp.ori (BitVec.ofBool (decide (x = 0))) (IntOp.xori (BitVec.ofBool (decide (x < Ideal.ofBits FTy.f32 0x7F800000#32))) 1#1)) a b
      = if x = 0 then a else b := by
  rw [ltop]
  simp only [hx, decide_true]
  by_cases h : x = 0
  · simp only [h, decide_true, if_true]; rfl
  · simp only [h, decide_false, if_false]; rfl

theorem scaleOf_at (x : FVec Ideal S8x1 .f32) (h : Fin 8) (hx : (x (ix2 h (0 : Fin 1)) : EReal) < ⊤) : (scaleOf x (ix2 h (0 : Fin 1)) : EReal) = scaleS (x (ix2 h (0 : Fin 1))) := by
  rw [← ladder_scale]
  have := congrArg Prod.fst (ladder_at x h)
  dsimp only at this
  pointwise [scaleOf, isOne]
  rw [this]
  exact isOne_at _ _ _ hx
theorem invOf_at (x : FVec Ideal S8x1 .f32) (h : Fin 8) (hx : (x (ix2 h (0 : Fin 1)) : EReal) < ⊤) : (invOf x (ix2 h (0 : Fin 1)) : EReal) = Ideal.div 1 (scaleS (x (ix2 h (0 : Fin 1)))) := by
  rw [← ladder_inv]
  have := congrArg Prod.snd (ladder_at x h)
  dsimp only at this
  pointwise [invOf, isOne]
  rw [this]
  exact isOne_at _ _ _ hx

/-- The gates, queries and keys of a chunk are these reals. -/
structure IsReal (D : ChunkIn Ideal) (g q k : RTok) : Prop where
  g : ∀ t (h : Fin 8) (d : Fin 128), D.g t (ix4 (0 : Fin 1) (0 : Fin 1) h d) = ((g t h d : ℝ) : EReal)
  q : ∀ t (h : Fin 8) (d : Fin 128), D.q t (ix4 (0 : Fin 1) (0 : Fin 1) h d) = ((q t h d : ℝ) : EReal)
  k : ∀ t (h : Fin 8) (d : Fin 128), D.k t (ix4 (0 : Fin 1) (0 : Fin 1) h d) = ((k t h d : ℝ) : EReal)

variable {D : ChunkIn Ideal} {g q k : RTok} (R : IsReal D g q k)
include R

theorem dUp_at (h : Fin 8) (d : Fin 128) : ∀ n : ℕ, (dUp D.g n (ix2 h d) : EReal) = ((cum g (31 + n) h d - cum g 31 h d : ℝ) : EReal)
  | 0 => by
    show (zeros8 (F := Ideal) (ix2 h d) : EReal) = _
    pointwise [zeros8]
    simp
  | n + 1 => by
    show (addf (dUp D.g n) (tok (D.g (32 + n))) (ix2 h d) : EReal) = _
    pointwise [tok]
    rw [dUp_at h d n, R.g, ← EReal.coe_add, show 31 + (n + 1) = (31 + n) + 1 by omega, cum_succ g (31 + n), show 31 + n + 1 = 32 + n by omega]
    congr 1; ring
theorem dDn_at (h : Fin 8) (d : Fin 128) : ∀ n : ℕ, n ≤ 31 → (dDn D.g n (ix2 h d) : EReal) = ((cum g (31 - n) h d - cum g 31 h d : ℝ) : EReal)
  | 0, _ => by
    show (zeros8 (F := Ideal) (ix2 h d) : EReal) = _
    pointwise [zeros8]
    simp
  | n + 1, hn => by
    show (subf (dDn D.g n) (tok (D.g (31 - n))) (ix2 h d) : EReal) = _
    pointwise [tok]
    rw [dDn_at h d n (by omega), R.g, ← EReal.coe_sub, show 31 - n = (31 - (n + 1)) + 1 by omega, cum_succ g (31 - (n + 1))]
    congr 1; ring
theorem dTok_at (t : ℕ) (h : Fin 8) (d : Fin 128) : (dTok D.g t (ix2 h d) : EReal) = ((cum g t h d - cum g 31 h d : ℝ) : EReal) := by
  unfold dTok
  by_cases ht : t ≤ 30
  · rw [Nat.ble_eq_true_of_le ht]
    show (dDn D.g (31 - t) (ix2 h d) : EReal) = _
    rw [dDn_at R h d _ (by omega), show 31 - (31 - t) = t by omega]
  · rw [show t.ble 30 = false from Bool.eq_false_iff.mpr fun e => ht (Nat.le_of_ble_eq_true e)]
    show (dUp D.g (t - 31) (ix2 h d) : EReal) = _
    rw [dUp_at R h d, show 31 + (t - 31) = t by omega]

theorem qRow_at (t : ℕ) (h : Fin 8) (d : Fin 128) : (qRow D.g D.q t (ix2 h d) : EReal) = ((q t h d * Real.exp (cum g t h d - cum g 31 h d) : ℝ) : EReal) := by
  pointwise [qRow, tok]
  rw [R.q, dTok_at R, Ideal.exp_coe, ← EReal.coe_mul]
theorem kRow_at (t : ℕ) (h : Fin 8) (d : Fin 128) : (kRow D.g D.k t (ix2 h d) : EReal) = ((k t h d * (1 / Real.exp (cum g t h d - cum g 31 h d)) : ℝ) : EReal) := by
  pointwise [kRow, tok]
  rw [R.k, dTok_at R, Ideal.exp_coe, Ideal.div_coe (Real.exp_pos _).ne', one_mul, ← EReal.coe_mul]
theorem bMid_at (h : Fin 8) (d : Fin 128) : (bMid D.g (D.g 0) (ix2 h d) : EReal) = ((cum g 31 h d : ℝ) : EReal) := by
  pointwise [bMid, tok]
  rw [R.g, dTok_at R, ← EReal.coe_sub, cum_zero]
  congr 1; ring
theorem qFac_at (h : Fin 8) (d : Fin 128) : (qFac D.g (D.g 0) (ix2 h d) : EReal) = ((cS * Real.exp (cum g 31 h d) : ℝ) : EReal) := by
  pointwise [qFac]
  rw [bMid_at R, Ideal.exp_coe, cS_eq, ← EReal.coe_mul]
theorem kFac_at (h : Fin 8) (d : Fin 128) : (kFac D.g (ix2 h d) : EReal) = ((Real.exp (cum g 63 h d - cum g 31 h d) : ℝ) : EReal) := by
  pointwise [kFac]
  rw [dTok_at R, Ideal.exp_coe]

omit R in
theorem amaxOf_at (U : ℕ → FVec Ideal S8x128 .f32) (u : ℕ → ℝ) (h : Fin 8) (d : Fin 128) (hu : ∀ t, (U t (ix2 h d) : EReal) = ((u t : ℝ) : EReal)) :
    ∀ n : ℕ, (amaxOf U n (ix2 h d) : EReal) = ((runMax u n : ℝ) : EReal)
  | 0 => by
    show (zeros8 (F := Ideal) (ix2 h d) : EReal) = _
    pointwise [zeros8]
    simp [runMax]
  | n + 1 => by
    show (maximumf (amaxOf U n) (absf (U n)) (ix2 h d) : EReal) = _
    pointwise
    rw [amaxOf_at U u h d hu n, hu]
    show max _ (max (u n : EReal) (-(u n : EReal))) = _
    rw [abs_coe, coe_max]
    rfl

omit R in
theorem headMax_at (X : RTok) (U : ℕ → FVec Ideal S8x128 .f32) (f : FVec Ideal S8x128 .f32) (h : Fin 8) (u : Fin 128 → ℕ → ℝ) (fr : Fin 128 → ℝ)
    (hf : ∀ d, 0 < fr d) (hX : ∀ (t : Fin 64) d, u d t.val * fr d = X t.val h d)
    (hu : ∀ d t, (U t (ix2 h d) : EReal) = ((u d t : ℝ) : EReal)) (hF : ∀ d, (f (ix2 h d) : EReal) = ((fr d : ℝ) : EReal)) :
    (headMax U f (ix2 h (0 : Fin 1)) : EReal) = top X h * Ideal.ofBits .f32 0x3B124925#32 := by
  pointwise [headMax]
  simp only [fun d => amaxOf_at U (u d) h d (hu d) 64, hF]
  rw [lbot, fold_top X h u fr hf hX]

theorem xq_at (h : Fin 8) : (D.xq (ix2 h (0 : Fin 1)) : EReal) = top (XQ g q) h * Ideal.ofBits .f32 0x3B124925#32 :=
  headMax_at (XQ g q) _ _ h (fun d t => q t h d * Real.exp (cum g t h d - cum g 31 h d)) (fun d => cS * Real.exp (cum g 31 h d))
    (fun d => mul_pos cS_pos (Real.exp_pos _)) (fun t d => by
      unfold XQ; rw [Real.exp_sub]; have := (Real.exp_pos (cum g 31 h d)).ne'; field_simp)
    (fun d t => qRow_at R t h d) (fun d => qFac_at R h d)
theorem xk_at (h : Fin 8) : (D.xk (ix2 h (0 : Fin 1)) : EReal) = top (XK g k) h * Ideal.ofBits .f32 0x3B124925#32 :=
  headMax_at (XK g k) _ _ h (fun d t => k t h d * (1 / Real.exp (cum g t h d - cum g 31 h d))) (fun d => Real.exp (cum g 63 h d - cum g 31 h d))
    (fun d => Real.exp_pos _) (fun t d => by
      unfold XK; rw [Real.exp_sub, Real.exp_sub, Real.exp_sub]
      have := (Real.exp_pos (cum g 31 h d)).ne'; have := (Real.exp_pos (cum g t.val h d)).ne'; field_simp)
    (fun d t => kRow_at R t h d) (fun d => kFac_at R h d)

omit R in
theorem top_lt (X : RTok) (h : Fin 8) : top X h * Ideal.ofBits .f32 0x3B124925#32 < ⊤ := by
  obtain ⟨p, -, hp⟩ := Finset.exists_max_image (Finset.univ : Finset (Fin 64 × Fin 128)) (fun p => |X p.1.val h p.2|) ⟨(0, 0), Finset.mem_univ _⟩
  rw [← top_eq X h ((|X p.1.val h p.2| : ℝ) : EReal) (fun t d => EReal.coe_le_coe_iff.mpr (hp (t, d) (Finset.mem_univ _))) ⟨p.1, p.2, le_rfl⟩]
  obtain ⟨r, e, -⟩ := l448inv
  rw [e, ← EReal.coe_mul]
  exact EReal.coe_lt_top _

theorem scq_at (h : Fin 8) : (scaleOf D.xq (ix2 h (0 : Fin 1)) : EReal) = sc (XQ g q) h := by
  have e := xq_at R h
  rw [scaleOf_at _ h (by rw [e]; exact top_lt _ _), e]; rfl
theorem sck_at (h : Fin 8) : (scaleOf D.xk (ix2 h (0 : Fin 1)) : EReal) = sc (XK g k) h := by
  have e := xk_at R h
  rw [scaleOf_at _ h (by rw [e]; exact top_lt _ _), e]; rfl
theorem invq_at (h : Fin 8) : (invOf D.xq (ix2 h (0 : Fin 1)) : EReal) = Ideal.div 1 (sc (XQ g q) h) := by
  have e := xq_at R h
  rw [invOf_at _ h (by rw [e]; exact top_lt _ _), e]; rfl
theorem invk_at (h : Fin 8) : (invOf D.xk (ix2 h (0 : Fin 1)) : EReal) = Ideal.div 1 (sc (XK g k) h) := by
  have e := xk_at R h
  rw [invOf_at _ h (by rw [e]; exact top_lt _ _), e]; rfl

omit R in
theorem scaleRow_at (x : FVec Ideal S8x1 .f32) (h : Fin 8) : (scaleRow x (ix3 (0 : Fin 1) (0 : Fin 1) h) : EReal) = scaleOf x (ix2 h (0 : Fin 1)) := by
  pointwise [scaleRow, wide]
  rw [Finset.sum_eq_single h]
  · rw [show IntOp.cmpi CmpIPredicate.eq (BitVec.ofNat 32 h.val) (BitVec.ofNat 32 h.val) = 1#1 from by simp [IntOp.cmpi]]; rfl
  · intro b _ hb
    rw [show IntOp.cmpi CmpIPredicate.eq (BitVec.ofNat 32 b.val) (BitVec.ofNat 32 h.val) = 0#1 from
      (by decide +kernel : ∀ b h : Fin 8, b ≠ h → IntOp.cmpi CmpIPredicate.eq (BitVec.ofNat 32 b.val) (BitVec.ofNat 32 h.val) = 0#1) b h hb]; rfl
  · intro hh; exact absurd (Finset.mem_univ _) hh

theorem fq_at (t : ℕ) (h : Fin 8) (d : Fin 128) : (D.rq t (ix2 h d) : EReal) * D.fq (ix2 h d) = ((XQ g q (t % 64) h d : ℝ) : EReal) * Ideal.div 1 (sc (XQ g q) h) := by
  have e : (D.fq (ix2 h d) : EReal) = qFac D.g (D.g 0) (ix2 h d) * invOf D.xq (ix2 h (0 : Fin 1)) := by
    unfold ChunkIn.fq codeFac0; pointwise
  rw [e, invq_at R, qFac_at R, show (D.rq t (ix2 h d) : EReal) = _ from qRow_at R (t % 64) h d, ← mul_assoc, ← EReal.coe_mul]
  congr 2
  unfold XQ; rw [Real.exp_sub]; have := (Real.exp_pos (cum g 31 h d)).ne'; field_simp
theorem fk_at (t : ℕ) (h : Fin 8) (d : Fin 128) : (D.rk t (ix2 h d) : EReal) * D.fk (ix2 h d) = ((XK g k (t % 64) h d : ℝ) : EReal) * Ideal.div 1 (sc (XK g k) h) := by
  have e : (D.fk (ix2 h d) : EReal) = kFac D.g (ix2 h d) * invOf D.xk (ix2 h (0 : Fin 1)) := by
    unfold ChunkIn.fk codeFac0; pointwise
  rw [e, invk_at R, kFac_at R, show (D.rk t (ix2 h d) : EReal) = _ from kRow_at R (t % 64) h d, ← mul_assoc, ← EReal.coe_mul]
  congr 2
  unfold XK; rw [Real.exp_sub, Real.exp_sub, Real.exp_sub]
  have := (Real.exp_pos (cum g 31 h d)).ne'; have := (Real.exp_pos (cum g (t % 64) h d)).ne'; field_simp

omit R in
theorem codesOf_at (U : ℕ → FVec Ideal S8x128 .f32) (f : FVec Ideal S8x128 .f32) (r : Fin 32) (l : Fin 128) (j : ℕ) :
    (codesOf U f j (ix2 r l) : EReal) = min (Ideal.ofBits .f32 0x43E00000#32) (max (Ideal.ofBits .f32 0xC3E00000#32)
      (U (4 * j + r.val / 8) (ix2 ⟨r.val % 8, by omega⟩ l) * f (ix2 ⟨r.val % 8, by omega⟩ l))) := by
  pointwise [codesOf]
  congr 2
  obtain ⟨r, hr⟩ := r
  dsimp only
  by_cases h1 : r < 8
  · rw [dif_pos h1]; simp only [show r / 8 = 0 by omega, show r % 8 = r by omega]; rfl
  rw [dif_neg h1]
  by_cases h2 : r - 8 < 8
  · rw [dif_pos h2]; simp only [show r / 8 = 1 by omega, show r % 8 = r - 8 by omega]
  rw [dif_neg h2]
  by_cases h3 : r - 8 - 8 < 8
  · rw [dif_pos h3]; simp only [show r / 8 = 2 by omega, show r % 8 = r - 8 - 8 by omega]
  rw [dif_neg h3]
  simp only [show r / 8 = 3 by omega, show r % 8 = r - 8 - 8 - 8 by omega]

theorem cq_at (r : Fin 32) (l : Fin 128) (j : ℕ) : (D.cq j (ix2 r l) : EReal) = code (XQ g q) ((4 * j + r.val / 8) % 64) ⟨r.val % 8, by omega⟩ l := by
  unfold ChunkIn.cq code
  rw [codesOf_at, fq_at R]
theorem ck_at (r : Fin 32) (l : Fin 128) (j : ℕ) : (D.ck j (ix2 r l) : EReal) = code (XK g k) ((4 * j + r.val / 8) % 64) ⟨r.val % 8, by omega⟩ l := by
  unfold ChunkIn.ck code
  rw [codesOf_at, fk_at R]
theorem dq_at (h : Fin 8) (l : Fin 128) (t : Fin 64) : (D.dq t.val (ix2 h l) : EReal) = code (XQ g q) t.val h l * sc (XQ g q) h := by
  unfold ChunkIn.dq
  pointwise [decRow, wide]
  rw [scq_at R, show codesOf D.rq D.fq = D.cq from rfl, cq_at R]
  obtain ⟨h, hh⟩ := h
  obtain ⟨t, ht⟩ := t
  dsimp only
  simp only [show (8 * (t % 4) + h) % 8 = h by omega, show (4 * (t / 4) + (8 * (t % 4) + h) / 8) % 64 = t by omega]
theorem dk_at (h : Fin 8) (l : Fin 128) (t : Fin 64) : (D.dk t.val (ix2 h l) : EReal) = code (XK g k) t.val h l * sc (XK g k) h := by
  unfold ChunkIn.dk
  pointwise [decRow, wide]
  rw [sck_at R, show codesOf D.rk D.fk = D.ck from rfl, ck_at R]
  obtain ⟨h, hh⟩ := h
  obtain ⟨t, ht⟩ := t
  dsimp only
  simp only [show (8 * (t % 4) + h) % 8 = h by omega, show (4 * (t / 4) + (8 * (t % 4) + h) / 8) % 64 = t by omega]

end Cert.KernelIdeal.Hand

end
-- ==== Proof.KernelIdeal.Heads.lean ====
/-
  The kernel's outputs and next state of a chunk at real queries, keys and gates.
-/
module

public import proofs.«01_k».proof.Proof.KernelIdeal.Reals

@[expose] public section

set_option maxRecDepth 16384

noncomputable section

namespace Cert.KernelIdeal.Hand

open Cert.KernelIdeal Cert.KernelIdeal.Gen Cert.Math
open Idealize.ShloMosaic Idealize.ShloMosaic.TcCoe
open Idealize.SL.Sem

/-- A chunk's values, and a state's entries. -/
def vD (D : ChunkIn Ideal) : VTok := fun t h l =>
  if hl : l.val < 128 then D.v0 t (ix4 (0 : Fin 1) (0 : Fin 1) h ⟨l.val, hl⟩) else D.v1 t (ix4 (0 : Fin 1) (0 : Fin 1) h ⟨l.val - 128, by omega⟩)
def sD (S : FVec Ideal S1x8x128x256 .f32) : State := fun h d l => S (ix4 (0 : Fin 1) h d l)

theorem sle_iff (a b : Fin 64) : IntOp.cmpi CmpIPredicate.sle (BitVec.ofNat 32 a.val) (BitVec.ofNat 32 b.val) = if a.val ≤ b.val then 1#1 else 0#1 :=
  (by decide +kernel : ∀ a b : Fin 64, IntOp.cmpi CmpIPredicate.sle (BitVec.ofNat 32 a.val) (BitVec.ofNat 32 b.val) = if a.val ≤ b.val then 1#1 else 0#1) a b

variable {D : ChunkIn Ideal} {g q k : RTok} (R : IsReal D g q k)
include R

omit R in
theorem headOf_at (U : ℕ → FVec Ideal S8x128 .f32) (h : Fin 8) (t : Fin 64) (d : Fin 128) : (headOf U h.val (ix2 t d) : EReal) = U t.val (ix2 h d) := by
  obtain ⟨h, hh⟩ := h
  show (U t.val (ix2 (⟨h % 8, _⟩ : Fin 8) d) : EReal) = _
  simp only [show h % 8 = h by omega]
omit R in
theorem stateAt_at (S : FVec Ideal S1x8x128x256 .f32) (h : Fin 8) (d : Fin 128) (l : Fin 256) : (stateAt S h.val (ix4 (0 : Fin 1) (0 : Fin 1) d l) : EReal) = sD S h d l := by
  obtain ⟨h, hh⟩ := h
  show (S (ix4 (0 : Fin 1) (⟨h % 8, _⟩ : Fin 8) d l) : EReal) = _
  simp only [show h % 8 = h by omega]
  rfl
omit R in
theorem v_at' (t : Fin 64) (h : Fin 8) (l : Fin 256) :
    (if hl : l.val < 128 then (headOf (vRow D.v0) h.val (ix2 t ⟨l.val, hl⟩) : EReal) else headOf (vRow D.v1) h.val (ix2 t ⟨l.val - 128, by omega⟩)) = vD D t.val h l := by
  unfold vD
  by_cases hl : l.val < 128
  · rw [dif_pos hl, dif_pos hl, headOf_at]
    pointwise [vRow, tok]
  · rw [dif_neg hl, dif_neg hl, headOf_at]
    pointwise [vRow, tok]

theorem score_at (t s : Fin 64) (h : Fin 8) :
    (∑ x : Fin 128, (headOf (qRow D.g D.q) h.val (ix2 t x) : EReal) * headOf (kRow D.g D.k) h.val (ix2 s x)) * Ideal.ofBits .f32 0x3DB504F3#32 = ((att g q k t.val s.val h : ℝ) : EReal) := by
  have e : ∀ x : Fin 128, (headOf (qRow D.g D.q) h.val (ix2 t x) : EReal) * headOf (kRow D.g D.k) h.val (ix2 s x)
      = ((q t.val h x * Real.exp (cum g t.val h x - cum g 31 h x) * (k s.val h x * (1 / Real.exp (cum g s.val h x - cum g 31 h x))) : ℝ) : EReal) := fun x => by
    rw [headOf_at, headOf_at, qRow_at R, kRow_at R, ← EReal.coe_mul]
  simp only [e]
  rw [coe_sum, cS_eq, ← EReal.coe_mul, Finset.sum_mul]
  congr 1
  unfold att
  refine Finset.sum_congr rfl fun x _ => ?_
  rw [Real.exp_sub, Real.exp_sub, Real.exp_sub]
  have := (Real.exp_pos (cum g 31 h x)).ne'; have := (Real.exp_pos (cum g s.val h x)).ne'; field_simp

theorem out_at (S : FVec Ideal S1x8x128x256 .f32) (h : Fin 8) (t : Fin 64) (l : Fin 256) :
    (D.out S h.val (ix2 t l) : EReal) = outS g q k (vD D) (sD S) t.val h l := by
  unfold ChunkIn.out outS
  pointwise [outOf, scores, vals]
  congr 1
  · rw [sum_mul_sc]
    refine Finset.sum_congr rfl fun x _ => ?_
    rw [headOf_at D.dq h t x, dq_at R, mul_right_comm]
    congr 2
    exact stateAt_at S h x l
  · refine Finset.sum_congr rfl fun x _ => ?_
    rw [sle_iff, v_at' (D := D) x h l, score_at R t x h]
    by_cases hx : x.val ≤ t.val
    · rw [if_pos hx, if_pos hx]; rfl
    · rw [if_neg hx, if_neg hx, zero_mul]; rfl

theorem dec_at (h : Fin 8) (d : Fin 128) : (decayOf D.g (D.g 0) (ix2 d h) : EReal) = (Real.exp (cum g 63 h d) : EReal) := by
  pointwise [decayOf]
  rw [bMid_at R, dTok_at R, ← EReal.coe_add, Ideal.exp_coe]
  congr 2; ring

theorem next_at (S : FVec Ideal S1x8x128x256 .f32) (h : Fin 8) (d : Fin 128) (l : Fin 256) :
    (D.next S h.val (ix4 (0 : Fin 1) (0 : Fin 1) d l) : EReal) = nextS g k (vD D) (sD S) h d l := by
  unfold ChunkIn.next nextS
  pointwise [nextState, vals]
  have e : (⟨h.val % 8, by omega⟩ : Fin 8) = h := Fin.ext (by show h.val % 8 = h.val; omega)
  rw [e, dec_at R, stateAt_at S h d l, sum_mul_sc]
  congr 1
  refine Finset.sum_congr rfl fun x _ => ?_
  rw [v_at' (D := D) x h l, headOf_at D.dk h x d, dk_at R, mul_right_comm]

omit R in
/-- The state before a chunk, from chunk to chunk. -/
theorem stateOf_zero (D : ℕ → ChunkIn Ideal) : sD (stateOf D 0) = fun _ _ _ => 0 := by
  funext h d l
  show Ideal.ofBits .f32 0x00000000#32 = _
  simp
omit R in
theorem stateOf_succ (D : ℕ → ChunkIn Ideal) (g q k : RTok) (n : ℕ) (R : IsReal (D n) g q k) : sD (stateOf D (n + 1)) = nextS g k (vD (D n)) (sD (stateOf D n)) := by
  funext h d l
  exact next_at R (stateOf D n) h d l

end Cert.KernelIdeal.Hand

end
-- ==== Proof.ReferenceIdeal.Step.lean ====
/-
  One trip of the loop over chunks: the six slices it takes, the outputs it computes from the state it found, the
  state it leaves, and the row of outputs it fills.
-/
module

public import proofs.«01_k».proof.Proof.Gen.ReferenceIdeal.Frame
public import proofs.«01_k».proof.Proof.Math.Spec
public import Idealize.ShloMosaic.Lib.Pointwise
public import Idealize.ShloMosaic.Lib.WordCmp
public import Idealize.ShloMosaic.Lib.StableHlo.ReadAt

@[expose] public section

set_option maxRecDepth 16384

noncomputable section

namespace Cert.ReferenceIdeal.Hand

open Cert.ReferenceIdeal Cert.ReferenceIdeal.Gen Cert.Math
open Idealize.ShloMosaic Idealize.ShloMosaic.TcCoe Idealize.ShloMosaic.StableHlo
open Idealize.SL.Sem

theorem mul_swap {x y u w : EReal} (hx : x = u) (hy : y = w) : x * y = w * u := by rw [hx, hy, mul_comm]

variable (V : Valuation τ sig (Elt Ideal)) (n : Fin 512) (b : Fin 2)

theorem slice_a (t : Fin 64) (h : Fin 8) (d : Fin 128) (x : S512x2x64x8x128.Idx → EReal) (st : Fin 5 → ℤ) (hf hc) (h_0 : st 0 = (n.val : ℤ)) (h_1 : st 1 = 0) (h_2 : st 2 = 0) (h_3 : st 3 = 0) (h_4 : st 4 = 0) :
    shapeCast S2x64x8x128 (Host.dynamicSlice S1x2x64x8x128 x st hf) hc (ix4 b t h d) = x (ix5 n b t h d) := by
  rw [WordCmp.dynamicSlice_eq_extract S1x2x64x8x128 x st hf ![n.val, 0, 0, 0, 0] ⟨rfl, fun a => by
    fin_cases a
    · show n.val + 1 ≤ 512; omega
    all_goals exact le_refl _⟩ (fun a => by fin_cases a; exacts [h_0, h_1, h_2, h_3, h_4])]
  pointwise

theorem slice_s (h : Fin 8) (x : S512x2x8.Idx → EReal) (st : Fin 3 → ℤ) (hf hc) (h_0 : st 0 = (n.val : ℤ)) (h_1 : st 1 = 0) (h_2 : st 2 = 0) :
    shapeCast S2x8 (Host.dynamicSlice S1x2x8 x st hf) hc (ix2 b h) = x (ix3 n b h) := by
  rw [WordCmp.dynamicSlice_eq_extract S1x2x8 x st hf ![n.val, 0, 0] ⟨rfl, fun a => by
    fin_cases a
    · show n.val + 1 ≤ 512; omega
    all_goals exact le_refl _⟩ (fun a => by fin_cases a; exacts [h_0, h_1, h_2])]
  pointwise

theorem slice_v (t : Fin 64) (h : Fin 8) (l : Fin 256) (x : S512x2x64x8x256.Idx → EReal) (st : Fin 5 → ℤ) (hf hc) (h_0 : st 0 = (n.val : ℤ)) (h_1 : st 1 = 0) (h_2 : st 2 = 0) (h_3 : st 3 = 0) (h_4 : st 4 = 0) :
    shapeCast S2x64x8x256 (Host.dynamicSlice S1x2x64x8x256 x st hf) hc (ix4 b t h l) = x (ix5 n b t h l) := by
  rw [WordCmp.dynamicSlice_eq_extract S1x2x64x8x256 x st hf ![n.val, 0, 0, 0, 0] ⟨rfl, fun a => by
    fin_cases a
    · show n.val + 1 ≤ 512; omega
    all_goals exact le_refl _⟩ (fun a => by fin_cases a; exacts [h_0, h_1, h_2, h_3, h_4])]
  pointwise

theorem slice_e (h : Fin 8) (d : Fin 128) (x : S512x2x8x128.Idx → EReal) (st : Fin 4 → ℤ) (hf hc) (h_0 : st 0 = (n.val : ℤ)) (h_1 : st 1 = 0) (h_2 : st 2 = 0) (h_3 : st 3 = 0) :
    shapeCast S2x8x128 (Host.dynamicSlice S1x2x8x128 x st hf) hc (ix3 b h d) = x (ix4 n b h d) := by
  rw [WordCmp.dynamicSlice_eq_extract S1x2x8x128 x st hf ![n.val, 0, 0, 0] ⟨rfl, fun a => by
    fin_cases a
    · show n.val + 1 ≤ 512; omega
    all_goals exact le_refl _⟩ (fun a => by fin_cases a; exacts [h_0, h_1, h_2, h_3])]
  pointwise

theorem v134_at (t : Fin 64) (h : Fin 8) (d : Fin 128) (hc : (V (Proc.devRef .tc main_v129_6) : S_.Idx → BitVec 32) = fun _ => BitVec.ofNat 32 n.val) :
    (after while0Ops0 V (Proc.devRef .tc main_while0b_v134) : S2x64x8x128.Idx → EReal) (ix4 b t h d) = (V (Proc.devRef .tc main_v129_0) : S512x2x64x8x128.Idx → EReal) (ix5 n b t h d) := by
  after_reads_simp
  clean_types
  refine slice_a n b t h d _ _ sliceFits_S512x2x64x8x128_S1x2x64x8x128 shapeCasts_S1x2x64x8x128_S2x64x8x128 ?_ ?_ ?_ ?_ ?_
  · show ((V (Proc.devRef .tc main_v129_6) : S_.Idx → BitVec 32) (Shape.Idx.first h_S_)).toInt = _
    rw [hc]
    exact WordCmp.toInt_ofNat_of_lt (by omega)
  all_goals rfl

theorem v135_at (h : Fin 8) (hc : (V (Proc.devRef .tc main_v129_6) : S_.Idx → BitVec 32) = fun _ => BitVec.ofNat 32 n.val) :
    (after while0Ops0_1 V (Proc.devRef .tc main_while0b_v135) : S2x8.Idx → EReal) (ix2 b h) = (V (Proc.devRef .tc main_v129_1) : S512x2x8.Idx → EReal) (ix3 n b h) := by
  after_reads_simp
  clean_types
  refine slice_s n b h _ _ sliceFits_S512x2x8_S1x2x8 shapeCasts_S1x2x8_S2x8 ?_ ?_ ?_
  · show ((V (Proc.devRef .tc main_v129_6) : S_.Idx → BitVec 32) (Shape.Idx.first h_S_)).toInt = _
    rw [hc]
    exact WordCmp.toInt_ofNat_of_lt (by omega)
  all_goals rfl

theorem v136_at (t : Fin 64) (h : Fin 8) (d : Fin 128) (hc : (V (Proc.devRef .tc main_v129_6) : S_.Idx → BitVec 32) = fun _ => BitVec.ofNat 32 n.val) :
    (after while0Ops0_2 V (Proc.devRef .tc main_while0b_v136) : S2x64x8x128.Idx → EReal) (ix4 b t h d) = (V (Proc.devRef .tc main_v129_2) : S512x2x64x8x128.Idx → EReal) (ix5 n b t h d) := by
  after_reads_simp
  clean_types
  refine slice_a n b t h d _ _ sliceFits_S512x2x64x8x128_S1x2x64x8x128 shapeCasts_S1x2x64x8x128_S2x64x8x128 ?_ ?_ ?_ ?_ ?_
  · show ((V (Proc.devRef .tc main_v129_6) : S_.Idx → BitVec 32) (Shape.Idx.first h_S_)).toInt = _
    rw [hc]
    exact WordCmp.toInt_ofNat_of_lt (by omega)
  all_goals rfl

theorem v137_at (h : Fin 8) (hc : (V (Proc.devRef .tc main_v129_6) : S_.Idx → BitVec 32) = fun _ => BitVec.ofNat 32 n.val) :
    (after while0Ops0_3 V (Proc.devRef .tc main_while0b_v137) : S2x8.Idx → EReal) (ix2 b h) = (V (Proc.devRef .tc main_v129_3) : S512x2x8.Idx → EReal) (ix3 n b h) := by
  after_reads_simp
  clean_types
  refine slice_s n b h _ _ sliceFits_S512x2x8_S1x2x8 shapeCasts_S1x2x8_S2x8 ?_ ?_ ?_
  · show ((V (Proc.devRef .tc main_v129_6) : S_.Idx → BitVec 32) (Shape.Idx.first h_S_)).toInt = _
    rw [hc]
    exact WordCmp.toInt_ofNat_of_lt (by omega)
  all_goals rfl

theorem v138_at (t : Fin 64) (h : Fin 8) (l : Fin 256) (hc : (V (Proc.devRef .tc main_v129_6) : S_.Idx → BitVec 32) = fun _ => BitVec.ofNat 32 n.val) :
    (after while0Ops0_4 V (Proc.devRef .tc main_while0b_v138) : S2x64x8x256.Idx → EReal) (ix4 b t h l) = (V (Proc.devRef .tc main_v129_4) : S512x2x64x8x256.Idx → EReal) (ix5 n b t h l) := by
  after_reads_simp
  clean_types
  refine slice_v n b t h l _ _ sliceFits_S512x2x64x8x256_S1x2x64x8x256 shapeCasts_S1x2x64x8x256_S2x64x8x256 ?_ ?_ ?_ ?_ ?_
  · show ((V (Proc.devRef .tc main_v129_6) : S_.Idx → BitVec 32) (Shape.Idx.first h_S_)).toInt = _
    rw [hc]
    exact WordCmp.toInt_ofNat_of_lt (by omega)
  all_goals rfl

theorem v139_at (h : Fin 8) (d : Fin 128) (hc : (V (Proc.devRef .tc main_v129_6) : S_.Idx → BitVec 32) = fun _ => BitVec.ofNat 32 n.val) :
    (after while0Ops0_5 V (Proc.devRef .tc main_while0b_v139) : S2x8x128.Idx → EReal) (ix3 b h d) = (V (Proc.devRef .tc main_v129_5) : S512x2x8x128.Idx → EReal) (ix4 n b h d) := by
  after_reads_simp
  clean_types
  refine slice_e n b h d _ _ sliceFits_S512x2x8x128_S1x2x8x128 shapeCasts_S1x2x8x128_S2x8x128 ?_ ?_ ?_ ?_
  · show ((V (Proc.devRef .tc main_v129_6) : S_.Idx → BitVec 32) (Shape.Idx.first h_S_)).toInt = _
    rw [hc]
    exact WordCmp.toInt_ofNat_of_lt (by omega)
  all_goals rfl

theorem v144_at (t : Fin 64) (h : Fin 8) (l : Fin 256) (S Q : Fin 128 → EReal) (z : EReal)
    (hS : ∀ d : Fin 128, (V (Proc.devRef .tc main_v129_7) : S2x8x128x256.Idx → EReal) (ix4 b h d l) = S d)
    (hQ : ∀ d : Fin 128, (V (Proc.devRef .tc main_while0b_v134) : S2x64x8x128.Idx → EReal) (ix4 b t h d) = Q d)
    (hz : (V (Proc.devRef .tc main_while0b_v135) : S2x8.Idx → EReal) (ix2 b h) = z) :
    (after while0Ops0_6 V (Proc.devRef .tc main_while0b_v144) : S2x64x8x256.Idx → EReal) (ix4 b t h l) = (∑ d, Q d * S d) * z := by
  after_reads_at
  refine congrArg₂ (· * ·) (Finset.sum_congr rfl fun d _ => ?_) hz
  exact mul_swap (hS d) (hQ d)

theorem v152_at (h : Fin 8) (d : Fin 128) (l : Fin 256) (K v : Fin 64 → EReal) (z e s : EReal)
    (hK : ∀ t : Fin 64, (V (Proc.devRef .tc main_while0b_v136) : S2x64x8x128.Idx → EReal) (ix4 b t h d) = K t)
    (hv : ∀ t : Fin 64, (V (Proc.devRef .tc main_while0b_v138) : S2x64x8x256.Idx → EReal) (ix4 b t h l) = v t)
    (hz : (V (Proc.devRef .tc main_while0b_v137) : S2x8.Idx → EReal) (ix2 b h) = z)
    (he : (V (Proc.devRef .tc main_while0b_v139) : S2x8x128.Idx → EReal) (ix3 b h d) = e)
    (hs : (V (Proc.devRef .tc main_v129_7) : S2x8x128x256.Idx → EReal) (ix4 b h d l) = s) :
    (after while0Ops0_6 V (Proc.devRef .tc main_while0b_v152) : S2x8x128x256.Idx → EReal) (ix4 b h d l) = s * e + (∑ t, K t * v t) * z := by
  after_reads_at
  refine congrArg₂ (· + ·) (mul_swap he hs) (congrArg₂ (· * ·) (Finset.sum_congr rfl fun t _ => ?_) hz)
  exact congrArg₂ (· * ·) (hK t) (hv t)

theorem update_a (t : Fin 64) (h : Fin 8) (l : Fin 256) (n' : Fin 512) (x : S512x2x64x8x256.Idx → EReal) (u : S2x64x8x256.Idx → EReal) (st : Fin 5 → ℤ) (hf hb) (h_0 : st 0 = (n.val : ℤ)) (h_1 : st 1 = 0) (h_2 : st 2 = 0) (h_3 : st 3 = 0) (h_4 : st 4 = 0) :
    Host.dynamicUpdateSlice x (broadcastInDim S1x2x64x8x256 ![1, 2, 3, 4] hb u) st hf (ix5 n' b t h l)
      = if n' = n then u (ix4 b t h l) else x (ix5 n' b t h l) := by
  rw [WordCmp.dynamicUpdateSlice_eq_update x _ st hf ![n.val, 0, 0, 0, 0] ⟨rfl, fun a => by
    fin_cases a
    · show n.val + 1 ≤ 512; omega
    all_goals exact le_refl _⟩ (fun a => by fin_cases a; exacts [h_0, h_1, h_2, h_3, h_4])]
  pointwise
  split_ifs with h1 h2 h2
  · rfl
  · exact absurd (Fin.ext (by omega)) h2
  · exact absurd ⟨by rw [h2], by rw [h2]; omega⟩ h1
  · rfl

theorem v153_at (t : Fin 64) (h : Fin 8) (l : Fin 256) (n' : Fin 512) (hc : (V (Proc.devRef .tc main_v129_6) : S_.Idx → BitVec 32) = fun _ => BitVec.ofNat 32 n.val) :
    (after while0Ops0_7 V (Proc.devRef .tc main_while0b_v153) : S512x2x64x8x256.Idx → EReal) (ix5 n' b t h l)
      = if n' = n then (V (Proc.devRef .tc main_while0b_v144) : S2x64x8x256.Idx → EReal) (ix4 b t h l) else (V (Proc.devRef .tc main_v129_8) : S512x2x64x8x256.Idx → EReal) (ix5 n' b t h l) := by
  after_reads_simp
  clean_types
  refine update_a n b t h l n' _ _ _ sliceFits_S512x2x64x8x256_S1x2x64x8x256 bcast_S2x64x8x256_S1x2x64x8x256_1_2_3_4 ?_ ?_ ?_ ?_ ?_
  · show ((V (Proc.devRef .tc main_v129_6) : S_.Idx → BitVec 32) (Shape.Idx.first h_S_)).toInt = _
    rw [hc]
    exact WordCmp.toInt_ofNat_of_lt (by omega)
  all_goals rfl

theorem v129_7_at (h : Fin 8) (d : Fin 128) (l : Fin 256) :
    (after while0Ops0_8 V (Proc.devRef .tc main_v129_7) : S2x8x128x256.Idx → EReal) (ix4 b h d l) = (V (Proc.devRef .tc main_while0b_v152) : S2x8x128x256.Idx → EReal) (ix4 b h d l) := by
  after_reads_at
  rfl
theorem v129_8_at (t : Fin 64) (h : Fin 8) (l : Fin 256) (n' : Fin 512) :
    (after while0Ops0_8 V (Proc.devRef .tc main_v129_8) : S512x2x64x8x256.Idx → EReal) (ix5 n' b t h l) = (V (Proc.devRef .tc main_while0b_v153) : S512x2x64x8x256.Idx → EReal) (ix5 n' b t h l) := by
  after_reads_at
  rfl

end Cert.ReferenceIdeal.Hand

end
-- ==== Proof.ReferenceIdeal.Trip.lean ====
/-
  One trip of the loop over chunks, from the condition to the counter: the state and the outputs after it from those
  before it.
-/
module

public import proofs.«01_k».proof.Proof.ReferenceIdeal.Step
public import proofs.«01_k».proof.Proof.Math.Spec
public import Idealize.ShloMosaic.Lib.Pointwise
public import Idealize.ShloMosaic.Lib.WordCmp
public import Idealize.ShloMosaic.Lib.StableHlo.ReadAt

@[expose] public section

set_option maxRecDepth 16384

noncomputable section

namespace Cert.ReferenceIdeal.Hand

open Cert.ReferenceIdeal Cert.ReferenceIdeal.Gen Cert.Math
open Idealize.ShloMosaic Idealize.ShloMosaic.TcCoe Idealize.ShloMosaic.StableHlo
open Idealize.SL.Sem

variable (V : Valuation τ sig (Elt Ideal))

abbrev A0 : Valuation τ sig (Elt Ideal) := after condOps V
abbrev A1 : Valuation τ sig (Elt Ideal) := after while0Ops0 (A0 V)
abbrev A2 : Valuation τ sig (Elt Ideal) := after while0Ops0_1 (A1 V)
abbrev A3 : Valuation τ sig (Elt Ideal) := after while0Ops0_2 (A2 V)
abbrev A4 : Valuation τ sig (Elt Ideal) := after while0Ops0_3 (A3 V)
abbrev A5 : Valuation τ sig (Elt Ideal) := after while0Ops0_4 (A4 V)
abbrev A6 : Valuation τ sig (Elt Ideal) := after while0Ops0_5 (A5 V)
abbrev A7 : Valuation τ sig (Elt Ideal) := after while0Ops0_6 (A6 V)
abbrev A8 : Valuation τ sig (Elt Ideal) := after while0Ops0_7 (A7 V)
abbrev A9 : Valuation τ sig (Elt Ideal) := after while0Ops0_8 (A8 V)

theorem c0_v129_0 : A0 V (Proc.devRef .tc main_v129_0) = V (Proc.devRef .tc main_v129_0) :=
  (after_of_writes_sub condOps V condOps_writes (by decide +kernel))
theorem c1_v129_1 : A1 V (Proc.devRef .tc main_v129_1) = V (Proc.devRef .tc main_v129_1) :=
  ((after_of_writes_sub while0Ops0 (A0 V) while0Ops0_writes (by decide +kernel)).trans (after_of_writes_sub condOps V condOps_writes (by decide +kernel)))
theorem c2_v129_2 : A2 V (Proc.devRef .tc main_v129_2) = V (Proc.devRef .tc main_v129_2) :=
  (((after_of_writes_sub while0Ops0_1 (A1 V) while0Ops0_1_writes (by decide +kernel)).trans (after_of_writes_sub while0Ops0 (A0 V) while0Ops0_writes (by decide +kernel))).trans (after_of_writes_sub condOps V condOps_writes (by decide +kernel)))
theorem c3_v129_3 : A3 V (Proc.devRef .tc main_v129_3) = V (Proc.devRef .tc main_v129_3) :=
  ((((after_of_writes_sub while0Ops0_2 (A2 V) while0Ops0_2_writes (by decide +kernel)).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c4_v129_4 : A4 V (Proc.devRef .tc main_v129_4) = V (Proc.devRef .tc main_v129_4) :=
  (((((after_of_writes_sub while0Ops0_3 (A3 V) while0Ops0_3_writes (by decide +kernel)).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c5_v129_5 : A5 V (Proc.devRef .tc main_v129_5) = V (Proc.devRef .tc main_v129_5) :=
  ((((((after_of_writes_sub while0Ops0_4 (A4 V) while0Ops0_4_writes (by decide +kernel)).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c0_v129_6 : A0 V (Proc.devRef .tc main_v129_6) = V (Proc.devRef .tc main_v129_6) :=
  (after_of_writes_sub condOps V condOps_writes (by decide +kernel))
theorem c1_v129_6 : A1 V (Proc.devRef .tc main_v129_6) = V (Proc.devRef .tc main_v129_6) :=
  ((after_of_writes_sub while0Ops0 (A0 V) while0Ops0_writes (by decide +kernel)).trans (after_of_writes_sub condOps V condOps_writes (by decide +kernel)))
theorem c2_v129_6 : A2 V (Proc.devRef .tc main_v129_6) = V (Proc.devRef .tc main_v129_6) :=
  (((after_of_writes_sub while0Ops0_1 (A1 V) while0Ops0_1_writes (by decide +kernel)).trans (after_of_writes_sub while0Ops0 (A0 V) while0Ops0_writes (by decide +kernel))).trans (after_of_writes_sub condOps V condOps_writes (by decide +kernel)))
theorem c3_v129_6 : A3 V (Proc.devRef .tc main_v129_6) = V (Proc.devRef .tc main_v129_6) :=
  ((((after_of_writes_sub while0Ops0_2 (A2 V) while0Ops0_2_writes (by decide +kernel)).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c4_v129_6 : A4 V (Proc.devRef .tc main_v129_6) = V (Proc.devRef .tc main_v129_6) :=
  (((((after_of_writes_sub while0Ops0_3 (A3 V) while0Ops0_3_writes (by decide +kernel)).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c5_v129_6 : A5 V (Proc.devRef .tc main_v129_6) = V (Proc.devRef .tc main_v129_6) :=
  ((((((after_of_writes_sub while0Ops0_4 (A4 V) while0Ops0_4_writes (by decide +kernel)).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c7_v129_6 : A7 V (Proc.devRef .tc main_v129_6) = V (Proc.devRef .tc main_v129_6) :=
  ((((((((after_of_writes_sub while0Ops0_6 (A6 V) while0Ops0_6_writes (by decide +kernel)).trans (after_of_writes_sub while0Ops0_5 (A5 V) while0Ops0_5_writes (by decide +kernel))).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c6_v129_7 : A6 V (Proc.devRef .tc main_v129_7) = V (Proc.devRef .tc main_v129_7) :=
  (((((((after_of_writes_sub while0Ops0_5 (A5 V) while0Ops0_5_writes (by decide +kernel)).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c7_v129_8 : A7 V (Proc.devRef .tc main_v129_8) = V (Proc.devRef .tc main_v129_8) :=
  ((((((((after_of_writes_sub while0Ops0_6 (A6 V) while0Ops0_6_writes (by decide +kernel)).trans (after_of_writes_sub while0Ops0_5 (A5 V) while0Ops0_5_writes (by decide +kernel))).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c6_while0b_v134_1 : A6 V (Proc.devRef .tc main_while0b_v134) = A1 V (Proc.devRef .tc main_while0b_v134) :=
  (((((after_of_writes_sub while0Ops0_5 (A5 V) while0Ops0_5_writes (by decide +kernel)).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel)))
theorem c6_while0b_v135_2 : A6 V (Proc.devRef .tc main_while0b_v135) = A2 V (Proc.devRef .tc main_while0b_v135) :=
  ((((after_of_writes_sub while0Ops0_5 (A5 V) while0Ops0_5_writes (by decide +kernel)).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel)))
theorem c6_while0b_v136_3 : A6 V (Proc.devRef .tc main_while0b_v136) = A3 V (Proc.devRef .tc main_while0b_v136) :=
  (((after_of_writes_sub while0Ops0_5 (A5 V) while0Ops0_5_writes (by decide +kernel)).trans (after_of_writes_sub while0Ops0_4 (A4 V) while0Ops0_4_writes (by decide +kernel))).trans (after_of_writes_sub while0Ops0_3 (A3 V) while0Ops0_3_writes (by decide +kernel)))
theorem c6_while0b_v137_4 : A6 V (Proc.devRef .tc main_while0b_v137) = A4 V (Proc.devRef .tc main_while0b_v137) :=
  ((after_of_writes_sub while0Ops0_5 (A5 V) while0Ops0_5_writes (by decide +kernel)).trans (after_of_writes_sub while0Ops0_4 (A4 V) while0Ops0_4_writes (by decide +kernel)))
theorem c6_while0b_v138_5 : A6 V (Proc.devRef .tc main_while0b_v138) = A5 V (Proc.devRef .tc main_while0b_v138) :=
  (after_of_writes_sub while0Ops0_5 (A5 V) while0Ops0_5_writes (by decide +kernel))
theorem c8_while0b_v152_7 : A8 V (Proc.devRef .tc main_while0b_v152) = A7 V (Proc.devRef .tc main_while0b_v152) :=
  (after_of_writes_sub while0Ops0_7 (A7 V) while0Ops0_7_writes (by decide +kernel))
theorem c9_v129_0 : A9 V (Proc.devRef .tc main_v129_0) = V (Proc.devRef .tc main_v129_0) :=
  ((((((((((after_of_writes_sub while0Ops0_8 (A8 V) while0Ops0_8_writes (by decide +kernel)).trans (after_of_writes_sub while0Ops0_7 (A7 V) while0Ops0_7_writes (by decide +kernel))).trans (after_of_writes_sub while0Ops0_6 (A6 V) while0Ops0_6_writes (by decide +kernel))).trans (after_of_writes_sub while0Ops0_5 (A5 V) while0Ops0_5_writes (by decide +kernel))).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c9_v129_1 : A9 V (Proc.devRef .tc main_v129_1) = V (Proc.devRef .tc main_v129_1) :=
  ((((((((((after_of_writes_sub while0Ops0_8 (A8 V) while0Ops0_8_writes (by decide +kernel)).trans (after_of_writes_sub while0Ops0_7 (A7 V) while0Ops0_7_writes (by decide +kernel))).trans (after_of_writes_sub while0Ops0_6 (A6 V) while0Ops0_6_writes (by decide +kernel))).trans (after_of_writes_sub while0Ops0_5 (A5 V) while0Ops0_5_writes (by decide +kernel))).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c9_v129_2 : A9 V (Proc.devRef .tc main_v129_2) = V (Proc.devRef .tc main_v129_2) :=
  ((((((((((after_of_writes_sub while0Ops0_8 (A8 V) while0Ops0_8_writes (by decide +kernel)).trans (after_of_writes_sub while0Ops0_7 (A7 V) while0Ops0_7_writes (by decide +kernel))).trans (after_of_writes_sub while0Ops0_6 (A6 V) while0Ops0_6_writes (by decide +kernel))).trans (after_of_writes_sub while0Ops0_5 (A5 V) while0Ops0_5_writes (by decide +kernel))).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c9_v129_3 : A9 V (Proc.devRef .tc main_v129_3) = V (Proc.devRef .tc main_v129_3) :=
  ((((((((((after_of_writes_sub while0Ops0_8 (A8 V) while0Ops0_8_writes (by decide +kernel)).trans (after_of_writes_sub while0Ops0_7 (A7 V) while0Ops0_7_writes (by decide +kernel))).trans (after_of_writes_sub while0Ops0_6 (A6 V) while0Ops0_6_writes (by decide +kernel))).trans (after_of_writes_sub while0Ops0_5 (A5 V) while0Ops0_5_writes (by decide +kernel))).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c9_v129_4 : A9 V (Proc.devRef .tc main_v129_4) = V (Proc.devRef .tc main_v129_4) :=
  ((((((((((after_of_writes_sub while0Ops0_8 (A8 V) while0Ops0_8_writes (by decide +kernel)).trans (after_of_writes_sub while0Ops0_7 (A7 V) while0Ops0_7_writes (by decide +kernel))).trans (after_of_writes_sub while0Ops0_6 (A6 V) while0Ops0_6_writes (by decide +kernel))).trans (after_of_writes_sub while0Ops0_5 (A5 V) while0Ops0_5_writes (by decide +kernel))).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c9_v129_5 : A9 V (Proc.devRef .tc main_v129_5) = V (Proc.devRef .tc main_v129_5) :=
  ((((((((((after_of_writes_sub while0Ops0_8 (A8 V) while0Ops0_8_writes (by decide +kernel)).trans (after_of_writes_sub while0Ops0_7 (A7 V) while0Ops0_7_writes (by decide +kernel))).trans (after_of_writes_sub while0Ops0_6 (A6 V) while0Ops0_6_writes (by decide +kernel))).trans (after_of_writes_sub while0Ops0_5 (A5 V) while0Ops0_5_writes (by decide +kernel))).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c9_v119 : A9 V (Proc.devRef .tc main_v119) = V (Proc.devRef .tc main_v119) :=
  ((((((((((after_of_writes_sub while0Ops0_8 (A8 V) while0Ops0_8_writes (by decide +kernel)).trans (after_of_writes_sub while0Ops0_7 (A7 V) while0Ops0_7_writes (by decide +kernel))).trans (after_of_writes_sub while0Ops0_6 (A6 V) while0Ops0_6_writes (by decide +kernel))).trans (after_of_writes_sub while0Ops0_5 (A5 V) while0Ops0_5_writes (by decide +kernel))).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c9_v38 : A9 V (Proc.devRef .tc main_v38) = V (Proc.devRef .tc main_v38) :=
  ((((((((((after_of_writes_sub while0Ops0_8 (A8 V) while0Ops0_8_writes (by decide +kernel)).trans (after_of_writes_sub while0Ops0_7 (A7 V) while0Ops0_7_writes (by decide +kernel))).trans (after_of_writes_sub while0Ops0_6 (A6 V) while0Ops0_6_writes (by decide +kernel))).trans (after_of_writes_sub while0Ops0_5 (A5 V) while0Ops0_5_writes (by decide +kernel))).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c9_v59 : A9 V (Proc.devRef .tc main_v59) = V (Proc.devRef .tc main_v59) :=
  ((((((((((after_of_writes_sub while0Ops0_8 (A8 V) while0Ops0_8_writes (by decide +kernel)).trans (after_of_writes_sub while0Ops0_7 (A7 V) while0Ops0_7_writes (by decide +kernel))).trans (after_of_writes_sub while0Ops0_6 (A6 V) while0Ops0_6_writes (by decide +kernel))).trans (after_of_writes_sub while0Ops0_5 (A5 V) while0Ops0_5_writes (by decide +kernel))).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c9_v74_0 : A9 V (Proc.devRef .tc main_v74_0) = V (Proc.devRef .tc main_v74_0) :=
  ((((((((((after_of_writes_sub while0Ops0_8 (A8 V) while0Ops0_8_writes (by decide +kernel)).trans (after_of_writes_sub while0Ops0_7 (A7 V) while0Ops0_7_writes (by decide +kernel))).trans (after_of_writes_sub while0Ops0_6 (A6 V) while0Ops0_6_writes (by decide +kernel))).trans (after_of_writes_sub while0Ops0_5 (A5 V) while0Ops0_5_writes (by decide +kernel))).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))
theorem c9_v74_2 : A9 V (Proc.devRef .tc main_v74_2) = V (Proc.devRef .tc main_v74_2) :=
  ((((((((((after_of_writes_sub while0Ops0_8 (A8 V) while0Ops0_8_writes (by decide +kernel)).trans (after_of_writes_sub while0Ops0_7 (A7 V) while0Ops0_7_writes (by decide +kernel))).trans (after_of_writes_sub while0Ops0_6 (A6 V) while0Ops0_6_writes (by decide +kernel))).trans (after_of_writes_sub while0Ops0_5 (A5 V) while0Ops0_5_writes (by decide +kernel))).trans (after_of_writes_sub while0Ops0_4 (A4 V) while0Ops0_4_writes (by decide +kernel))).trans (after_of_writes_sub while0Ops0_3 (A3 V) while0Ops0_3_writes (by decide +kernel))).trans (after_of_writes_sub while0Ops0_2 (A2 V) while0Ops0_2_writes (by decide +kernel))).trans (after_of_writes_sub while0Ops0_1 (A1 V) while0Ops0_1_writes (by decide +kernel))).trans (after_of_writes_sub while0Ops0 (A0 V) while0Ops0_writes (by decide +kernel))).trans (after_of_writes_sub condOps V condOps_writes (by decide +kernel)))

/-- The state after a trip. -/
theorem trip_state (n : Fin 512) (b : Fin 2) (h : Fin 8) (d : Fin 128) (l : Fin 256) (hc : (V (Proc.devRef .tc main_v129_6) : S_.Idx → BitVec 32) = fun _ => BitVec.ofNat 32 n.val) (K v : Fin 64 → EReal) (z e s : EReal)
    (hK : ∀ t : Fin 64, (V (Proc.devRef .tc main_v129_2) : S512x2x64x8x128.Idx → EReal) (ix5 n b t h d) = K t)
    (hv : ∀ t : Fin 64, (V (Proc.devRef .tc main_v129_4) : S512x2x64x8x256.Idx → EReal) (ix5 n b t h l) = v t)
    (hz : (V (Proc.devRef .tc main_v129_3) : S512x2x8.Idx → EReal) (ix3 n b h) = z)
    (he : (V (Proc.devRef .tc main_v129_5) : S512x2x8x128.Idx → EReal) (ix4 n b h d) = e)
    (hs : (V (Proc.devRef .tc main_v129_7) : S2x8x128x256.Idx → EReal) (ix4 b h d l) = s) :
    (A9 V (Proc.devRef .tc main_v129_7) : S2x8x128x256.Idx → EReal) (ix4 b h d l) = s * e + (∑ t, K t * v t) * z := by
  refine (v129_7_at (A8 V) b h d l).trans ((congrFun (c8_while0b_v152_7 V) (ix4 b h d l)).trans ?_)
  refine v152_at (A6 V) b h d l K v z e s (fun t => ?_) (fun t => ?_) ?_ ?_ ?_
  · exact (congrFun (c6_while0b_v136_3 V) (ix4 b t h d)).trans ((v136_at (A2 V) n b t h d ((c2_v129_6 V).trans hc)).trans ((congrFun (c2_v129_2 V) (ix5 n b t h d)).trans (hK t)))
  · exact (congrFun (c6_while0b_v138_5 V) (ix4 b t h l)).trans ((v138_at (A4 V) n b t h l ((c4_v129_6 V).trans hc)).trans ((congrFun (c4_v129_4 V) (ix5 n b t h l)).trans (hv t)))
  · exact (congrFun (c6_while0b_v137_4 V) (ix2 b h)).trans ((v137_at (A3 V) n b h ((c3_v129_6 V).trans hc)).trans ((congrFun (c3_v129_3 V) (ix3 n b h)).trans hz))
  · exact (v139_at (A5 V) n b h d ((c5_v129_6 V).trans hc)).trans ((congrFun (c5_v129_5 V) (ix4 n b h d)).trans he)
  · exact (congrFun (c6_v129_7 V) (ix4 b h d l)).trans hs

/-- The row of outputs a trip fills, and the rows it leaves. -/
theorem trip_row (n : Fin 512) (b : Fin 2) (t : Fin 64) (h : Fin 8) (l : Fin 256) (hc : (V (Proc.devRef .tc main_v129_6) : S_.Idx → BitVec 32) = fun _ => BitVec.ofNat 32 n.val) (S Q : Fin 128 → EReal) (z : EReal)
    (hQ : ∀ d : Fin 128, (V (Proc.devRef .tc main_v129_0) : S512x2x64x8x128.Idx → EReal) (ix5 n b t h d) = Q d)
    (hz : (V (Proc.devRef .tc main_v129_1) : S512x2x8.Idx → EReal) (ix3 n b h) = z)
    (hS : ∀ d : Fin 128, (V (Proc.devRef .tc main_v129_7) : S2x8x128x256.Idx → EReal) (ix4 b h d l) = S d) :
    (A9 V (Proc.devRef .tc main_v129_8) : S512x2x64x8x256.Idx → EReal) (ix5 n b t h l) = (∑ d, Q d * S d) * z := by
  refine (v129_8_at (A8 V) b t h l n).trans ((v153_at (A7 V) n b t h l n ((c7_v129_6 V).trans hc)).trans ((if_pos rfl).trans ?_))
  refine v144_at (A6 V) b t h l S Q z (fun d => ?_) (fun d => ?_) ?_
  · exact (congrFun (c6_v129_7 V) (ix4 b h d l)).trans (hS d)
  · exact (congrFun (c6_while0b_v134_1 V) (ix4 b t h d)).trans ((v134_at (A0 V) n b t h d ((c0_v129_6 V).trans hc)).trans ((congrFun (c0_v129_0 V) (ix5 n b t h d)).trans (hQ d)))
  · exact (congrFun (c6_while0b_v135_2 V) (ix2 b h)).trans ((v135_at (A1 V) n b h ((c1_v129_6 V).trans hc)).trans ((congrFun (c1_v129_1 V) (ix3 n b h)).trans hz))

theorem trip_rest (n n' : Fin 512) (hn : n' ≠ n) (b : Fin 2) (t : Fin 64) (h : Fin 8) (l : Fin 256) (hc : (V (Proc.devRef .tc main_v129_6) : S_.Idx → BitVec 32) = fun _ => BitVec.ofNat 32 n.val) :
    (A9 V (Proc.devRef .tc main_v129_8) : S512x2x64x8x256.Idx → EReal) (ix5 n' b t h l) = (V (Proc.devRef .tc main_v129_8) : S512x2x64x8x256.Idx → EReal) (ix5 n' b t h l) :=
  (v129_8_at (A8 V) b t h l n').trans ((v153_at (A7 V) n b t h l n' ((c7_v129_6 V).trans hc)).trans ((if_neg hn).trans (congrFun (c7_v129_8 V) (ix5 n' b t h l))))

end Cert.ReferenceIdeal.Hand

end
-- ==== Proof.ReferenceIdeal.Reads.lean ====
/-
  The reference's host operations before its encoding, each stretch read at an index of a buffer it fills.
-/
module

public import proofs.«01_k».proof.Proof.Gen.ReferenceIdeal.Frame
public import proofs.«01_k».proof.Proof.Math.Spec
public import Idealize.ShloMosaic.Lib.Pointwise
public import Idealize.ShloMosaic.Lib.StableHlo.ReadAt

@[expose] public section

set_option maxRecDepth 16384

noncomputable section

namespace Cert.ReferenceIdeal.Hand

open Cert.ReferenceIdeal Cert.ReferenceIdeal.Gen Cert.Math
open Idealize.ShloMosaic Idealize.ShloMosaic.TcCoe Idealize.ShloMosaic.StableHlo
open Idealize.SL.Sem

variable (V : Valuation τ sig (Elt Ideal)) (b : Fin 2) (n : Fin 512) (t : Fin 64) (h : Fin 8) (d : Fin 128)

/-- The power table. -/
theorem table (j : Fin 256) : Ideal.pow (Ideal.ofBits .f32 0x40000000#32) ((FloatOps.sitofp (F := Ideal) .f32 (BitVec.ofNat 32 j.val) : EReal) - Ideal.ofBits .f32 0x42FC0000#32) = p2 ((j.val : ℤ) - 126) := by
  have e : (FloatOps.sitofp (F := Ideal) .f32 (BitVec.ofNat 32 j.val) : EReal) = (((j.val : ℤ) : ℝ) : EReal) := by
    show (((BitVec.ofNat 32 j.val).toInt : ℝ) : EReal) = _
    rw [(by decide +kernel : ∀ j : Fin 256, (BitVec.ofNat 32 j.val).toInt = (j.val : ℤ)) j]
  rw [e, w1, l126, ← EReal.coe_sub]
  show ((Real.rpow ((2 : ℝ) ^ (1 : ℤ)) (((j.val : ℤ) : ℝ) - 126) : ℝ) : EReal) = (((2 : ℝ) ^ ((j.val : ℤ) - 126) : ℝ) : EReal)
  congr 1
  rw [zpow_one, ← Real.rpow_intCast]
  show (2 : ℝ) ^ (_ : ℝ) = _
  push_cast
  rfl

theorem foldl_sum (N : ℕ) (hN : N = 64) (f : Fin N → EReal) (G : ℕ → EReal) (hf : ∀ i, f i = G i.val) :
    (List.finRange N).foldl (fun r i => r + f i) 0 = ∑ m ∈ Finset.range 64, G m := by
  have e : ∀ (l : List (Fin N)) (a : EReal), l.foldl (fun r i => r + f i) a = a + (l.map f).sum := by
    intro l
    induction l with
    | nil => intro a; simp
    | cons x l ih => intro a; rw [List.foldl_cons, ih, List.map_cons, List.sum_cons, add_assoc]
  subst hN
  rw [e, zero_add, ← Fin.sum_univ_def, Finset.sum_range]
  exact Finset.sum_congr rfl fun i _ => hf i

theorem win_sum (x : ℕ → ℝ) (t : ℕ) (ht : t < 64) :
    ∑ m ∈ Finset.range 64, (if 63 ≤ t + m then ((x (t + m - 63) : ℝ) : EReal) else 0) = ((∑ s ∈ Finset.range (t + 1), x s : ℝ) : EReal) := by
  rw [← coe_sum, show (64 : ℕ) = (63 - t) + (t + 1) by omega, Finset.sum_range_add]
  rw [Finset.sum_eq_zero (fun m hm => if_neg (by have := Finset.mem_range.mp hm; omega)), zero_add]
  refine Finset.sum_congr rfl fun m _ => ?_
  rw [if_pos (by omega)]
  congr 2; omega

theorem W64_coord : ∀ m : Fin (⟨5, ![1, 1, 64, 1, 1]⟩ : Shape).numel,
    ((⟨5, ![1, 1, 64, 1, 1]⟩ : Shape).rowMajor.symm m (0 : Fin 5)).val = 0 ∧ ((⟨5, ![1, 1, 64, 1, 1]⟩ : Shape).rowMajor.symm m (1 : Fin 5)).val = 0
    ∧ ((⟨5, ![1, 1, 64, 1, 1]⟩ : Shape).rowMajor.symm m (2 : Fin 5)).val = m.val ∧ ((⟨5, ![1, 1, 64, 1, 1]⟩ : Shape).rowMajor.symm m (3 : Fin 5)).val = 0
    ∧ ((⟨5, ![1, 1, 64, 1, 1]⟩ : Shape).rowMajor.symm m (4 : Fin 5)).val = 0 := by decide +kernel

theorem v1_at : (after hostOps0 V (Proc.devRef .tc main_v1) : S2x512x64x8x128.Idx → EReal) (ix5 b n t h d) = (V (Proc.devRef .tc main_arg0) : S2x32768x8x128.Idx → EReal) (ix4 b ⟨n.val * 64 + t.val, by omega⟩ h d) := by
  after_reads_at
theorem v3_at : (after hostOps0 V (Proc.devRef .tc main_v3) : S2x512x64x8x128.Idx → EReal) (ix5 b n t h d) = (V (Proc.devRef .tc main_arg1) : S2x32768x8x128.Idx → EReal) (ix4 b ⟨n.val * 64 + t.val, by omega⟩ h d) := by
  after_reads_at
theorem v4_at (l : Fin 256) : (after hostOps0 V (Proc.devRef .tc main_v4) : S2x512x64x8x256.Idx → EReal) (ix5 b n t h l) = (V (Proc.devRef .tc main_arg2) : S2x32768x8x256.Idx → EReal) (ix4 b ⟨n.val * 64 + t.val, by omega⟩ h l) := by
  after_reads_at
theorem v5_at : (after hostOps0 V (Proc.devRef .tc main_v5) : S2x512x64x8x128.Idx → EReal) (ix5 b n t h d) = (V (Proc.devRef .tc main_arg3) : S2x32768x8x128.Idx → EReal) (ix4 b ⟨n.val * 64 + t.val, by omega⟩ h d) := by
  after_reads_at

variable (g q k : Fin 2 → Fin 512 → RTok)

theorem cumsum_at (x : S2x512x64x8x128.Idx → EReal) (hg : ∀ b n (t : Fin 64) h d, x (ix5 b n t h d) = ((g b n t.val h d : ℝ) : EReal)) :
    (Ideal.hostReduceWindowAdd ![1, 1, 64, 1, 1] ![1, 1, 1, 1, 1] ![0, 0, 63, 0, 0] ![0, 0, 0, 0, 0] reduceWindows_S2x512x64x8x128_S2x512x64x8x128_w1s1p0_0_w1s1p0_0_w64s1p63_0_w1s1p0_0_w1s1p0_0
      x 0 (ix5 b n t h d) : EReal) = ((cum (g b n) t.val h d : ℝ) : EReal) := by
  unfold Ideal.hostReduceWindowAdd Host.reduceWindow cum
  dsimp only
  rw [← win_sum (fun s => g b n s h d) t.val t.isLt]
  refine foldl_sum _ (by decide) _ _ fun i => ?_
  obtain ⟨c0, c1, c2, c3, c4⟩ := W64_coord i
  by_cases hi : 63 ≤ t.val + i.val
  · have hi64 : i.val < 64 := lt_of_lt_of_eq i.isLt (by decide)
    rw [if_pos hi, dif_pos]
    · have := hg b n ⟨t.val + i.val - 63, by omega⟩ h d
      rw [← this]
      congr 1
      funext a
      match a with
      | ⟨0, _⟩ => exact Fin.ext (show b.val * 1 + _ - 0 = b.val by erw [c0]; omega)
      | ⟨1, _⟩ => exact Fin.ext (show n.val * 1 + _ - 0 = n.val by erw [c1]; omega)
      | ⟨2, _⟩ => exact Fin.ext (show t.val * 1 + _ - 63 = t.val + i.val - 63 by erw [c2]; omega)
      | ⟨3, _⟩ => exact Fin.ext (show h.val * 1 + _ - 0 = h.val by erw [c3]; omega)
      | ⟨4, _⟩ => exact Fin.ext (show d.val * 1 + _ - 0 = d.val by erw [c4]; omega)
    · intro a
      match a with
      | ⟨0, _⟩ => exact ⟨Nat.zero_le _, show b.val * 1 + _ - 0 < 2 by erw [c0]; omega⟩
      | ⟨1, _⟩ => exact ⟨Nat.zero_le _, show n.val * 1 + _ - 0 < 512 by erw [c1]; omega⟩
      | ⟨2, _⟩ => exact ⟨show 63 ≤ t.val * 1 + _ by erw [c2]; omega, show t.val * 1 + _ - 63 < 64 by erw [c2]; omega⟩
      | ⟨3, _⟩ => exact ⟨Nat.zero_le _, show h.val * 1 + _ - 0 < 8 by erw [c3]; omega⟩
      | ⟨4, _⟩ => exact ⟨Nat.zero_le _, show d.val * 1 + _ - 0 < 128 by erw [c4]; omega⟩
  · rw [if_neg hi, dif_neg]
    intro hin
    have := (hin (2 : Fin 5)).1
    apply hi
    have e : 63 ≤ t.val * 1 + ((⟨5, ![1, 1, 64, 1, 1]⟩ : Shape).rowMajor.symm i (2 : Fin 5)).val := this
    omega
theorem v6_at (hg : ∀ b n (t : Fin 64) h d, (V (Proc.devRef .tc main_v5) : S2x512x64x8x128.Idx → EReal) (ix5 b n t h d) = ((g b n t.val h d : ℝ) : EReal)) :
    (after hostOps0_1 V (Proc.devRef .tc main_v6) : S2x512x64x8x128.Idx → EReal) (ix5 b n t h d) = ((cum (g b n) t.val h d : ℝ) : EReal) := by
  after_reads_at
  show (Ideal.hostReduceWindowAdd ![1, 1, 64, 1, 1] ![1, 1, 1, 1, 1] ![0, 0, 63, 0, 0] ![0, 0, 0, 0, 0] reduceWindows_S2x512x64x8x128_S2x512x64x8x128_w1s1p0_0_w1s1p0_0_w64s1p63_0_w1s1p0_0_w1s1p0_0
    (V (Proc.devRef .tc main_v5) : S2x512x64x8x128.Idx → EReal) (Ideal.ofBits .f32 0x00000000#32) (ix5 b n t h d) : EReal) = _
  rw [Ideal.ofBits_zero_f32]
  exact cumsum_at b n t h d g _ hg
theorem v8_at (hb : ∀ b n (t : Fin 64) h d, (V (Proc.devRef .tc main_v6) : S2x512x64x8x128.Idx → EReal) (ix5 b n t h d) = ((cum (g b n) t.val h d : ℝ) : EReal)) :
    (after hostOps0_2 V (Proc.devRef .tc main_v8) : S2x512x8x128.Idx → EReal) (ix4 b n h d) = ((cum (g b n) 63 h d : ℝ) : EReal) := by
  after_reads_at
  exact hb b n 63 h d
theorem v12_at (hb : ∀ b n (t : Fin 64) h d, (V (Proc.devRef .tc main_v6) : S2x512x64x8x128.Idx → EReal) (ix5 b n t h d) = ((cum (g b n) t.val h d : ℝ) : EReal))
    (hq : ∀ b n (t : Fin 64) h d, (V (Proc.devRef .tc main_v1) : S2x512x64x8x128.Idx → EReal) (ix5 b n t h d) = ((q b n t.val h d : ℝ) : EReal)) :
    (after hostOps0_2 V (Proc.devRef .tc main_v12) : S2x512x64x8x128.Idx → EReal) (ix5 b n t h d) = ((XQ (g b n) (q b n) t.val h d : ℝ) : EReal) := by
  after_reads_at
  rw [hb, hq, cS_eq, Ideal.exp_coe, ← EReal.coe_mul, ← EReal.coe_mul]
  rfl
theorem v17_at (hb : ∀ b n (t : Fin 64) h d, (V (Proc.devRef .tc main_v6) : S2x512x64x8x128.Idx → EReal) (ix5 b n t h d) = ((cum (g b n) t.val h d : ℝ) : EReal))
    (hk : ∀ b n (t : Fin 64) h d, (V (Proc.devRef .tc main_v3) : S2x512x64x8x128.Idx → EReal) (ix5 b n t h d) = ((k b n t.val h d : ℝ) : EReal)) :
    (after hostOps0_2 V (Proc.devRef .tc main_v17) : S2x512x64x8x128.Idx → EReal) (ix5 b n t h d) = ((XK (g b n) (k b n) t.val h d : ℝ) : EReal) := by
  after_reads_at
  erw [hb b n 63 h d]
  rw [hb, hk, ← EReal.coe_sub, Ideal.exp_coe, ← EReal.coe_mul]
  rfl

theorem v26_at (j : Fin 256) : (after hostOps0_2 V (Proc.devRef .tc main_v26) : S256.Idx → EReal) (ix1 j) = p2 ((j.val : ℤ) - 126) := by
  after_reads_at
  exact table j
theorem v33_at : (after hostOps0_2 V (Proc.devRef .tc main_v33) : S_.Idx → EReal) ix0 = p2 129 := by
  after_reads_at
  exact table 255
theorem v47_at (j : Fin 256) : (after hostOps0_6 V (Proc.devRef .tc main_v47) : S256.Idx → EReal) (ix1 j) = p2 ((j.val : ℤ) - 126) := by
  after_reads_at
  exact table j
theorem v54_at : (after hostOps0_6 V (Proc.devRef .tc main_v54) : S_.Idx → EReal) ix0 = p2 129 := by
  after_reads_at
  exact table 255

end Cert.ReferenceIdeal.Hand

end
-- ==== Proof.ReferenceIdeal.Top.lean ====
/-
  The largest magnitude of a head's entries over a chunk, as the reference reduces it.
-/
module

public import proofs.«01_k».proof.Proof.Gen.ReferenceIdeal.Frame
public import proofs.«01_k».proof.Proof.Math.Spec
public import Idealize.ShloMosaic.Lib.Pointwise
public import Idealize.ShloMosaic.Lib.StableHlo.ReadAt

@[expose] public section

set_option maxRecDepth 16384

noncomputable section

namespace Cert.ReferenceIdeal.Hand

open Cert.ReferenceIdeal Cert.ReferenceIdeal.Gen Cert.Math
open Idealize.ShloMosaic Idealize.ShloMosaic.TcCoe Idealize.ShloMosaic.StableHlo
open Idealize.SL.Sem

variable (b : Fin 2) (n : Fin 512) (h : Fin 8)

/-- The largest magnitude of a head's entries. -/
theorem fold_drop (X : Fin 2 → Fin 512 → RTok) (x : S2x512x64x8x128.Idx → EReal) (hx : ∀ b n (t : Fin 64) h d, x (ix5 b n t h d) = ((X b n t.val h d : ℝ) : EReal)) :
    Finset.fold max (⊥ : EReal) (fun y => FloatOps.absf (F := Ideal) (φ := .f32) (x y)) (Finset.univ.filter fun i => reducesTo_S2x512x64x8x128_S2x512x8_d2_4.drop i = ix3 b n h) = top (X b n) h := by
  have ha : ∀ (b : Fin 2) (n : Fin 512) (t : Fin 64) (h : Fin 8) (d : Fin 128), (FloatOps.absf (F := Ideal) (φ := .f32) (x (ix5 b n t h d)) : EReal) = ((|X b n t.val h d| : ℝ) : EReal) := fun b n t h d => by
    rw [hx]; exact abs_coe _
  refine le_antisymm (Finset.fold_max_le _ |>.mpr ⟨bot_le, fun y hy => ?_⟩) (iSup_le fun p => Finset.le_fold_max _ |>.mpr (.inr ⟨ix5 b n p.1 h p.2, ?_, ?_⟩))
  · have hd := (Finset.mem_filter.mp hy).2
    have e0 : y 0 = b := congrFun hd 0
    have e1 : y 1 = n := congrFun hd 1
    have e3 : y 3 = h := congrFun hd 2
    have ey : y = ix5 b n (⟨(y 2).val, (y 2).isLt⟩ : Fin 64) h (⟨(y 4).val, (y 4).isLt⟩ : Fin 128) := by
      funext a
      match a with
      | ⟨0, _⟩ => exact e0
      | ⟨1, _⟩ => exact e1
      | ⟨2, _⟩ => rfl
      | ⟨3, _⟩ => exact e3
      | ⟨4, _⟩ => rfl
    generalize (⟨(y 2).val, (y 2).isLt⟩ : Fin 64) = t' at ey
    generalize (⟨(y 4).val, (y 4).isLt⟩ : Fin 128) = d' at ey
    subst ey
    rw [ha]
    exact le_iSup (fun p : Fin 64 × Fin 128 => ((|X b n p.1.val h p.2| : ℝ) : EReal)) (t', d')
  · refine Finset.mem_filter.mpr ⟨Finset.mem_univ _, ?_⟩
    funext a
    match a with
    | ⟨0, _⟩ => rfl
    | ⟨1, _⟩ => rfl
    | ⟨2, _⟩ => rfl
  · rw [ha]

theorem reduce_top (X : Fin 2 → Fin 512 → RTok) (x : FVec Ideal S2x512x64x8x128 .f32) (hx : ∀ b n (t : Fin 64) h d, x (ix5 b n t h d) = ((X b n t.val h d : ℝ) : EReal)) :
    Host.reduce (FloatOps.maximumf (F := Ideal) (φ := .f32)) (Host.absf x) (constant (F := Ideal) S_ .f32 0xFF800000#32) reducesTo_S2x512x64x8x128_S2x512x8_d2_4 h_S_ (ix3 b n h) = (top (X b n) h : EReal) := by
  rw [Ideal.maximumf_eq_max, Host.reduce_eq_fold]
  rw [show (constant (F := Ideal) S_ .f32 0xFF800000#32 (Shape.Idx.first h_S_) : EReal) = ⊥ from lbot]
  exact fold_drop b n h X x hx

end Cert.ReferenceIdeal.Hand

end
-- ==== Proof.ReferenceIdeal.Maxes.lean ====
/-
  The reference's largest magnitudes and their comparison with the powers of two.
-/
module

public import proofs.«01_k».proof.Proof.Gen.ReferenceIdeal.Frame
public import proofs.«01_k».proof.Proof.Math.Spec
public import proofs.«01_k».proof.Proof.ReferenceIdeal.Reads
public import proofs.«01_k».proof.Proof.ReferenceIdeal.Top
public import Idealize.ShloMosaic.Lib.Pointwise
public import Idealize.ShloMosaic.Lib.StableHlo.ReadAt

@[expose] public section

set_option maxRecDepth 16384

noncomputable section

namespace Cert.ReferenceIdeal.Hand

open Cert.ReferenceIdeal Cert.ReferenceIdeal.Gen Cert.Math
open Idealize.ShloMosaic Idealize.ShloMosaic.TcCoe Idealize.ShloMosaic.StableHlo
open Idealize.SL.Sem

variable (V : Valuation τ sig (Elt Ideal)) (b : Fin 2) (n : Fin 512) (h : Fin 8) (g q k : Fin 2 → Fin 512 → RTok)

theorem lit_mul (z : FVec Ideal S2x512x8 .f32) (y : EReal) (hz : z (ix3 b n h) = y) : (mulf z (broadcastInDim S2x512x8 ![] bcast_S_S2x512x8 (constant (F := Ideal) S_ .f32 0x3B124925#32)) (ix3 b n h) : EReal) = y * Ideal.ofBits .f32 0x3B124925#32 := by
  pointwise
  rw [hz]
theorem v21_at (hb : ∀ b n (t : Fin 64) h d, (V (Proc.devRef .tc main_v6) : S2x512x64x8x128.Idx → EReal) (ix5 b n t h d) = ((cum (g b n) t.val h d : ℝ) : EReal))
    (hq : ∀ b n (t : Fin 64) h d, (V (Proc.devRef .tc main_v1) : S2x512x64x8x128.Idx → EReal) (ix5 b n t h d) = ((q b n t.val h d : ℝ) : EReal)) :
    (after hostOps0_2 V (Proc.devRef .tc main_v21) : S2x512x8.Idx → EReal) (ix3 b n h) = top (XQ (g b n) (q b n)) h * Ideal.ofBits .f32 0x3B124925#32 := by
  after_reads_simp
  refine lit_mul b n h _ _ (reduce_top b n h (fun b n => XQ (g b n) (q b n)) _ fun b n t h d => ?_)
  pointwise
  rw [hb, hq, cS_eq, Ideal.exp_coe, ← EReal.coe_mul, ← EReal.coe_mul]
  rfl
theorem v42_at (hk : ∀ b n (t : Fin 64) h d, (V (Proc.devRef .tc main_v17) : S2x512x64x8x128.Idx → EReal) (ix5 b n t h d) = ((XK (g b n) (k b n) t.val h d : ℝ) : EReal)) :
    (after hostOps0_6 V (Proc.devRef .tc main_v42) : S2x512x8.Idx → EReal) (ix3 b n h) = top (XK (g b n) (k b n)) h * Ideal.ofBits .f32 0x3B124925#32 := by
  after_reads_simp
  exact lit_mul b n h _ _ (reduce_top b n h (fun b n => XK (g b n) (k b n)) _ hk)

theorem gt_at (j : Fin 256) (x : EReal) (z : FVec Ideal S2x512x8 .f32) (hz : z (ix3 b n h) = x) (T : FVec Ideal S256 .f32) (hT : T (ix1 j) = p2 ((j.val : ℤ) - 126)) :
    (cmpf .ogt (broadcastInDim S2x512x8x256 ![0, 1, 2, 3] bcast_S1x1x1x256_S2x512x8x256_0_1_2_3 (broadcastInDim S1x1x1x256 ![3] bcast_S256_S1x1x1x256_3 T))
      (broadcastInDim S2x512x8x256 ![0, 1, 2, 3] bcast_S2x512x8x1_S2x512x8x256_0_1_2_3 (broadcastInDim S2x512x8x1 ![0, 1, 2] bcast_S2x512x8_S2x512x8x1_0_1_2 z)) (ix4 b n h j) : BitVec 1)
    = BitVec.ofBool (decide (x < p2 ((j.val : ℤ) - 126))) := by
  pointwise
  rw [hz, hT]
theorem table_at (j : Fin 256) : (Host.powf (broadcastInDim S256 ![] bcast_S_S256 (constant (F := Ideal) S_ .f32 0x40000000#32))
    (subf (sitofp .f32 (iotaInDim S256 32 0)) (broadcastInDim S256 ![] bcast_S_S256 (constant (F := Ideal) S_ .f32 0x42FC0000#32))) (ix1 j) : EReal) = p2 ((j.val : ℤ) - 126) := by
  pointwise
  exact table j
theorem v31_at (j : Fin 256) (x : EReal) (hx : (after hostOps0_2 V (Proc.devRef .tc main_v21) : S2x512x8.Idx → EReal) (ix3 b n h) = x) :
    (after hostOps0_2 V (Proc.devRef .tc main_v31) : S2x512x8x256.Idx → BitVec 1) (ix4 b n h j) = BitVec.ofBool (decide (x < p2 ((j.val : ℤ) - 126))) := by
  revert hx
  after_reads_simp
  intro hx
  exact gt_at b n h j x _ hx _ (table_at j)
theorem v52_at (j : Fin 256) (x : EReal) (hx : (after hostOps0_6 V (Proc.devRef .tc main_v42) : S2x512x8.Idx → EReal) (ix3 b n h) = x) :
    (after hostOps0_6 V (Proc.devRef .tc main_v52) : S2x512x8x256.Idx → BitVec 1) (ix4 b n h j) = BitVec.ofBool (decide (x < p2 ((j.val : ℤ) - 126))) := by
  revert hx
  after_reads_simp
  intro hx
  exact gt_at b n h j x _ hx _ (table_at j)

end Cert.ReferenceIdeal.Hand

end
-- ==== Proof.ReferenceIdeal.Scales.lean ====
/-
  The reference's scales and codes, carried from the stretch that fills them to the encoding.
-/
module

public import proofs.«01_k».proof.Proof.Gen.ReferenceIdeal.Frame
public import proofs.«01_k».proof.Proof.Math.Spec
public import proofs.«01_k».proof.Proof.ReferenceIdeal.Maxes
public import Idealize.ShloMosaic.Lib.Pointwise
public import Idealize.ShloMosaic.Lib.StableHlo.ReadAt

@[expose] public section

set_option maxRecDepth 16384

noncomputable section

namespace Cert.ReferenceIdeal.Hand

open Cert.ReferenceIdeal Cert.ReferenceIdeal.Gen Cert.Math
open Idealize.ShloMosaic Idealize.ShloMosaic.TcCoe Idealize.ShloMosaic.StableHlo
open Idealize.SL.Sem

variable (V : Valuation τ sig (Elt Ideal)) (b : Fin 2) (n : Fin 512) (h : Fin 8) (g q k : Fin 2 → Fin 512 → RTok)

theorem search_fold (x : EReal) (f : Fin 256 → EReal) (hf : ∀ j, f j = if x < p2 ((j.val : ℤ) - 126) then p2 ((j.val : ℤ) - 126) else p2 129) :
    Finset.fold min (Ideal.ofBits .f32 0x7F800000#32) f Finset.univ = searchS x := by
  rw [ltop, show f = _ from funext hf]; rfl
theorem sel_lt (x p r : EReal) : Scalar.select (BitVec.ofBool (decide (x < p))) p r = if x < p then p else r := by
  by_cases hx : x < p
  · rw [if_pos hx, decide_eq_true hx]; rfl
  · rw [if_neg hx, decide_eq_false hx]; rfl
theorem sel_zero (x a r : EReal) : Scalar.select (BitVec.ofBool (decide (x = 0))) a r = if x = 0 then a else r := by
  by_cases hx : x = 0
  · rw [if_pos hx, decide_eq_true hx]; rfl
  · rw [if_neg hx, decide_eq_false hx]; rfl

theorem v34_at (j : Fin 256) (x : EReal)
    (hm : (V (Proc.devRef .tc main_v31) : S2x512x8x256.Idx → BitVec 1) (ix4 b n h j) = BitVec.ofBool (decide (x < p2 ((j.val : ℤ) - 126))))
    (ht : (V (Proc.devRef .tc main_v26) : S256.Idx → EReal) (ix1 j) = p2 ((j.val : ℤ) - 126))
    (hl : (V (Proc.devRef .tc main_v33) : S_.Idx → EReal) (ix0) = p2 129) :
    (after hostOps0_3 V (Proc.devRef .tc main_v34) : S2x512x8x256.Idx → EReal) (ix4 b n h j) = if x < p2 ((j.val : ℤ) - 126) then p2 ((j.val : ℤ) - 126) else p2 129 := by
  after_reads_at
  rw [hm, ht, hl]
  exact sel_lt _ _ _
theorem v35_at (x : EReal)
    (hs : ∀ j : Fin 256, (V (Proc.devRef .tc main_v34) : S2x512x8x256.Idx → EReal) (ix4 b n h j) = if x < p2 ((j.val : ℤ) - 126) then p2 ((j.val : ℤ) - 126) else p2 129) :
    (after hostOps0_4 V (Proc.devRef .tc main_v35) : S2x512x8.Idx → EReal) (ix3 b n h) = searchS x := by
  after_reads_at
  exact search_fold x _ hs
theorem v37_at (x : EReal)
    (hx : (V (Proc.devRef .tc main_v21) : S2x512x8.Idx → EReal) (ix3 b n h) = x) :
    (after hostOps0_4 V (Proc.devRef .tc main_v37) : S2x512x8.Idx → BitVec 1) (ix3 b n h) = BitVec.ofBool (decide (x = 0)) := by
  after_reads_at
  rw [hx]
theorem cst_6_at  :
    (after hostOps0_4 V (Proc.devRef .tc main_cst_6) : S_.Idx → EReal) (ix0) = (1 : EReal) := by
  after_reads_at
theorem v38_at (x : EReal)
    (he : (V (Proc.devRef .tc main_v37) : S2x512x8.Idx → BitVec 1) (ix3 b n h) = BitVec.ofBool (decide (x = 0)))
    (h1 : (V (Proc.devRef .tc main_cst_6) : S_.Idx → EReal) (ix0) = (1 : EReal))
    (hm : (V (Proc.devRef .tc main_v35) : S2x512x8.Idx → EReal) (ix3 b n h) = searchS x) :
    (after hostOps0_5 V (Proc.devRef .tc main_v38) : S2x512x8.Idx → EReal) (ix3 b n h) = scaleS x := by
  after_reads_at
  rw [he, hm]
  unfold scaleS
  exact (sel_zero _ _ _).trans (by rw [← h1]; rfl)

theorem v55_at (j : Fin 256) (x : EReal)
    (hm : (V (Proc.devRef .tc main_v52) : S2x512x8x256.Idx → BitVec 1) (ix4 b n h j) = BitVec.ofBool (decide (x < p2 ((j.val : ℤ) - 126))))
    (ht : (V (Proc.devRef .tc main_v47) : S256.Idx → EReal) (ix1 j) = p2 ((j.val : ℤ) - 126))
    (hl : (V (Proc.devRef .tc main_v54) : S_.Idx → EReal) (ix0) = p2 129) :
    (after hostOps0_7 V (Proc.devRef .tc main_v55) : S2x512x8x256.Idx → EReal) (ix4 b n h j) = if x < p2 ((j.val : ℤ) - 126) then p2 ((j.val : ℤ) - 126) else p2 129 := by
  after_reads_at
  rw [hm, ht, hl]
  exact sel_lt _ _ _
theorem v56_at (x : EReal)
    (hs : ∀ j : Fin 256, (V (Proc.devRef .tc main_v55) : S2x512x8x256.Idx → EReal) (ix4 b n h j) = if x < p2 ((j.val : ℤ) - 126) then p2 ((j.val : ℤ) - 126) else p2 129) :
    (after hostOps0_8 V (Proc.devRef .tc main_v56) : S2x512x8.Idx → EReal) (ix3 b n h) = searchS x := by
  after_reads_at
  exact search_fold x _ hs
theorem v58_at (x : EReal)
    (hx : (V (Proc.devRef .tc main_v42) : S2x512x8.Idx → EReal) (ix3 b n h) = x) :
    (after hostOps0_8 V (Proc.devRef .tc main_v58) : S2x512x8.Idx → BitVec 1) (ix3 b n h) = BitVec.ofBool (decide (x = 0)) := by
  after_reads_at
  rw [hx]
theorem cst_13_at  :
    (after hostOps0_8 V (Proc.devRef .tc main_cst_13) : S_.Idx → EReal) (ix0) = (1 : EReal) := by
  after_reads_at
theorem v59_at (x : EReal)
    (he : (V (Proc.devRef .tc main_v58) : S2x512x8.Idx → BitVec 1) (ix3 b n h) = BitVec.ofBool (decide (x = 0)))
    (h1 : (V (Proc.devRef .tc main_cst_13) : S_.Idx → EReal) (ix0) = (1 : EReal))
    (hm : (V (Proc.devRef .tc main_v56) : S2x512x8.Idx → EReal) (ix3 b n h) = searchS x) :
    (after hostOps0_9 V (Proc.devRef .tc main_v59) : S2x512x8.Idx → EReal) (ix3 b n h) = scaleS x := by
  after_reads_at
  rw [he, hm]
  unfold scaleS
  exact (sel_zero _ _ _).trans (by rw [← h1]; rfl)

theorem v64_at (t : Fin 64) (d : Fin 128) (y z : EReal)
    (hx : (V (Proc.devRef .tc main_v12) : S2x512x64x8x128.Idx → EReal) (ix5 b n t h d) = y)
    (hs : (V (Proc.devRef .tc main_v38) : S2x512x8.Idx → EReal) (ix3 b n h) = z) :
    (after hostOps0_10 V (Proc.devRef .tc main_v64) : S2x512x64x8x128.Idx → EReal) (ix5 b n t h d) = y * Ideal.div 1 z := by
  after_reads_at
  rw [hx, hs]
theorem cst_15_at  :
    (after hostOps0_10 V (Proc.devRef .tc main_cst_15) : S_.Idx → EReal) (ix0) = Ideal.ofBits .f32 0xC3E00000#32 := by
  after_reads_at
theorem cst_16_at  :
    (after hostOps0_10 V (Proc.devRef .tc main_cst_16) : S_.Idx → EReal) (ix0) = Ideal.ofBits .f32 0x43E00000#32 := by
  after_reads_at
theorem v65_at (t : Fin 64) (d : Fin 128) (y : EReal)
    (hx : (V (Proc.devRef .tc main_v64) : S2x512x64x8x128.Idx → EReal) (ix5 b n t h d) = y)
    (hl : (V (Proc.devRef .tc main_cst_15) : S_.Idx → EReal) (ix0) = Ideal.ofBits .f32 0xC3E00000#32)
    (hh : (V (Proc.devRef .tc main_cst_16) : S_.Idx → EReal) (ix0) = Ideal.ofBits .f32 0x43E00000#32) :
    (after hostOps0_11 V (Proc.devRef .tc main_v65) : S2x512x64x8x128.Idx → EReal) (ix5 b n t h d) = min (Ideal.ofBits .f32 0x43E00000#32) (max (Ideal.ofBits .f32 0xC3E00000#32) y) := by
  after_reads_at
  rw [hx, ← hl, ← hh]
  rfl
theorem v72_at (r : Fin 262144) (d : Fin 128) : (after hostOps0_14 V (Proc.devRef .tc main_v72) : S2x262144x128.Idx → EReal) (ix3 b r d) = (V (Proc.devRef .tc main_v65) : S2x512x64x8x128.Idx → EReal) (ix5 b ⟨r.val / 512, by omega⟩ ⟨r.val / 8 % 64, by omega⟩ ⟨r.val % 8, by omega⟩ d) := by
  after_reads_at

theorem v70_at (t : Fin 64) (d : Fin 128) (y z : EReal)
    (hx : (V (Proc.devRef .tc main_v17) : S2x512x64x8x128.Idx → EReal) (ix5 b n t h d) = y)
    (hs : (V (Proc.devRef .tc main_v59) : S2x512x8.Idx → EReal) (ix3 b n h) = z) :
    (after hostOps0_12 V (Proc.devRef .tc main_v70) : S2x512x64x8x128.Idx → EReal) (ix5 b n t h d) = y * Ideal.div 1 z := by
  after_reads_at
  rw [hx, hs]
theorem cst_18_at  :
    (after hostOps0_12 V (Proc.devRef .tc main_cst_18) : S_.Idx → EReal) (ix0) = Ideal.ofBits .f32 0xC3E00000#32 := by
  after_reads_at
theorem cst_19_at  :
    (after hostOps0_12 V (Proc.devRef .tc main_cst_19) : S_.Idx → EReal) (ix0) = Ideal.ofBits .f32 0x43E00000#32 := by
  after_reads_at
theorem v71_at (t : Fin 64) (d : Fin 128) (y : EReal)
    (hx : (V (Proc.devRef .tc main_v70) : S2x512x64x8x128.Idx → EReal) (ix5 b n t h d) = y)
    (hl : (V (Proc.devRef .tc main_cst_18) : S_.Idx → EReal) (ix0) = Ideal.ofBits .f32 0xC3E00000#32)
    (hh : (V (Proc.devRef .tc main_cst_19) : S_.Idx → EReal) (ix0) = Ideal.ofBits .f32 0x43E00000#32) :
    (after hostOps0_13 V (Proc.devRef .tc main_v71) : S2x512x64x8x128.Idx → EReal) (ix5 b n t h d) = min (Ideal.ofBits .f32 0x43E00000#32) (max (Ideal.ofBits .f32 0xC3E00000#32) y) := by
  after_reads_at
  rw [hx, ← hl, ← hh]
  rfl
theorem v73_at (r : Fin 262144) (d : Fin 128) : (after hostOps0_14 V (Proc.devRef .tc main_v73) : S2x262144x128.Idx → EReal) (ix3 b r d) = (V (Proc.devRef .tc main_v71) : S2x512x64x8x128.Idx → EReal) (ix5 b ⟨r.val / 512, by omega⟩ ⟨r.val / 8 % 64, by omega⟩ ⟨r.val % 8, by omega⟩ d) := by
  after_reads_at

end Cert.ReferenceIdeal.Hand

end
-- ==== Proof.ReferenceIdeal.Walk.lean ====
/-
  The host stretches before the encoding, one after the other: what each buffer the rest of the program reads holds
  when the encoding starts, over the real values of the arguments.
-/
module

public import proofs.«01_k».proof.Proof.ReferenceIdeal.Scales

@[expose] public section

set_option maxRecDepth 16384

noncomputable section

namespace Cert.ReferenceIdeal.Hand

open Cert.ReferenceIdeal Cert.ReferenceIdeal.Gen Cert.Math
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- The three finite arguments at real numbers, one chunk of 64 tokens at a time. -/
structure In (g q k : Fin 2 → Fin 512 → RTok) : Prop where
  q : ∀ (b : Fin 2) (n : Fin 512) (t : Fin 64) (h : Fin 8) (d : Fin 128), (W0 m ρ c (Proc.devRef .tc main_arg0) : S2x32768x8x128.Idx → EReal) (ix4 b (⟨n.val * 64 + t.val, by omega⟩ : Fin 32768) h d) = ((q b n t.val h d : ℝ) : EReal)
  k : ∀ (b : Fin 2) (n : Fin 512) (t : Fin 64) (h : Fin 8) (d : Fin 128), (W0 m ρ c (Proc.devRef .tc main_arg1) : S2x32768x8x128.Idx → EReal) (ix4 b (⟨n.val * 64 + t.val, by omega⟩ : Fin 32768) h d) = ((k b n t.val h d : ℝ) : EReal)
  g : ∀ (b : Fin 2) (n : Fin 512) (t : Fin 64) (h : Fin 8) (d : Fin 128), (W0 m ρ c (Proc.devRef .tc main_arg3) : S2x32768x8x128.Idx → EReal) (ix4 b (⟨n.val * 64 + t.val, by omega⟩ : Fin 32768) h d) = ((g b n t.val h d : ℝ) : EReal)

variable {m ρ c} {g q k : Fin 2 → Fin 512 → RTok} (I : In m ρ c g q k)
include I
theorem w1_v1 (b : Fin 2) (n : Fin 512) (t : Fin 64) (h : Fin 8) (d : Fin 128) : (W1 m ρ c (Proc.devRef .tc main_v1) : S2x512x64x8x128.Idx → EReal) (ix5 b n t h d) = ((q b n t.val h d : ℝ) : EReal) :=
  (v1_at (W0 m ρ c) b n t h d).trans (I.q b n t h d)

theorem w1_v3 (b : Fin 2) (n : Fin 512) (t : Fin 64) (h : Fin 8) (d : Fin 128) : (W1 m ρ c (Proc.devRef .tc main_v3) : S2x512x64x8x128.Idx → EReal) (ix5 b n t h d) = ((k b n t.val h d : ℝ) : EReal) :=
  (v3_at (W0 m ρ c) b n t h d).trans (I.k b n t h d)

theorem w1_v5 (b : Fin 2) (n : Fin 512) (t : Fin 64) (h : Fin 8) (d : Fin 128) : (W1 m ρ c (Proc.devRef .tc main_v5) : S2x512x64x8x128.Idx → EReal) (ix5 b n t h d) = ((g b n t.val h d : ℝ) : EReal) :=
  (v5_at (W0 m ρ c) b n t h d).trans (I.g b n t h d)

theorem w2_v6 (b : Fin 2) (n : Fin 512) (t : Fin 64) (h : Fin 8) (d : Fin 128) : (W2 m ρ c (Proc.devRef .tc main_v6) : S2x512x64x8x128.Idx → EReal) (ix5 b n t h d) = ((cum (g b n) t.val h d : ℝ) : EReal) :=
  v6_at (W1 m ρ c) b n t h d g (w1_v5 I)

theorem w2_v1 (b : Fin 2) (n : Fin 512) (t : Fin 64) (h : Fin 8) (d : Fin 128) : (W2 m ρ c (Proc.devRef .tc main_v1) : S2x512x64x8x128.Idx → EReal) (ix5 b n t h d) = ((q b n t.val h d : ℝ) : EReal) :=
  (congrFun (W2_of m ρ c main_v1 (by decide)) (ix5 b n t h d)).trans (w1_v1 I b n t h d)

theorem w2_v3 (b : Fin 2) (n : Fin 512) (t : Fin 64) (h : Fin 8) (d : Fin 128) : (W2 m ρ c (Proc.devRef .tc main_v3) : S2x512x64x8x128.Idx → EReal) (ix5 b n t h d) = ((k b n t.val h d : ℝ) : EReal) :=
  (congrFun (W2_of m ρ c main_v3 (by decide)) (ix5 b n t h d)).trans (w1_v3 I b n t h d)

theorem w3_v8 (b : Fin 2) (n : Fin 512) (h : Fin 8) (d : Fin 128) : (W3 m ρ c (Proc.devRef .tc main_v8) : S2x512x8x128.Idx → EReal) (ix4 b n h d) = ((cum (g b n) 63 h d : ℝ) : EReal) :=
  v8_at (W2 m ρ c) b n h d g (w2_v6 I)

theorem w1_v4 (b : Fin 2) (n : Fin 512) (t : Fin 64) (h : Fin 8) (l : Fin 256) : (W1 m ρ c (Proc.devRef .tc main_v4) : S2x512x64x8x256.Idx → EReal) (ix5 b n t h l) = (W0 m ρ c (Proc.devRef .tc main_arg2) : S2x32768x8x256.Idx → EReal) (ix4 b (⟨n.val * 64 + t.val, by omega⟩ : Fin 32768) h l) :=
  v4_at (W0 m ρ c) b n t h l

theorem w3_v12 (b : Fin 2) (n : Fin 512) (t : Fin 64) (h : Fin 8) (d : Fin 128) : (W3 m ρ c (Proc.devRef .tc main_v12) : S2x512x64x8x128.Idx → EReal) (ix5 b n t h d) = ((XQ (g b n) (q b n) t.val h d : ℝ) : EReal) :=
  v12_at (W2 m ρ c) b n t h d g q (w2_v6 I) (w2_v1 I)

theorem w3_v17 (b : Fin 2) (n : Fin 512) (t : Fin 64) (h : Fin 8) (d : Fin 128) : (W3 m ρ c (Proc.devRef .tc main_v17) : S2x512x64x8x128.Idx → EReal) (ix5 b n t h d) = ((XK (g b n) (k b n) t.val h d : ℝ) : EReal) :=
  v17_at (W2 m ρ c) b n t h d g k (w2_v6 I) (w2_v3 I)

theorem w3_v21 (b : Fin 2) (n : Fin 512) (h : Fin 8) : (W3 m ρ c (Proc.devRef .tc main_v21) : S2x512x8.Idx → EReal) (ix3 b n h) = (top (XQ (g b n) (q b n)) h * Ideal.ofBits .f32 0x3B124925#32) :=
  v21_at (W2 m ρ c) b n h g q (w2_v6 I) (w2_v1 I)

theorem w3_v26 (j : Fin 256) : (W3 m ρ c (Proc.devRef .tc main_v26) : S256.Idx → EReal) (ix1 j) = p2 ((j.val : ℤ) - 126) :=
  v26_at (W2 m ρ c) j

theorem w3_v33  : (W3 m ρ c (Proc.devRef .tc main_v33) : S_.Idx → EReal) (ix0) = p2 129 :=
  v33_at (W2 m ρ c)

theorem w3_v31 (b : Fin 2) (n : Fin 512) (h : Fin 8) (j : Fin 256) : (W3 m ρ c (Proc.devRef .tc main_v31) : S2x512x8x256.Idx → BitVec 1) (ix4 b n h j) = BitVec.ofBool (decide ((top (XQ (g b n) (q b n)) h * Ideal.ofBits .f32 0x3B124925#32) < p2 ((j.val : ℤ) - 126))) :=
  v31_at (W2 m ρ c) b n h j _ (w3_v21 I b n h)

theorem w4_v34 (b : Fin 2) (n : Fin 512) (h : Fin 8) (j : Fin 256) : (W4 m ρ c (Proc.devRef .tc main_v34) : S2x512x8x256.Idx → EReal) (ix4 b n h j) = if (top (XQ (g b n) (q b n)) h * Ideal.ofBits .f32 0x3B124925#32) < p2 ((j.val : ℤ) - 126) then p2 ((j.val : ℤ) - 126) else p2 129 :=
  v34_at (W3 m ρ c) b n h j _ (w3_v31 I b n h j) (w3_v26 I j) (w3_v33 I)

theorem w4_v21 (b : Fin 2) (n : Fin 512) (h : Fin 8) : (W4 m ρ c (Proc.devRef .tc main_v21) : S2x512x8.Idx → EReal) (ix3 b n h) = (top (XQ (g b n) (q b n)) h * Ideal.ofBits .f32 0x3B124925#32) :=
  (congrFun (W4_of m ρ c main_v21 (by decide)) (ix3 b n h)).trans (w3_v21 I b n h)

theorem w5_v35 (b : Fin 2) (n : Fin 512) (h : Fin 8) : (W5 m ρ c (Proc.devRef .tc main_v35) : S2x512x8.Idx → EReal) (ix3 b n h) = searchS (top (XQ (g b n) (q b n)) h * Ideal.ofBits .f32 0x3B124925#32) :=
  v35_at (W4 m ρ c) b n h _ (w4_v34 I b n h)

theorem w5_v37 (b : Fin 2) (n : Fin 512) (h : Fin 8) : (W5 m ρ c (Proc.devRef .tc main_v37) : S2x512x8.Idx → BitVec 1) (ix3 b n h) = BitVec.ofBool (decide ((top (XQ (g b n) (q b n)) h * Ideal.ofBits .f32 0x3B124925#32) = 0)) :=
  v37_at (W4 m ρ c) b n h _ (w4_v21 I b n h)

theorem w5_cst_6  : (W5 m ρ c (Proc.devRef .tc main_cst_6) : S_.Idx → EReal) (ix0) = (1 : EReal) :=
  cst_6_at (W4 m ρ c)

theorem w6_v38 (b : Fin 2) (n : Fin 512) (h : Fin 8) : (W6 m ρ c (Proc.devRef .tc main_v38) : S2x512x8.Idx → EReal) (ix3 b n h) = sc (XQ (g b n) (q b n)) h :=
  v38_at (W5 m ρ c) b n h _ (w5_v37 I b n h) (w5_cst_6 I) (w5_v35 I b n h)

theorem w6_v17 (b : Fin 2) (n : Fin 512) (t : Fin 64) (h : Fin 8) (d : Fin 128) : (W6 m ρ c (Proc.devRef .tc main_v17) : S2x512x64x8x128.Idx → EReal) (ix5 b n t h d) = ((XK (g b n) (k b n) t.val h d : ℝ) : EReal) :=
  (congrFun (((W6_of m ρ c main_v17 (by decide)).trans (W5_of m ρ c main_v17 (by decide))).trans (W4_of m ρ c main_v17 (by decide))) (ix5 b n t h d)).trans (w3_v17 I b n t h d)

theorem w7_v42 (b : Fin 2) (n : Fin 512) (h : Fin 8) : (W7 m ρ c (Proc.devRef .tc main_v42) : S2x512x8.Idx → EReal) (ix3 b n h) = (top (XK (g b n) (k b n)) h * Ideal.ofBits .f32 0x3B124925#32) :=
  v42_at (W6 m ρ c) b n h g k (w6_v17 I)

theorem w7_v47 (j : Fin 256) : (W7 m ρ c (Proc.devRef .tc main_v47) : S256.Idx → EReal) (ix1 j) = p2 ((j.val : ℤ) - 126) :=
  v47_at (W6 m ρ c) j

theorem w7_v54  : (W7 m ρ c (Proc.devRef .tc main_v54) : S_.Idx → EReal) (ix0) = p2 129 :=
  v54_at (W6 m ρ c)

theorem w7_v52 (b : Fin 2) (n : Fin 512) (h : Fin 8) (j : Fin 256) : (W7 m ρ c (Proc.devRef .tc main_v52) : S2x512x8x256.Idx → BitVec 1) (ix4 b n h j) = BitVec.ofBool (decide ((top (XK (g b n) (k b n)) h * Ideal.ofBits .f32 0x3B124925#32) < p2 ((j.val : ℤ) - 126))) :=
  v52_at (W6 m ρ c) b n h j _ (w7_v42 I b n h)

theorem w8_v55 (b : Fin 2) (n : Fin 512) (h : Fin 8) (j : Fin 256) : (W8 m ρ c (Proc.devRef .tc main_v55) : S2x512x8x256.Idx → EReal) (ix4 b n h j) = if (top (XK (g b n) (k b n)) h * Ideal.ofBits .f32 0x3B124925#32) < p2 ((j.val : ℤ) - 126) then p2 ((j.val : ℤ) - 126) else p2 129 :=
  v55_at (W7 m ρ c) b n h j _ (w7_v52 I b n h j) (w7_v47 I j) (w7_v54 I)

theorem w8_v42 (b : Fin 2) (n : Fin 512) (h : Fin 8) : (W8 m ρ c (Proc.devRef .tc main_v42) : S2x512x8.Idx → EReal) (ix3 b n h) = (top (XK (g b n) (k b n)) h * Ideal.ofBits .f32 0x3B124925#32) :=
  (congrFun (W8_of m ρ c main_v42 (by decide)) (ix3 b n h)).trans (w7_v42 I b n h)

theorem w9_v56 (b : Fin 2) (n : Fin 512) (h : Fin 8) : (W9 m ρ c (Proc.devRef .tc main_v56) : S2x512x8.Idx → EReal) (ix3 b n h) = searchS (top (XK (g b n) (k b n)) h * Ideal.ofBits .f32 0x3B124925#32) :=
  v56_at (W8 m ρ c) b n h _ (w8_v55 I b n h)

theorem w9_v58 (b : Fin 2) (n : Fin 512) (h : Fin 8) : (W9 m ρ c (Proc.devRef .tc main_v58) : S2x512x8.Idx → BitVec 1) (ix3 b n h) = BitVec.ofBool (decide ((top (XK (g b n) (k b n)) h * Ideal.ofBits .f32 0x3B124925#32) = 0)) :=
  v58_at (W8 m ρ c) b n h _ (w8_v42 I b n h)

theorem w9_cst_13  : (W9 m ρ c (Proc.devRef .tc main_cst_13) : S_.Idx → EReal) (ix0) = (1 : EReal) :=
  cst_13_at (W8 m ρ c)

theorem w10_v59 (b : Fin 2) (n : Fin 512) (h : Fin 8) : (W10 m ρ c (Proc.devRef .tc main_v59) : S2x512x8.Idx → EReal) (ix3 b n h) = sc (XK (g b n) (k b n)) h :=
  v59_at (W9 m ρ c) b n h _ (w9_v58 I b n h) (w9_cst_13 I) (w9_v56 I b n h)

theorem w10_v12 (b : Fin 2) (n : Fin 512) (t : Fin 64) (h : Fin 8) (d : Fin 128) : (W10 m ρ c (Proc.devRef .tc main_v12) : S2x512x64x8x128.Idx → EReal) (ix5 b n t h d) = ((XQ (g b n) (q b n) t.val h d : ℝ) : EReal) :=
  (congrFun (((((((W10_of m ρ c main_v12 (by decide)).trans (W9_of m ρ c main_v12 (by decide))).trans (W8_of m ρ c main_v12 (by decide))).trans (W7_of m ρ c main_v12 (by decide))).trans (W6_of m ρ c main_v12 (by decide))).trans (W5_of m ρ c main_v12 (by decide))).trans (W4_of m ρ c main_v12 (by decide))) (ix5 b n t h d)).trans (w3_v12 I b n t h d)

theorem w10_v38 (b : Fin 2) (n : Fin 512) (h : Fin 8) : (W10 m ρ c (Proc.devRef .tc main_v38) : S2x512x8.Idx → EReal) (ix3 b n h) = sc (XQ (g b n) (q b n)) h :=
  (congrFun ((((W10_of m ρ c main_v38 (by decide)).trans (W9_of m ρ c main_v38 (by decide))).trans (W8_of m ρ c main_v38 (by decide))).trans (W7_of m ρ c main_v38 (by decide))) (ix3 b n h)).trans (w6_v38 I b n h)

theorem w11_v64 (b : Fin 2) (n : Fin 512) (t : Fin 64) (h : Fin 8) (d : Fin 128) : (W11 m ρ c (Proc.devRef .tc main_v64) : S2x512x64x8x128.Idx → EReal) (ix5 b n t h d) = ((XQ (g b n) (q b n) t.val h d : ℝ) : EReal) * Ideal.div 1 (sc (XQ (g b n) (q b n)) h) :=
  v64_at (W10 m ρ c) b n h t d _ _ (w10_v12 I b n t h d) (w10_v38 I b n h)

theorem w11_cst_15  : (W11 m ρ c (Proc.devRef .tc main_cst_15) : S_.Idx → EReal) (ix0) = Ideal.ofBits .f32 0xC3E00000#32 :=
  cst_15_at (W10 m ρ c)

theorem w11_cst_16  : (W11 m ρ c (Proc.devRef .tc main_cst_16) : S_.Idx → EReal) (ix0) = Ideal.ofBits .f32 0x43E00000#32 :=
  cst_16_at (W10 m ρ c)

theorem w12_v65 (b : Fin 2) (n : Fin 512) (t : Fin 64) (h : Fin 8) (d : Fin 128) : (W12 m ρ c (Proc.devRef .tc main_v65) : S2x512x64x8x128.Idx → EReal) (ix5 b n t h d) = code (XQ (g b n) (q b n)) t.val h d :=
  v65_at (W11 m ρ c) b n h t d _ (w11_v64 I b n t h d) (w11_cst_15 I) (w11_cst_16 I)

theorem w12_v17 (b : Fin 2) (n : Fin 512) (t : Fin 64) (h : Fin 8) (d : Fin 128) : (W12 m ρ c (Proc.devRef .tc main_v17) : S2x512x64x8x128.Idx → EReal) (ix5 b n t h d) = ((XK (g b n) (k b n) t.val h d : ℝ) : EReal) :=
  (congrFun (((((((((W12_of m ρ c main_v17 (by decide)).trans (W11_of m ρ c main_v17 (by decide))).trans (W10_of m ρ c main_v17 (by decide))).trans (W9_of m ρ c main_v17 (by decide))).trans (W8_of m ρ c main_v17 (by decide))).trans (W7_of m ρ c main_v17 (by decide))).trans (W6_of m ρ c main_v17 (by decide))).trans (W5_of m ρ c main_v17 (by decide))).trans (W4_of m ρ c main_v17 (by decide))) (ix5 b n t h d)).trans (w3_v17 I b n t h d)

theorem w12_v59 (b : Fin 2) (n : Fin 512) (h : Fin 8) : (W12 m ρ c (Proc.devRef .tc main_v59) : S2x512x8.Idx → EReal) (ix3 b n h) = sc (XK (g b n) (k b n)) h :=
  (congrFun ((W12_of m ρ c main_v59 (by decide)).trans (W11_of m ρ c main_v59 (by decide))) (ix3 b n h)).trans (w10_v59 I b n h)

theorem w13_v70 (b : Fin 2) (n : Fin 512) (t : Fin 64) (h : Fin 8) (d : Fin 128) : (W13 m ρ c (Proc.devRef .tc main_v70) : S2x512x64x8x128.Idx → EReal) (ix5 b n t h d) = ((XK (g b n) (k b n) t.val h d : ℝ) : EReal) * Ideal.div 1 (sc (XK (g b n) (k b n)) h) :=
  v70_at (W12 m ρ c) b n h t d _ _ (w12_v17 I b n t h d) (w12_v59 I b n h)

theorem w13_cst_18  : (W13 m ρ c (Proc.devRef .tc main_cst_18) : S_.Idx → EReal) (ix0) = Ideal.ofBits .f32 0xC3E00000#32 :=
  cst_18_at (W12 m ρ c)

theorem w13_cst_19  : (W13 m ρ c (Proc.devRef .tc main_cst_19) : S_.Idx → EReal) (ix0) = Ideal.ofBits .f32 0x43E00000#32 :=
  cst_19_at (W12 m ρ c)

theorem w14_v71 (b : Fin 2) (n : Fin 512) (t : Fin 64) (h : Fin 8) (d : Fin 128) : (W14 m ρ c (Proc.devRef .tc main_v71) : S2x512x64x8x128.Idx → EReal) (ix5 b n t h d) = code (XK (g b n) (k b n)) t.val h d :=
  v71_at (W13 m ρ c) b n h t d _ (w13_v70 I b n t h d) (w13_cst_18 I) (w13_cst_19 I)

theorem w14_v65 (b : Fin 2) (n : Fin 512) (t : Fin 64) (h : Fin 8) (d : Fin 128) : (W14 m ρ c (Proc.devRef .tc main_v65) : S2x512x64x8x128.Idx → EReal) (ix5 b n t h d) = code (XQ (g b n) (q b n)) t.val h d :=
  (congrFun ((W14_of m ρ c main_v65 (by decide)).trans (W13_of m ρ c main_v65 (by decide))) (ix5 b n t h d)).trans (w12_v65 I b n t h d)

theorem w15_v72 (b : Fin 2) (r : Fin 262144) (d : Fin 128) : (W15 m ρ c (Proc.devRef .tc main_v72) : S2x262144x128.Idx → EReal) (ix3 b r d) = code (XQ (g b ⟨r.val / 512, by omega⟩) (q b ⟨r.val / 512, by omega⟩)) (r.val / 8 % 64) ⟨r.val % 8, by omega⟩ d :=
  (v72_at (W14 m ρ c) b r d).trans (w14_v65 I b ⟨r.val / 512, by omega⟩ ⟨r.val / 8 % 64, by omega⟩ ⟨r.val % 8, by omega⟩ d)

theorem w15_v73 (b : Fin 2) (r : Fin 262144) (d : Fin 128) : (W15 m ρ c (Proc.devRef .tc main_v73) : S2x262144x128.Idx → EReal) (ix3 b r d) = code (XK (g b ⟨r.val / 512, by omega⟩) (k b ⟨r.val / 512, by omega⟩)) (r.val / 8 % 64) ⟨r.val % 8, by omega⟩ d :=
  (v73_at (W14 m ρ c) b r d).trans (w14_v71 I b ⟨r.val / 512, by omega⟩ ⟨r.val / 8 % 64, by omega⟩ ⟨r.val % 8, by omega⟩ d)

theorem w15_v1 (b : Fin 2) (n : Fin 512) (t : Fin 64) (h : Fin 8) (d : Fin 128) : (W15 m ρ c (Proc.devRef .tc main_v1) : S2x512x64x8x128.Idx → EReal) (ix5 b n t h d) = ((q b n t.val h d : ℝ) : EReal) :=
  (congrFun ((((((((((((((W15_of m ρ c main_v1 (by decide)).trans (W14_of m ρ c main_v1 (by decide))).trans (W13_of m ρ c main_v1 (by decide))).trans (W12_of m ρ c main_v1 (by decide))).trans (W11_of m ρ c main_v1 (by decide))).trans (W10_of m ρ c main_v1 (by decide))).trans (W9_of m ρ c main_v1 (by decide))).trans (W8_of m ρ c main_v1 (by decide))).trans (W7_of m ρ c main_v1 (by decide))).trans (W6_of m ρ c main_v1 (by decide))).trans (W5_of m ρ c main_v1 (by decide))).trans (W4_of m ρ c main_v1 (by decide))).trans (W3_of m ρ c main_v1 (by decide))).trans (W2_of m ρ c main_v1 (by decide))) (ix5 b n t h d)).trans (w1_v1 I b n t h d)

theorem w15_v3 (b : Fin 2) (n : Fin 512) (t : Fin 64) (h : Fin 8) (d : Fin 128) : (W15 m ρ c (Proc.devRef .tc main_v3) : S2x512x64x8x128.Idx → EReal) (ix5 b n t h d) = ((k b n t.val h d : ℝ) : EReal) :=
  (congrFun ((((((((((((((W15_of m ρ c main_v3 (by decide)).trans (W14_of m ρ c main_v3 (by decide))).trans (W13_of m ρ c main_v3 (by decide))).trans (W12_of m ρ c main_v3 (by decide))).trans (W11_of m ρ c main_v3 (by decide))).trans (W10_of m ρ c main_v3 (by decide))).trans (W9_of m ρ c main_v3 (by decide))).trans (W8_of m ρ c main_v3 (by decide))).trans (W7_of m ρ c main_v3 (by decide))).trans (W6_of m ρ c main_v3 (by decide))).trans (W5_of m ρ c main_v3 (by decide))).trans (W4_of m ρ c main_v3 (by decide))).trans (W3_of m ρ c main_v3 (by decide))).trans (W2_of m ρ c main_v3 (by decide))) (ix5 b n t h d)).trans (w1_v3 I b n t h d)

theorem w15_v6 (b : Fin 2) (n : Fin 512) (t : Fin 64) (h : Fin 8) (d : Fin 128) : (W15 m ρ c (Proc.devRef .tc main_v6) : S2x512x64x8x128.Idx → EReal) (ix5 b n t h d) = ((cum (g b n) t.val h d : ℝ) : EReal) :=
  (congrFun (((((((((((((W15_of m ρ c main_v6 (by decide)).trans (W14_of m ρ c main_v6 (by decide))).trans (W13_of m ρ c main_v6 (by decide))).trans (W12_of m ρ c main_v6 (by decide))).trans (W11_of m ρ c main_v6 (by decide))).trans (W10_of m ρ c main_v6 (by decide))).trans (W9_of m ρ c main_v6 (by decide))).trans (W8_of m ρ c main_v6 (by decide))).trans (W7_of m ρ c main_v6 (by decide))).trans (W6_of m ρ c main_v6 (by decide))).trans (W5_of m ρ c main_v6 (by decide))).trans (W4_of m ρ c main_v6 (by decide))).trans (W3_of m ρ c main_v6 (by decide))) (ix5 b n t h d)).trans (w2_v6 I b n t h d)

theorem w15_v38 (b : Fin 2) (n : Fin 512) (h : Fin 8) : (W15 m ρ c (Proc.devRef .tc main_v38) : S2x512x8.Idx → EReal) (ix3 b n h) = sc (XQ (g b n) (q b n)) h :=
  (congrFun (((((((((W15_of m ρ c main_v38 (by decide)).trans (W14_of m ρ c main_v38 (by decide))).trans (W13_of m ρ c main_v38 (by decide))).trans (W12_of m ρ c main_v38 (by decide))).trans (W11_of m ρ c main_v38 (by decide))).trans (W10_of m ρ c main_v38 (by decide))).trans (W9_of m ρ c main_v38 (by decide))).trans (W8_of m ρ c main_v38 (by decide))).trans (W7_of m ρ c main_v38 (by decide))) (ix3 b n h)).trans (w6_v38 I b n h)

theorem w15_v59 (b : Fin 2) (n : Fin 512) (h : Fin 8) : (W15 m ρ c (Proc.devRef .tc main_v59) : S2x512x8.Idx → EReal) (ix3 b n h) = sc (XK (g b n) (k b n)) h :=
  (congrFun (((((W15_of m ρ c main_v59 (by decide)).trans (W14_of m ρ c main_v59 (by decide))).trans (W13_of m ρ c main_v59 (by decide))).trans (W12_of m ρ c main_v59 (by decide))).trans (W11_of m ρ c main_v59 (by decide))) (ix3 b n h)).trans (w10_v59 I b n h)

theorem w15_v4 (b : Fin 2) (n : Fin 512) (t : Fin 64) (h : Fin 8) (l : Fin 256) : (W15 m ρ c (Proc.devRef .tc main_v4) : S2x512x64x8x256.Idx → EReal) (ix5 b n t h l) = (W0 m ρ c (Proc.devRef .tc main_arg2) : S2x32768x8x256.Idx → EReal) (ix4 b (⟨n.val * 64 + t.val, by omega⟩ : Fin 32768) h l) :=
  (congrFun ((((((((((((((W15_of m ρ c main_v4 (by decide)).trans (W14_of m ρ c main_v4 (by decide))).trans (W13_of m ρ c main_v4 (by decide))).trans (W12_of m ρ c main_v4 (by decide))).trans (W11_of m ρ c main_v4 (by decide))).trans (W10_of m ρ c main_v4 (by decide))).trans (W9_of m ρ c main_v4 (by decide))).trans (W8_of m ρ c main_v4 (by decide))).trans (W7_of m ρ c main_v4 (by decide))).trans (W6_of m ρ c main_v4 (by decide))).trans (W5_of m ρ c main_v4 (by decide))).trans (W4_of m ρ c main_v4 (by decide))).trans (W3_of m ρ c main_v4 (by decide))).trans (W2_of m ρ c main_v4 (by decide))) (ix5 b n t h l)).trans (w1_v4 I b n t h l)

theorem w15_v8 (b : Fin 2) (n : Fin 512) (h : Fin 8) (d : Fin 128) : (W15 m ρ c (Proc.devRef .tc main_v8) : S2x512x8x128.Idx → EReal) (ix4 b n h d) = ((cum (g b n) 63 h d : ℝ) : EReal) :=
  (congrFun ((((((((((((W15_of m ρ c main_v8 (by decide)).trans (W14_of m ρ c main_v8 (by decide))).trans (W13_of m ρ c main_v8 (by decide))).trans (W12_of m ρ c main_v8 (by decide))).trans (W11_of m ρ c main_v8 (by decide))).trans (W10_of m ρ c main_v8 (by decide))).trans (W9_of m ρ c main_v8 (by decide))).trans (W8_of m ρ c main_v8 (by decide))).trans (W7_of m ρ c main_v8 (by decide))).trans (W6_of m ρ c main_v8 (by decide))).trans (W5_of m ρ c main_v8 (by decide))).trans (W4_of m ρ c main_v8 (by decide))) (ix4 b n h d)).trans (w3_v8 I b n h d)

end Cert.ReferenceIdeal.Hand

end
-- ==== Proof.ReferenceIdeal.Encode.lean ====
/-
  What the encoding leaves: over the reals the two arrays of codes are the two arrays it is given, once as codes and
  once widened.
-/
module

public import proofs.«01_k».proof.Proof.ReferenceIdeal.Walk
public import Idealize.ShloMosaic.Lib.Pipeline.ValueKit

@[expose] public section

set_option maxRecDepth 16384

noncomputable section

namespace Cert.ReferenceIdeal.Hand

open Cert.ReferenceIdeal Cert.ReferenceIdeal.Gen Cert.Math
open Idealize.ShloMosaic Idealize.ShloMosaic.TcCoe Idealize.ShloMosaic.StableHlo
open Idealize.SL.Sem
open Idealize.ShloMosaic.Pipeline (Dat)

variable (V : (c : Dev nD) → (b : Ref sig .tc) → Buf (Elt Ideal) ((c : Thread nD τ).loc b)) (c : Dev nD)

theorem enc2 : (dat0 V c).arrAt 2 cfg0.N = (V c main_v72 : S2x262144x128.Idx → EReal) := by
  refine (dat0 V c).arrAt_eq_of_covers 2 _ (by decide +kernel) fun t hf y => ?_
  blk_simp
  rw [after0_2]
  frame_out [out0_2]
  unfold k0_pay1
  pointwise
  show (V c main_v72 : S2x262144x128.Idx → EReal) (((cfg0.win 0).blk t).view.emb y) = (V c main_v72 : S2x262144x128.Idx → EReal) _
  generalize (V c main_v72 : S2x262144x128.Idx → EReal) = x
  rfl

theorem enc3 : (dat0 V c).arrAt 3 cfg0.N = (V c main_v72 : S2x262144x128.Idx → EReal) := by
  refine (dat0 V c).arrAt_eq_of_covers 3 _ (by decide +kernel) fun t hf y => ?_
  blk_simp
  rw [after0_3]
  frame_out [out0_3]
  unfold k0_pay2 k0_pay1
  pointwise
  show (V c main_v72 : S2x262144x128.Idx → EReal) (((cfg0.win 0).blk t).view.emb y) = (V c main_v72 : S2x262144x128.Idx → EReal) _
  generalize (V c main_v72 : S2x262144x128.Idx → EReal) = x
  rfl

theorem enc4 : (dat0 V c).arrAt 4 cfg0.N = (V c main_v73 : S2x262144x128.Idx → EReal) := by
  refine (dat0 V c).arrAt_eq_of_covers 4 _ (by decide +kernel) fun t hf y => ?_
  blk_simp
  rw [after0_4]
  frame_out [out0_4]
  unfold k0_pay3
  pointwise
  show (V c main_v73 : S2x262144x128.Idx → EReal) (((cfg0.win 1).blk t).view.emb y) = (V c main_v73 : S2x262144x128.Idx → EReal) _
  generalize (V c main_v73 : S2x262144x128.Idx → EReal) = x
  rfl

theorem enc5 : (dat0 V c).arrAt 5 cfg0.N = (V c main_v73 : S2x262144x128.Idx → EReal) := by
  refine (dat0 V c).arrAt_eq_of_covers 5 _ (by decide +kernel) fun t hf y => ?_
  blk_simp
  rw [after0_5]
  frame_out [out0_5]
  unfold k0_pay4 k0_pay3
  pointwise
  show (V c main_v73 : S2x262144x128.Idx → EReal) (((cfg0.win 1).blk t).view.emb y) = (V c main_v73 : S2x262144x128.Idx → EReal) _
  generalize (V c main_v73 : S2x262144x128.Idx → EReal) = x
  rfl

end Cert.ReferenceIdeal.Hand

end
-- ==== Proof.ReferenceIdeal.After.lean ====
/-
  The host stretches between the encoding and the loop, and the one after it: the codes by chunk, the causal part of
  the output, what the loop is entered with, and the sum of the two parts of the output.
-/
module

public import proofs.«01_k».proof.Proof.ReferenceIdeal.Step
public import proofs.«01_k».proof.Proof.Math.Spec
public import Idealize.ShloMosaic.Lib.Pointwise
public import Idealize.ShloMosaic.Lib.WordCmp
public import Idealize.ShloMosaic.Lib.StableHlo.ReadAt

@[expose] public section

set_option maxRecDepth 16384

noncomputable section

namespace Cert.ReferenceIdeal.Hand

open Cert.ReferenceIdeal Cert.ReferenceIdeal.Gen Cert.Math
open Idealize.ShloMosaic Idealize.ShloMosaic.TcCoe Idealize.ShloMosaic.StableHlo
open Idealize.SL.Sem

variable (V : Valuation τ sig (Elt Ideal)) (b : Fin 2) (n : Fin 512)

theorem v75_at (t : Fin 64) (h : Fin 8) (d : Fin 128) :
    (after hostOps1 V (Proc.devRef .tc main_v75) : S2x512x64x8x128.Idx → EReal) (ix5 b n t h d) = (V (Proc.devRef .tc main_v74_1) : S2x262144x128.Idx → EReal) (ix3 b (⟨n.val * 512 + t.val * 8 + h.val, by omega⟩ : Fin 262144) d) := by
  after_reads_at

theorem v77_at (t : Fin 64) (h : Fin 8) (d : Fin 128) :
    (after hostOps1 V (Proc.devRef .tc main_v77) : S2x512x64x8x128.Idx → EReal) (ix5 b n t h d) = (V (Proc.devRef .tc main_v74_3) : S2x262144x128.Idx → EReal) (ix3 b (⟨n.val * 512 + t.val * 8 + h.val, by omega⟩ : Fin 262144) d) := by
  after_reads_at

theorem cst_21_at : (after hostOps1 V (Proc.devRef .tc main_cst_21) : S_.Idx → EReal) ix0 = (0 : EReal) := by
  after_reads_at

theorem causal : ∀ (i : Fin 4) (t : Fin 16) (s : Fin 64), IntOp.cmpi .sle (BitVec.ofNat 32 s.val) (IntOp.addi (IntOp.muli (BitVec.ofNat 32 i.val) 16#32) (BitVec.ofNat 32 t.val))
    = BitVec.ofBool (decide (s.val ≤ i.val * 16 + t.val)) := by decide +kernel

theorem v114_at (i : Fin 4) (t : Fin 16) (s : Fin 64) :
    (after hostOps1 V (Proc.devRef .tc main_v114) : S4x1x16x64.Idx → BitVec 1) (ix4 i (0 : Fin 1) t s) = BitVec.ofBool (decide (s.val ≤ i.val * 16 + t.val)) := by
  after_reads_at
  exact causal i t s

theorem att_term {x1 x6 x60 x3 x6s l : EReal} {q ct c0 k cs : ℝ} (h1 : x1 = (q : EReal)) (h6 : x6 = (ct : EReal)) (h60 : x60 = (c0 : EReal)) (h3 : x3 = (k : EReal)) (h6s : x6s = (cs : EReal)) (hl : l = (cS : EReal)) :
    x1 * l * Ideal.exp (x6 - x60) * (x3 * Ideal.exp (x60 - x6s)) = ((q * cS * k * Real.exp (ct - cs) : ℝ) : EReal) := by
  subst h1 h6 h60 h3 h6s hl
  rw [← EReal.coe_sub, ← EReal.coe_sub, Ideal.exp_coe, Ideal.exp_coe, ← EReal.coe_mul, ← EReal.coe_mul, ← EReal.coe_mul, ← EReal.coe_mul]
  congr 1
  rw [show ct - cs = (ct - c0) + (c0 - cs) by ring, Real.exp_add]
  ring

theorem v98_at (i : Fin 4) (h : Fin 8) (t : Fin 16) (s : Fin 64) (g q k : Fin 2 → Fin 512 → RTok)
    (hq : ∀ (b : Fin 2) (n : Fin 512) (t : Fin 64) (h : Fin 8) (d : Fin 128), (V (Proc.devRef .tc main_v1) : S2x512x64x8x128.Idx → EReal) (ix5 b n t h d) = ((q b n t.val h d : ℝ) : EReal))
    (hk : ∀ (b : Fin 2) (n : Fin 512) (t : Fin 64) (h : Fin 8) (d : Fin 128), (V (Proc.devRef .tc main_v3) : S2x512x64x8x128.Idx → EReal) (ix5 b n t h d) = ((k b n t.val h d : ℝ) : EReal))
    (hb : ∀ (b : Fin 2) (n : Fin 512) (t : Fin 64) (h : Fin 8) (d : Fin 128), (V (Proc.devRef .tc main_v6) : S2x512x64x8x128.Idx → EReal) (ix5 b n t h d) = ((cum (g b n) t.val h d : ℝ) : EReal)) :
    (after hostOps1 V (Proc.devRef .tc main_v98) : S2x512x4x8x16x64.Idx → EReal) (ix6 b n i h t s) = ((att (g b n) (q b n) (k b n) (i.val * 16 + t.val) s.val h : ℝ) : EReal) := by
  after_reads_at
  refine Eq.trans (Finset.sum_congr rfl fun d _ => att_term (hq b n ⟨i.val * 16 + t.val, by omega⟩ h d) (hb b n ⟨i.val * 16 + t.val, by omega⟩ h d) (hb b n ⟨i.val * 16, by omega⟩ h d) (hk b n s h d) (hb b n s h d) cS_eq) ?_
  exact coe_sum _ _

theorem v115_at (i : Fin 4) (h : Fin 8) (t : Fin 16) (s : Fin 64) (a : EReal)
    (hm : (V (Proc.devRef .tc main_v114) : S4x1x16x64.Idx → BitVec 1) (ix4 i (0 : Fin 1) t s) = BitVec.ofBool (decide (s.val ≤ i.val * 16 + t.val)))
    (ha : (V (Proc.devRef .tc main_v98) : S2x512x4x8x16x64.Idx → EReal) (ix6 b n i h t s) = a)
    (hz : (V (Proc.devRef .tc main_cst_21) : S_.Idx → EReal) (ix0) = (0 : EReal)) :
    (after hostOps1_1 V (Proc.devRef .tc main_v115) : S2x512x4x8x16x64.Idx → EReal) (ix6 b n i h t s) = if s.val ≤ i.val * 16 + t.val then a else 0 := by
  after_reads_at
  rw [hm, ha]
  by_cases hs : s.val ≤ i.val * 16 + t.val
  · rw [if_pos hs, decide_eq_true hs]; rfl
  · rw [if_neg hs, decide_eq_false hs]; exact hz

theorem v119_at (t : Fin 64) (h : Fin 8) (l : Fin 256) (v a : Fin 64 → EReal)
    (hv : ∀ s : Fin 64, (V (Proc.devRef .tc main_v4) : S2x512x64x8x256.Idx → EReal) (ix5 b n s h l) = v s)
    (ha : ∀ s : Fin 64, (V (Proc.devRef .tc main_v115) : S2x512x4x8x16x64.Idx → EReal) (ix6 b n (⟨t.val / 16, by omega⟩ : Fin 4) h (⟨t.val % 16, by omega⟩ : Fin 16) s) = a s) :
    (after hostOps1_2 V (Proc.devRef .tc main_v119) : S2x512x64x8x256.Idx → EReal) (ix5 b n t h l) = ∑ s, a s * v s := by
  after_reads_at
  exact Finset.sum_congr rfl fun s _ => mul_swap (hv s) (ha s)

theorem ev129_0_at (t : Fin 64) (h : Fin 8) (d : Fin 128) : (after hostOps1_2 V (Proc.devRef .tc main_v129_0) : S512x2x64x8x128.Idx → EReal) (ix5 n b t h d) = (V (Proc.devRef .tc main_v75) : S2x512x64x8x128.Idx → EReal) (ix5 b n t h d) := by
  after_reads_at
  simp only [id]
  pointwise

theorem ev129_1_at (h : Fin 8) : (after hostOps1_2 V (Proc.devRef .tc main_v129_1) : S512x2x8.Idx → EReal) (ix3 n b h) = (V (Proc.devRef .tc main_v38) : S2x512x8.Idx → EReal) (ix3 b n h) := by
  after_reads_at
  simp only [id]
  pointwise

theorem ev129_2_at (t : Fin 64) (h : Fin 8) (d : Fin 128) : (after hostOps1_2 V (Proc.devRef .tc main_v129_2) : S512x2x64x8x128.Idx → EReal) (ix5 n b t h d) = (V (Proc.devRef .tc main_v77) : S2x512x64x8x128.Idx → EReal) (ix5 b n t h d) := by
  after_reads_at
  simp only [id]
  pointwise

theorem ev129_3_at (h : Fin 8) : (after hostOps1_2 V (Proc.devRef .tc main_v129_3) : S512x2x8.Idx → EReal) (ix3 n b h) = (V (Proc.devRef .tc main_v59) : S2x512x8.Idx → EReal) (ix3 b n h) := by
  after_reads_at
  simp only [id]
  pointwise

theorem ev129_4_at (t : Fin 64) (h : Fin 8) (l : Fin 256) : (after hostOps1_2 V (Proc.devRef .tc main_v129_4) : S512x2x64x8x256.Idx → EReal) (ix5 n b t h l) = (V (Proc.devRef .tc main_v4) : S2x512x64x8x256.Idx → EReal) (ix5 b n t h l) := by
  after_reads_at
  simp only [id]
  pointwise

theorem ev129_5_at (h : Fin 8) (d : Fin 128) (x : ℝ) (hx : (V (Proc.devRef .tc main_v8) : S2x512x8x128.Idx → EReal) (ix4 b n h d) = (x : EReal)) :
    (after hostOps1_2 V (Proc.devRef .tc main_v129_5) : S512x2x8x128.Idx → EReal) (ix4 n b h d) = ((Real.exp x : ℝ) : EReal) := by
  after_reads_at
  simp only [id]
  pointwise
  rw [hx, Ideal.exp_coe]

theorem ev129_7_at (h : Fin 8) (d : Fin 128) (l : Fin 256) :
    (after hostOps1_2 V (Proc.devRef .tc main_v129_7) : S2x8x128x256.Idx → EReal) (ix4 b h d l) = (0 : EReal) := by
  after_reads_at
  simp only [id]
  pointwise

theorem v133_at (r : Fin 32768) (h : Fin 8) (l : Fin 256) (x y : EReal)
    (hx : (V (Proc.devRef .tc main_v129_8) : S512x2x64x8x256.Idx → EReal) (ix5 (⟨r.val / 64, by omega⟩ : Fin 512) b (⟨r.val % 64, by omega⟩ : Fin 64) h l) = x)
    (hy : (V (Proc.devRef .tc main_v119) : S2x512x64x8x256.Idx → EReal) (ix5 b (⟨r.val / 64, by omega⟩ : Fin 512) (⟨r.val % 64, by omega⟩ : Fin 64) h l) = y) :
    (after hostOps1_3 V (Proc.devRef .tc main_v133) : S2x32768x8x256.Idx → EReal) (ix4 b r h l) = x + y := by
  after_reads_at
  exact congrArg₂ (· + ·) hx hy

end Cert.ReferenceIdeal.Hand

end
-- ==== Proof.ReferenceIdeal.Enter.lean ====
/-
  From the encoding to the loop: what each buffer the loop reads holds when it is entered, over the real values of the
  arguments.
-/
module

public import proofs.«01_k».proof.Proof.ReferenceIdeal.Encode
public import proofs.«01_k».proof.Proof.ReferenceIdeal.After

@[expose] public section

set_option maxRecDepth 16384

noncomputable section

namespace Cert.ReferenceIdeal.Hand

open Cert.ReferenceIdeal Cert.ReferenceIdeal.Gen Cert.Math
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- The values of one chunk, token by token. -/
def vR (b : Fin 2) (n : Fin 512) : VTok := fun t h l => (W0 m ρ c (Proc.devRef .tc main_arg2) : S2x32768x8x256.Idx → EReal) (ix4 b (⟨n.val * 64 + t % 64, by omega⟩ : Fin 32768) h l)

theorem att_sum (A : ℕ → ℕ → EReal) (v : Fin 64 → EReal) (t : ℕ) :
    ∑ s : Fin 64, (if s.val ≤ t / 16 * 16 + t % 16 then A (t / 16 * 16 + t % 16) s.val else 0) * v s = ∑ s : Fin 64, (if s.val ≤ t then A t s.val else 0) * v s := by
  rw [show t / 16 * 16 + t % 16 = t by omega]

theorem code_congr (g k : Fin 2 → Fin 512 → RTok) (X : RTok → RTok → RTok) (b : Fin 2) {n n' : Fin 512} {t t' : ℕ} {h h' : Fin 8} (hn : n = n') (ht : t = t') (hh : h = h') (d : Fin 128) :
    code (X (g b n) (k b n)) t h d = code (X (g b n') (k b n')) t' h' d := by subst hn ht hh; rfl

variable {m ρ c} {g q k : Fin 2 → Fin 512 → RTok} (I : In m ρ c g q k)
include I
theorem w16_v1 (b : Fin 2) (n : Fin 512) (t : Fin 64) (h : Fin 8) (d : Fin 128) : (W16 m ρ c (Proc.devRef .tc main_v1) : S2x512x64x8x128.Idx → EReal) (ix5 b n t h d) = ((q b n t.val h d : ℝ) : EReal) :=
  (congrFun (W16_of m ρ c main_v1 (by decide +kernel)) (ix5 b n t h d)).trans (w15_v1 I b n t h d)

theorem w16_v3 (b : Fin 2) (n : Fin 512) (t : Fin 64) (h : Fin 8) (d : Fin 128) : (W16 m ρ c (Proc.devRef .tc main_v3) : S2x512x64x8x128.Idx → EReal) (ix5 b n t h d) = ((k b n t.val h d : ℝ) : EReal) :=
  (congrFun (W16_of m ρ c main_v3 (by decide +kernel)) (ix5 b n t h d)).trans (w15_v3 I b n t h d)

theorem w16_v6 (b : Fin 2) (n : Fin 512) (t : Fin 64) (h : Fin 8) (d : Fin 128) : (W16 m ρ c (Proc.devRef .tc main_v6) : S2x512x64x8x128.Idx → EReal) (ix5 b n t h d) = ((cum (g b n) t.val h d : ℝ) : EReal) :=
  (congrFun (W16_of m ρ c main_v6 (by decide +kernel)) (ix5 b n t h d)).trans (w15_v6 I b n t h d)

theorem w18_v4 (b : Fin 2) (n : Fin 512) (t : Fin 64) (h : Fin 8) (l : Fin 256) : (W18 m ρ c (Proc.devRef .tc main_v4) : S2x512x64x8x256.Idx → EReal) (ix5 b n t h l) = (W0 m ρ c (Proc.devRef .tc main_arg2) : S2x32768x8x256.Idx → EReal) (ix4 b (⟨n.val * 64 + t.val, by omega⟩ : Fin 32768) h l) :=
  (congrFun (((W18_of m ρ c main_v4 (by decide)).trans (W17_of m ρ c main_v4 (by decide))).trans (W16_of m ρ c main_v4 (by decide +kernel))) (ix5 b n t h l)).trans (w15_v4 I b n t h l)

theorem w18_v8 (b : Fin 2) (n : Fin 512) (h : Fin 8) (d : Fin 128) : (W18 m ρ c (Proc.devRef .tc main_v8) : S2x512x8x128.Idx → EReal) (ix4 b n h d) = ((cum (g b n) 63 h d : ℝ) : EReal) :=
  (congrFun (((W18_of m ρ c main_v8 (by decide)).trans (W17_of m ρ c main_v8 (by decide))).trans (W16_of m ρ c main_v8 (by decide +kernel))) (ix4 b n h d)).trans (w15_v8 I b n h d)

theorem w18_v38 (b : Fin 2) (n : Fin 512) (h : Fin 8) : (W18 m ρ c (Proc.devRef .tc main_v38) : S2x512x8.Idx → EReal) (ix3 b n h) = sc (XQ (g b n) (q b n)) h :=
  (congrFun (((W18_of m ρ c main_v38 (by decide)).trans (W17_of m ρ c main_v38 (by decide))).trans (W16_of m ρ c main_v38 (by decide +kernel))) (ix3 b n h)).trans (w15_v38 I b n h)

theorem w18_v59 (b : Fin 2) (n : Fin 512) (h : Fin 8) : (W18 m ρ c (Proc.devRef .tc main_v59) : S2x512x8.Idx → EReal) (ix3 b n h) = sc (XK (g b n) (k b n)) h :=
  (congrFun (((W18_of m ρ c main_v59 (by decide)).trans (W17_of m ρ c main_v59 (by decide))).trans (W16_of m ρ c main_v59 (by decide +kernel))) (ix3 b n h)).trans (w15_v59 I b n h)

theorem w16_v74_0 (b : Fin 2) (r : Fin 262144) (d : Fin 128) : (W16 m ρ c (Proc.devRef .tc main_v74_0) : S2x262144x128.Idx → EReal) (ix3 b r d) = code (XQ (g b ⟨r.val / 512, by omega⟩) (q b ⟨r.val / 512, by omega⟩)) (r.val / 8 % 64) ⟨r.val % 8, by omega⟩ d :=
  (congrFun ((W16_arr m ρ c 2).trans (enc2 (V15 m ρ) c)) (ix3 b r d)).trans (w15_v72 I b r d)

theorem w16_v74_1 (b : Fin 2) (r : Fin 262144) (d : Fin 128) : (W16 m ρ c (Proc.devRef .tc main_v74_1) : S2x262144x128.Idx → EReal) (ix3 b r d) = code (XQ (g b ⟨r.val / 512, by omega⟩) (q b ⟨r.val / 512, by omega⟩)) (r.val / 8 % 64) ⟨r.val % 8, by omega⟩ d :=
  (congrFun ((W16_arr m ρ c 3).trans (enc3 (V15 m ρ) c)) (ix3 b r d)).trans (w15_v72 I b r d)

theorem w16_v74_2 (b : Fin 2) (r : Fin 262144) (d : Fin 128) : (W16 m ρ c (Proc.devRef .tc main_v74_2) : S2x262144x128.Idx → EReal) (ix3 b r d) = code (XK (g b ⟨r.val / 512, by omega⟩) (k b ⟨r.val / 512, by omega⟩)) (r.val / 8 % 64) ⟨r.val % 8, by omega⟩ d :=
  (congrFun ((W16_arr m ρ c 4).trans (enc4 (V15 m ρ) c)) (ix3 b r d)).trans (w15_v73 I b r d)

theorem w16_v74_3 (b : Fin 2) (r : Fin 262144) (d : Fin 128) : (W16 m ρ c (Proc.devRef .tc main_v74_3) : S2x262144x128.Idx → EReal) (ix3 b r d) = code (XK (g b ⟨r.val / 512, by omega⟩) (k b ⟨r.val / 512, by omega⟩)) (r.val / 8 % 64) ⟨r.val % 8, by omega⟩ d :=
  (congrFun ((W16_arr m ρ c 5).trans (enc5 (V15 m ρ) c)) (ix3 b r d)).trans (w15_v73 I b r d)

theorem w17_v75 (b : Fin 2) (n : Fin 512) (t : Fin 64) (h : Fin 8) (d : Fin 128) : (W17 m ρ c (Proc.devRef .tc main_v75) : S2x512x64x8x128.Idx → EReal) (ix5 b n t h d) = code (XQ (g b n) (q b n)) t.val h d := by
  refine (v75_at (W16 m ρ c) b n t h d).trans ((w16_v74_1 I b _ d).trans ?_)
  exact code_congr g q (fun g k => XQ g k) b (Fin.ext (show (n.val * 512 + t.val * 8 + h.val) / 512 = n.val by omega)) (show (n.val * 512 + t.val * 8 + h.val) / 8 % 64 = t.val by omega) (Fin.ext (show (n.val * 512 + t.val * 8 + h.val) % 8 = h.val by omega)) d

theorem w18_v75 (b : Fin 2) (n : Fin 512) (t : Fin 64) (h : Fin 8) (d : Fin 128) : (W18 m ρ c (Proc.devRef .tc main_v75) : S2x512x64x8x128.Idx → EReal) (ix5 b n t h d) = code (XQ (g b n) (q b n)) t.val h d :=
  (congrFun (W18_of m ρ c main_v75 (by decide)) (ix5 b n t h d)).trans (w17_v75 I b n t h d)

theorem w17_v77 (b : Fin 2) (n : Fin 512) (t : Fin 64) (h : Fin 8) (d : Fin 128) : (W17 m ρ c (Proc.devRef .tc main_v77) : S2x512x64x8x128.Idx → EReal) (ix5 b n t h d) = code (XK (g b n) (k b n)) t.val h d := by
  refine (v77_at (W16 m ρ c) b n t h d).trans ((w16_v74_3 I b _ d).trans ?_)
  exact code_congr g k (fun g k => XK g k) b (Fin.ext (show (n.val * 512 + t.val * 8 + h.val) / 512 = n.val by omega)) (show (n.val * 512 + t.val * 8 + h.val) / 8 % 64 = t.val by omega) (Fin.ext (show (n.val * 512 + t.val * 8 + h.val) % 8 = h.val by omega)) d

theorem w18_v77 (b : Fin 2) (n : Fin 512) (t : Fin 64) (h : Fin 8) (d : Fin 128) : (W18 m ρ c (Proc.devRef .tc main_v77) : S2x512x64x8x128.Idx → EReal) (ix5 b n t h d) = code (XK (g b n) (k b n)) t.val h d :=
  (congrFun (W18_of m ρ c main_v77 (by decide)) (ix5 b n t h d)).trans (w17_v77 I b n t h d)

theorem w17_v98 (b : Fin 2) (n : Fin 512) (i : Fin 4) (h : Fin 8) (t : Fin 16) (s : Fin 64) : (W17 m ρ c (Proc.devRef .tc main_v98) : S2x512x4x8x16x64.Idx → EReal) (ix6 b n i h t s) = ((att (g b n) (q b n) (k b n) (i.val * 16 + t.val) s.val h : ℝ) : EReal) :=
  v98_at (W16 m ρ c) b n i h t s g q k (w16_v1 I) (w16_v3 I) (w16_v6 I)

theorem w18_v115 (b : Fin 2) (n : Fin 512) (i : Fin 4) (h : Fin 8) (t : Fin 16) (s : Fin 64) : (W18 m ρ c (Proc.devRef .tc main_v115) : S2x512x4x8x16x64.Idx → EReal) (ix6 b n i h t s) = if s.val ≤ i.val * 16 + t.val then ((att (g b n) (q b n) (k b n) (i.val * 16 + t.val) s.val h : ℝ) : EReal) else 0 :=
  v115_at (W17 m ρ c) b n i h t s _ (v114_at (W16 m ρ c) i t s) (w17_v98 I b n i h t s) (cst_21_at (W16 m ρ c))

theorem w18_v4' (b : Fin 2) (n : Fin 512) (t : Fin 64) (h : Fin 8) (l : Fin 256) : (W18 m ρ c (Proc.devRef .tc main_v4) : S2x512x64x8x256.Idx → EReal) (ix5 b n t h l) = vR m ρ c b n t.val h l := by
  refine (w18_v4 I b n t h l).trans (congrArg (fun r : Fin 32768 => (W0 m ρ c (Proc.devRef .tc main_arg2) : S2x32768x8x256.Idx → EReal) (ix4 b r h l)) (Fin.ext ?_))
  show n.val * 64 + t.val = n.val * 64 + t.val % 64
  omega

theorem w19_v119 (b : Fin 2) (n : Fin 512) (t : Fin 64) (h : Fin 8) (l : Fin 256) : (W19 m ρ c (Proc.devRef .tc main_v119) : S2x512x64x8x256.Idx → EReal) (ix5 b n t h l)
    = ∑ s : Fin 64, (if s.val ≤ t.val then ((att (g b n) (q b n) (k b n) t.val s.val h : ℝ) : EReal) else 0) * vR m ρ c b n s.val h l := by
  refine (v119_at (W18 m ρ c) b n t h l _ _ (fun s => w18_v4' I b n s h l) (fun s => w18_v115 I b n _ h _ s)).trans ?_
  exact att_sum (fun t s => ((att (g b n) (q b n) (k b n) t s h : ℝ) : EReal)) (fun s => vR m ρ c b n s.val h l) t.val

theorem e_v129_0 (n : Fin 512) (b : Fin 2) (t : Fin 64) (h : Fin 8) (d : Fin 128) : (W19 m ρ c (Proc.devRef .tc main_v129_0) : S512x2x64x8x128.Idx → EReal) (ix5 n b t h d) = code (XQ (g b n) (q b n)) t.val h d :=
  (ev129_0_at (W18 m ρ c) b n t h d).trans (w18_v75 I b n t h d)

theorem e_v129_1 (n : Fin 512) (b : Fin 2) (h : Fin 8) : (W19 m ρ c (Proc.devRef .tc main_v129_1) : S512x2x8.Idx → EReal) (ix3 n b h) = sc (XQ (g b n) (q b n)) h :=
  (ev129_1_at (W18 m ρ c) b n h).trans (w18_v38 I b n h)

theorem e_v129_2 (n : Fin 512) (b : Fin 2) (t : Fin 64) (h : Fin 8) (d : Fin 128) : (W19 m ρ c (Proc.devRef .tc main_v129_2) : S512x2x64x8x128.Idx → EReal) (ix5 n b t h d) = code (XK (g b n) (k b n)) t.val h d :=
  (ev129_2_at (W18 m ρ c) b n t h d).trans (w18_v77 I b n t h d)

theorem e_v129_3 (n : Fin 512) (b : Fin 2) (h : Fin 8) : (W19 m ρ c (Proc.devRef .tc main_v129_3) : S512x2x8.Idx → EReal) (ix3 n b h) = sc (XK (g b n) (k b n)) h :=
  (ev129_3_at (W18 m ρ c) b n h).trans (w18_v59 I b n h)

theorem e_v129_4 (n : Fin 512) (b : Fin 2) (t : Fin 64) (h : Fin 8) (l : Fin 256) : (W19 m ρ c (Proc.devRef .tc main_v129_4) : S512x2x64x8x256.Idx → EReal) (ix5 n b t h l) = vR m ρ c b n t.val h l :=
  (ev129_4_at (W18 m ρ c) b n t h l).trans (w18_v4' I b n t h l)

theorem e_v129_5 (n : Fin 512) (b : Fin 2) (h : Fin 8) (d : Fin 128) : (W19 m ρ c (Proc.devRef .tc main_v129_5) : S512x2x8x128.Idx → EReal) (ix4 n b h d) = ((Real.exp (cum (g b n) 63 h d) : ℝ) : EReal) :=
  ev129_5_at (W18 m ρ c) b n h d _ (w18_v8 I b n h d)

theorem w19_v38 (b : Fin 2) (n : Fin 512) (h : Fin 8) : (W19 m ρ c (Proc.devRef .tc main_v38) : S2x512x8.Idx → EReal) (ix3 b n h) = sc (XQ (g b n) (q b n)) h :=
  (congrFun ((((W19_of m ρ c main_v38 (by decide)).trans (W18_of m ρ c main_v38 (by decide))).trans (W17_of m ρ c main_v38 (by decide))).trans (W16_of m ρ c main_v38 (by decide +kernel))) (ix3 b n h)).trans (w15_v38 I b n h)

theorem w19_v59 (b : Fin 2) (n : Fin 512) (h : Fin 8) : (W19 m ρ c (Proc.devRef .tc main_v59) : S2x512x8.Idx → EReal) (ix3 b n h) = sc (XK (g b n) (k b n)) h :=
  (congrFun ((((W19_of m ρ c main_v59 (by decide)).trans (W18_of m ρ c main_v59 (by decide))).trans (W17_of m ρ c main_v59 (by decide))).trans (W16_of m ρ c main_v59 (by decide +kernel))) (ix3 b n h)).trans (w15_v59 I b n h)

theorem w19_v74_0 (b : Fin 2) (r : Fin 262144) (d : Fin 128) : (W19 m ρ c (Proc.devRef .tc main_v74_0) : S2x262144x128.Idx → EReal) (ix3 b r d) = code (XQ (g b ⟨r.val / 512, by omega⟩) (q b ⟨r.val / 512, by omega⟩)) (r.val / 8 % 64) ⟨r.val % 8, by omega⟩ d :=
  (congrFun (((W19_of m ρ c main_v74_0 (by decide)).trans (W18_of m ρ c main_v74_0 (by decide))).trans (W17_of m ρ c main_v74_0 (by decide))) (ix3 b r d)).trans (w16_v74_0 I b r d)

theorem w19_v74_2 (b : Fin 2) (r : Fin 262144) (d : Fin 128) : (W19 m ρ c (Proc.devRef .tc main_v74_2) : S2x262144x128.Idx → EReal) (ix3 b r d) = code (XK (g b ⟨r.val / 512, by omega⟩) (k b ⟨r.val / 512, by omega⟩)) (r.val / 8 % 64) ⟨r.val % 8, by omega⟩ d :=
  (congrFun (((W19_of m ρ c main_v74_2 (by decide)).trans (W18_of m ρ c main_v74_2 (by decide))).trans (W17_of m ρ c main_v74_2 (by decide))) (ix3 b r d)).trans (w16_v74_2 I b r d)

end Cert.ReferenceIdeal.Hand

end
-- ==== Proof.ReferenceIdeal.Loop.lean ====
/-
  The loop over chunks by induction on its trips, and the program's six results over the real values of the arguments.
-/
module

public import proofs.«01_k».proof.Proof.ReferenceIdeal.Trip
public import proofs.«01_k».proof.Proof.ReferenceIdeal.Enter
public import proofs.«01_k».proof.Proof.Math.Spec
public import Idealize.ShloMosaic.Lib.Pointwise
public import Idealize.ShloMosaic.Lib.WordCmp
public import Idealize.ShloMosaic.Lib.StableHlo.ReadAt

@[expose] public section

set_option maxRecDepth 16384

noncomputable section

namespace Cert.ReferenceIdeal.Hand

open Cert.ReferenceIdeal Cert.ReferenceIdeal.Gen Cert.Math
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- The state before chunk `n`. -/
def stR (g k : Fin 2 → Fin 512 → RTok) (v : Fin 2 → Fin 512 → VTok) (b : Fin 2) : ℕ → State
  | 0 => fun _ _ _ => 0
  | n + 1 => nextS (g b ⟨n % 512, by omega⟩) (k b ⟨n % 512, by omega⟩) (v b ⟨n % 512, by omega⟩) (stR g k v b n)

theorem Wk_succ (n : ℕ) : Wk m ρ (n + 1) c = A9 (Wk m ρ n c) := rfl
theorem Wk_ctr (n : ℕ) : (Wk m ρ n c (Proc.devRef .tc main_v129_6) : S_.Idx → BitVec 32) = fun _ => BitVec.ofNat 32 n := by
  refine (atK_ctr m ρ c n).trans (funext fun _ => ?_)
  simp [Scf.iv]

theorem k_v129_0 : ∀ n, Wk m ρ n c (Proc.devRef .tc main_v129_0) = W19 m ρ c (Proc.devRef .tc main_v129_0)
  | 0 => rfl
  | n + 1 => (congrFun (Wk_succ m ρ c n) _).trans ((c9_v129_0 (Wk m ρ n c)).trans (k_v129_0 n))
theorem k_v129_1 : ∀ n, Wk m ρ n c (Proc.devRef .tc main_v129_1) = W19 m ρ c (Proc.devRef .tc main_v129_1)
  | 0 => rfl
  | n + 1 => (congrFun (Wk_succ m ρ c n) _).trans ((c9_v129_1 (Wk m ρ n c)).trans (k_v129_1 n))
theorem k_v129_2 : ∀ n, Wk m ρ n c (Proc.devRef .tc main_v129_2) = W19 m ρ c (Proc.devRef .tc main_v129_2)
  | 0 => rfl
  | n + 1 => (congrFun (Wk_succ m ρ c n) _).trans ((c9_v129_2 (Wk m ρ n c)).trans (k_v129_2 n))
theorem k_v129_3 : ∀ n, Wk m ρ n c (Proc.devRef .tc main_v129_3) = W19 m ρ c (Proc.devRef .tc main_v129_3)
  | 0 => rfl
  | n + 1 => (congrFun (Wk_succ m ρ c n) _).trans ((c9_v129_3 (Wk m ρ n c)).trans (k_v129_3 n))
theorem k_v129_4 : ∀ n, Wk m ρ n c (Proc.devRef .tc main_v129_4) = W19 m ρ c (Proc.devRef .tc main_v129_4)
  | 0 => rfl
  | n + 1 => (congrFun (Wk_succ m ρ c n) _).trans ((c9_v129_4 (Wk m ρ n c)).trans (k_v129_4 n))
theorem k_v129_5 : ∀ n, Wk m ρ n c (Proc.devRef .tc main_v129_5) = W19 m ρ c (Proc.devRef .tc main_v129_5)
  | 0 => rfl
  | n + 1 => (congrFun (Wk_succ m ρ c n) _).trans ((c9_v129_5 (Wk m ρ n c)).trans (k_v129_5 n))
theorem k_v119 : ∀ n, Wk m ρ n c (Proc.devRef .tc main_v119) = W19 m ρ c (Proc.devRef .tc main_v119)
  | 0 => rfl
  | n + 1 => (congrFun (Wk_succ m ρ c n) _).trans ((c9_v119 (Wk m ρ n c)).trans (k_v119 n))
theorem k_v38 : ∀ n, Wk m ρ n c (Proc.devRef .tc main_v38) = W19 m ρ c (Proc.devRef .tc main_v38)
  | 0 => rfl
  | n + 1 => (congrFun (Wk_succ m ρ c n) _).trans ((c9_v38 (Wk m ρ n c)).trans (k_v38 n))
theorem k_v59 : ∀ n, Wk m ρ n c (Proc.devRef .tc main_v59) = W19 m ρ c (Proc.devRef .tc main_v59)
  | 0 => rfl
  | n + 1 => (congrFun (Wk_succ m ρ c n) _).trans ((c9_v59 (Wk m ρ n c)).trans (k_v59 n))
theorem k_v74_0 : ∀ n, Wk m ρ n c (Proc.devRef .tc main_v74_0) = W19 m ρ c (Proc.devRef .tc main_v74_0)
  | 0 => rfl
  | n + 1 => (congrFun (Wk_succ m ρ c n) _).trans ((c9_v74_0 (Wk m ρ n c)).trans (k_v74_0 n))
theorem k_v74_2 : ∀ n, Wk m ρ n c (Proc.devRef .tc main_v74_2) = W19 m ρ c (Proc.devRef .tc main_v74_2)
  | 0 => rfl
  | n + 1 => (congrFun (Wk_succ m ρ c n) _).trans ((c9_v74_2 (Wk m ρ n c)).trans (k_v74_2 n))
theorem x_v119 : W20 m ρ c (Proc.devRef .tc main_v119) = W19 m ρ c (Proc.devRef .tc main_v119) :=
  (after_of_writes_sub condOps _ condOps_writes (by decide +kernel)).trans (k_v119 m ρ c 512)
theorem x_v38 : W20 m ρ c (Proc.devRef .tc main_v38) = W19 m ρ c (Proc.devRef .tc main_v38) :=
  (after_of_writes_sub condOps _ condOps_writes (by decide +kernel)).trans (k_v38 m ρ c 512)
theorem x_v59 : W20 m ρ c (Proc.devRef .tc main_v59) = W19 m ρ c (Proc.devRef .tc main_v59) :=
  (after_of_writes_sub condOps _ condOps_writes (by decide +kernel)).trans (k_v59 m ρ c 512)
theorem x_v74_0 : W20 m ρ c (Proc.devRef .tc main_v74_0) = W19 m ρ c (Proc.devRef .tc main_v74_0) :=
  (after_of_writes_sub condOps _ condOps_writes (by decide +kernel)).trans (k_v74_0 m ρ c 512)
theorem x_v74_2 : W20 m ρ c (Proc.devRef .tc main_v74_2) = W19 m ρ c (Proc.devRef .tc main_v74_2) :=
  (after_of_writes_sub condOps _ condOps_writes (by decide +kernel)).trans (k_v74_2 m ρ c 512)
theorem n_v38 : WN m ρ c (Proc.devRef .tc main_v38) = W19 m ρ c (Proc.devRef .tc main_v38) :=
  (W21_of m ρ c main_v38 (by decide)).trans (x_v38 m ρ c)
theorem n_v59 : WN m ρ c (Proc.devRef .tc main_v59) = W19 m ρ c (Proc.devRef .tc main_v59) :=
  (W21_of m ρ c main_v59 (by decide)).trans (x_v59 m ρ c)
theorem n_v74_0 : WN m ρ c (Proc.devRef .tc main_v74_0) = W19 m ρ c (Proc.devRef .tc main_v74_0) :=
  (W21_of m ρ c main_v74_0 (by decide)).trans (x_v74_0 m ρ c)
theorem n_v74_2 : WN m ρ c (Proc.devRef .tc main_v74_2) = W19 m ρ c (Proc.devRef .tc main_v74_2) :=
  (W21_of m ρ c main_v74_2 (by decide)).trans (x_v74_2 m ρ c)
theorem x_v129_7 : W20 m ρ c (Proc.devRef .tc main_v129_7) = Wk m ρ 512 c (Proc.devRef .tc main_v129_7) :=
  after_of_writes_sub condOps _ condOps_writes (by decide +kernel)
theorem x_v129_8 : W20 m ρ c (Proc.devRef .tc main_v129_8) = Wk m ρ 512 c (Proc.devRef .tc main_v129_8) :=
  after_of_writes_sub condOps _ condOps_writes (by decide +kernel)

variable {m ρ c} {g q k : Fin 2 → Fin 512 → RTok} (I : In m ρ c g q k)
include I

theorem k_state : ∀ n, n ≤ 512 → ∀ (b : Fin 2) (h : Fin 8) (d : Fin 128) (l : Fin 256),
    (Wk m ρ n c (Proc.devRef .tc main_v129_7) : S2x8x128x256.Idx → EReal) (ix4 b h d l) = stR g k (vR m ρ c) b n h d l
  | 0, _, b, h, d, l => ev129_7_at (W18 m ρ c) b h d l
  | n + 1, hn, b, h, d, l => by
    have hm : (⟨n % 512, by omega⟩ : Fin 512) = ⟨n, by omega⟩ := Fin.ext (Nat.mod_eq_of_lt (by omega))
    show (A9 (Wk m ρ n c) (Proc.devRef .tc main_v129_7) : S2x8x128x256.Idx → EReal) (ix4 b h d l) = nextS _ _ _ _ h d l
    rw [hm]
    exact trip_state (Wk m ρ n c) ⟨n, by omega⟩ b h d l (Wk_ctr m ρ c n) _ _ _ _ _
      (fun t => (congrFun (k_v129_2 m ρ c n) (ix5 (⟨n, by omega⟩ : Fin 512) b t h d)).trans (e_v129_2 I ⟨n, by omega⟩ b t h d))
      (fun t => (congrFun (k_v129_4 m ρ c n) (ix5 (⟨n, by omega⟩ : Fin 512) b t h l)).trans (e_v129_4 I ⟨n, by omega⟩ b t h l))
      ((congrFun (k_v129_3 m ρ c n) (ix3 (⟨n, by omega⟩ : Fin 512) b h)).trans (e_v129_3 I ⟨n, by omega⟩ b h))
      ((congrFun (k_v129_5 m ρ c n) (ix4 (⟨n, by omega⟩ : Fin 512) b h d)).trans (e_v129_5 I ⟨n, by omega⟩ b h d))
      (k_state n (by omega) b h d l)

theorem k_rows : ∀ n, n ≤ 512 → ∀ (n' : Fin 512), n'.val < n → ∀ (b : Fin 2) (t : Fin 64) (h : Fin 8) (l : Fin 256),
    (Wk m ρ n c (Proc.devRef .tc main_v129_8) : S512x2x64x8x256.Idx → EReal) (ix5 n' b t h l)
      = (∑ d, code (XQ (g b n') (q b n')) t.val h d * stR g k (vR m ρ c) b n'.val h d l) * sc (XQ (g b n') (q b n')) h
  | 0, _, n', h', b, t, h, l => absurd h' (Nat.not_lt_zero _)
  | n + 1, hn, n', h', b, t, h, l => by
    by_cases e : n'.val = n
    · subst e
      exact trip_row (Wk m ρ n'.val c) n' b t h l (Wk_ctr m ρ c n'.val) _ _ _
        (fun d => (congrFun (k_v129_0 m ρ c n'.val) (ix5 n' b t h d)).trans (e_v129_0 I n' b t h d))
        ((congrFun (k_v129_1 m ρ c n'.val) (ix3 n' b h)).trans (e_v129_1 I n' b h))
        (fun d => k_state I n'.val (by omega) b h d l)
    · exact (trip_rest (Wk m ρ n c) ⟨n, by omega⟩ n' (fun e' => e (congrArg Fin.val e')) b t h l (Wk_ctr m ρ c n)).trans
        (k_rows n (by omega) n' (by omega) b t h l)

/-- The outputs. -/
theorem ref_out (b : Fin 2) (r : Fin 32768) (h : Fin 8) (l : Fin 256) :
    (WN m ρ c (Proc.devRef .tc main_v133) : S2x32768x8x256.Idx → EReal) (ix4 b r h l)
      = outS (g b ⟨r.val / 64, by omega⟩) (q b ⟨r.val / 64, by omega⟩) (k b ⟨r.val / 64, by omega⟩) (vR m ρ c b ⟨r.val / 64, by omega⟩) (stR g k (vR m ρ c) b (r.val / 64)) (r.val % 64) h l :=
  v133_at (W20 m ρ c) b r h l _ _
    ((congrFun (x_v129_8 m ρ c) (ix5 (⟨r.val / 64, by omega⟩ : Fin 512) b (⟨r.val % 64, by omega⟩ : Fin 64) h l)).trans
      (k_rows I 512 (le_refl _) ⟨r.val / 64, by omega⟩ (by show r.val / 64 < 512; omega) b ⟨r.val % 64, by omega⟩ h l))
    ((congrFun (x_v119 m ρ c) (ix5 b (⟨r.val / 64, by omega⟩ : Fin 512) (⟨r.val % 64, by omega⟩ : Fin 64) h l)).trans
      (w19_v119 I b ⟨r.val / 64, by omega⟩ ⟨r.val % 64, by omega⟩ h l))
/-- The state. -/
theorem ref_state (b : Fin 2) (h : Fin 8) (d : Fin 128) (l : Fin 256) :
    (WN m ρ c (Proc.devRef .tc main_v129_7) : S2x8x128x256.Idx → EReal) (ix4 b h d l) = stR g k (vR m ρ c) b 512 h d l :=
  (congrFun ((W21_of m ρ c main_v129_7 (by decide)).trans (x_v129_7 m ρ c)) (ix4 b h d l)).trans (k_state I 512 (le_refl _) b h d l)
/-- The codes and the scales. -/
theorem ref_cq (b : Fin 2) (r : Fin 262144) (d : Fin 128) : (WN m ρ c (Proc.devRef .tc main_v74_0) : S2x262144x128.Idx → EReal) (ix3 b r d)
    = code (XQ (g b ⟨r.val / 512, by omega⟩) (q b ⟨r.val / 512, by omega⟩)) (r.val / 8 % 64) ⟨r.val % 8, by omega⟩ d :=
  (congrFun (n_v74_0 m ρ c) (ix3 b r d)).trans (w19_v74_0 I b r d)
theorem ref_ck (b : Fin 2) (r : Fin 262144) (d : Fin 128) : (WN m ρ c (Proc.devRef .tc main_v74_2) : S2x262144x128.Idx → EReal) (ix3 b r d)
    = code (XK (g b ⟨r.val / 512, by omega⟩) (k b ⟨r.val / 512, by omega⟩)) (r.val / 8 % 64) ⟨r.val % 8, by omega⟩ d :=
  (congrFun (n_v74_2 m ρ c) (ix3 b r d)).trans (w19_v74_2 I b r d)
theorem ref_sq (b : Fin 2) (n : Fin 512) (h : Fin 8) : (WN m ρ c (Proc.devRef .tc main_v38) : S2x512x8.Idx → EReal) (ix3 b n h) = sc (XQ (g b n) (q b n)) h :=
  (congrFun (n_v38 m ρ c) (ix3 b n h)).trans (w19_v38 I b n h)
theorem ref_sk (b : Fin 2) (n : Fin 512) (h : Fin 8) : (WN m ρ c (Proc.devRef .tc main_v59) : S2x512x8.Idx → EReal) (ix3 b n h) = sc (XK (g b n) (k b n)) h :=
  (congrFun (n_v59 m ρ c) (ix3 b n h)).trans (w19_v59 I b n h)

end Cert.ReferenceIdeal.Hand

end
-- ==== Proof.Link.lean ====
/-
  The kernel's six results and the reference's are the same arrays, from arguments that agree and are finite where the
  statement asks for it.
-/
module

public import proofs.«01_k».proof.Proof.KernelIdeal.Final
public import proofs.«01_k».proof.Proof.KernelIdeal.Heads
public import proofs.«01_k».proof.Proof.ReferenceIdeal.Loop
public import proofs.«01_k».proof.Defs

@[expose] public section

set_option maxRecDepth 16384

noncomputable section

namespace Cert.Link

open Cert.Math
open Idealize.ShloMosaic Idealize.ShloMosaic.TcCoe
open Idealize.SL.Sem
open Cert.KernelIdeal.Hand (IsReal ChunkIn tokOf tokHalf chunkOf vD sD stateOf)

abbrev SA : Shape := ⟨4, ![2, 32768, 8, 128]⟩
abbrev SB : Shape := ⟨4, ![2, 32768, 8, 256]⟩

/-- A finite argument, chunk by chunk, as real numbers. -/
def rowR (A : SA.Idx → EReal) (b : Fin 2) (n : Fin 512) : RTok := fun t h d => (A (ix4 b (⟨n.val * 64 + t % 64, by omega⟩ : Fin 32768) h d)).toReal

/-- Every element is a real number. -/
def Fin' (A : SA.Idx → EReal) : Prop := ∀ y, A y = ((A y).toReal : EReal)

theorem real_of_lt {x : EReal} (h : max x (-x) < ⊤) : x = ((x.toReal : ℝ) : EReal) := by
  refine (EReal.coe_toReal ?_ ?_).symm
  · rintro rfl; simp at h
  · rintro rfl; simp at h

theorem tok_real (A : SA.Idx → EReal) (hA : Fin' A) (b : Fin 2) (n : Fin 512) (t : ℕ) (h : Fin 8) (d : Fin 128) :
    (tokOf A b.val n.val t (ix4 (0 : Fin 1) (0 : Fin 1) h d) : EReal) = ((rowR A b n t h d : ℝ) : EReal) := by
  have e : (ix4 (⟨b.val % 2, by omega⟩ : Fin 2) (⟨(64 * n.val + t % 64) % 32768, by omega⟩ : Fin 32768) h d : SA.Idx) = ix4 b (⟨n.val * 64 + t % 64, by omega⟩ : Fin 32768) h d := by
    congr 1 <;> refine Fin.ext ?_
    · show b.val % 2 = b.val; omega
    · show (64 * n.val + t % 64) % 32768 = n.val * 64 + t % 64; omega
  show A (ix4 (⟨b.val % 2, by omega⟩ : Fin 2) (⟨(64 * n.val + t % 64) % 32768, by omega⟩ : Fin 32768) h d) = _
  rw [e]
  exact hA _

theorem isReal (Q K : SA.Idx → EReal) (W : SB.Idx → EReal) (G : SA.Idx → EReal) (hQ : Fin' Q) (hK : Fin' K) (hG : Fin' G) (b : Fin 2) (n : Fin 512) :
    IsReal (chunkOf (F := Ideal) Q K W G b.val n.val) (rowR G b n) (rowR Q b n) (rowR K b n) :=
  ⟨fun t h d => tok_real G hG b n t h d, fun t h d => tok_real Q hQ b n t h d, fun t h d => tok_real K hK b n t h d⟩

theorem vD_eq (Q K : SA.Idx → EReal) (W : SB.Idx → EReal) (G : SA.Idx → EReal) (b : Fin 2) (n : Fin 512) :
    vD (chunkOf (F := Ideal) Q K W G b.val n.val) = fun t h l => W (ix4 b (⟨n.val * 64 + t % 64, by omega⟩ : Fin 32768) h l) := by
  funext t h l
  unfold vD
  split_ifs with hl
  · show W (ix4 (⟨b.val % 2, by omega⟩ : Fin 2) (⟨(64 * n.val + t % 64) % 32768, by omega⟩ : Fin 32768) h (⟨0 + l.val, by omega⟩ : Fin 256)) = _
    congr 1
    congr 1 <;> refine Fin.ext ?_
    · show b.val % 2 = b.val; omega
    · show (64 * n.val + t % 64) % 32768 = n.val * 64 + t % 64; omega
    · show 0 + l.val = l.val; omega
  · show W (ix4 (⟨b.val % 2, by omega⟩ : Fin 2) (⟨(64 * n.val + t % 64) % 32768, by omega⟩ : Fin 32768) h (⟨128 + (l.val - 128), by omega⟩ : Fin 256)) = _
    congr 1
    congr 1 <;> refine Fin.ext ?_
    · show b.val % 2 = b.val; omega
    · show (64 * n.val + t % 64) % 32768 = n.val * 64 + t % 64; omega
    · show 128 + (l.val - 128) = l.val; omega

/-- The state before every chunk. -/
theorem state_eq (Q K : SA.Idx → EReal) (W : SB.Idx → EReal) (G : SA.Idx → EReal) (hQ : Fin' Q) (hK : Fin' K) (hG : Fin' G) (b : Fin 2) :
    ∀ n, n ≤ 512 → sD (stateOf (chunkOf (F := Ideal) Q K W G b.val) n)
      = Cert.ReferenceIdeal.Hand.stR (rowR G) (rowR K) (fun b n t h l => W (ix4 b (⟨n.val * 64 + t % 64, by omega⟩ : Fin 32768) h l)) b n
  | 0, _ => Cert.KernelIdeal.Hand.stateOf_zero _
  | n + 1, hn => by
    have hm : (⟨n % 512, by omega⟩ : Fin 512) = ⟨n, by omega⟩ := Fin.ext (Nat.mod_eq_of_lt (by omega))
    rw [Cert.KernelIdeal.Hand.stateOf_succ _ (rowR G b ⟨n, by omega⟩) (rowR Q b ⟨n, by omega⟩) (rowR K b ⟨n, by omega⟩) n (isReal Q K W G hQ hK hG b ⟨n, by omega⟩),
      state_eq Q K W G hQ hK hG b n (by omega), vD_eq Q K W G b ⟨n, by omega⟩]
    show _ = nextS (rowR G b ⟨n % 512, by omega⟩) (rowR K b ⟨n % 512, by omega⟩) _ _
    rw [hm]

theorem finite_of [Cert.Pre_finite.Facts] (Q K : SA.Idx → EReal) (W : SB.Idx → EReal) (G : SA.Idx → EReal)
    (h : Cert.Pre_finite.fn (F := Ideal) Q K W G = fun _ => 1#1) : Fin' Q ∧ Fin' K ∧ Fin' G := by
  have top1 : Ideal.ofBits .bf16 0x7F80#16 = ⊤ := by simp [Ideal.ofBits, Ideal.ieee]
  have top2 : Ideal.ofBits .f32 0x7F800000#32 = ⊤ := by simp [Ideal.ofBits, Ideal.ieee]
  have key : ∀ y, (max (Q y) (-(Q y)) < ⊤ ∧ max (K y) (-(K y)) < ⊤) ∧ max (G y) (-(G y)) < ⊤ := by
    intro y
    have e : (Ideal.cmp .olt (max (Q y) (-(Q y))) (Ideal.ofBits .bf16 0x7F80#16) &&& Ideal.cmp .olt (max (K y) (-(K y))) (Ideal.ofBits .bf16 0x7F80#16))
        &&& Ideal.cmp .olt (max (G y) (-(G y))) (Ideal.ofBits .f32 0x7F800000#32) = 1#1 := congrFun h y
    rw [top1, top2] at e
    have and1 : ∀ a b : BitVec 1, a &&& b = 1#1 → a = 1#1 ∧ b = 1#1 := by decide
    have lt1 : ∀ x : EReal, Ideal.cmp .olt x ⊤ = 1#1 → x < ⊤ := by
      intro x hx
      by_contra hn
      simp [Ideal.cmp, hn] at hx
    obtain ⟨e1, e3⟩ := and1 _ _ e
    obtain ⟨e1, e2⟩ := and1 _ _ e1
    exact ⟨⟨lt1 _ e1, lt1 _ e2⟩, lt1 _ e3⟩
  exact ⟨fun y => real_of_lt (key y).1.1, fun y => real_of_lt (key y).1.2, fun y => real_of_lt (key y).2⟩

/-! ## The six results, from the same four arguments -/

section arrays

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ) (ρ' : Dev Cert.ReferenceIdeal.nD → PrngReg)
variable (c : Dev Cert.KernelIdeal.nD)

abbrev aQ : SA.Idx → EReal := m ((c.tc : Thread Cert.KernelIdeal.nD Cert.KernelIdeal.τ).loc Cert.KernelIdeal.main_arg0)
abbrev aK : SA.Idx → EReal := m ((c.tc : Thread Cert.KernelIdeal.nD Cert.KernelIdeal.τ).loc Cert.KernelIdeal.main_arg1)
abbrev aW : SB.Idx → EReal := m ((c.tc : Thread Cert.KernelIdeal.nD Cert.KernelIdeal.τ).loc Cert.KernelIdeal.main_arg2)
abbrev aG : SA.Idx → EReal := m ((c.tc : Thread Cert.KernelIdeal.nD Cert.KernelIdeal.τ).loc Cert.KernelIdeal.main_arg3)

/-- The two programs' arguments agree, and the first, second and fourth are finite. -/
structure Same : Prop where
  a0 : m' ((c.tc : Thread Cert.ReferenceIdeal.nD Cert.ReferenceIdeal.τ).loc Cert.ReferenceIdeal.main_arg0) = aQ m c
  a1 : m' ((c.tc : Thread Cert.ReferenceIdeal.nD Cert.ReferenceIdeal.τ).loc Cert.ReferenceIdeal.main_arg1) = aK m c
  a2 : m' ((c.tc : Thread Cert.ReferenceIdeal.nD Cert.ReferenceIdeal.τ).loc Cert.ReferenceIdeal.main_arg2) = aW m c
  a3 : m' ((c.tc : Thread Cert.ReferenceIdeal.nD Cert.ReferenceIdeal.τ).loc Cert.ReferenceIdeal.main_arg3) = aG m c
  fq : Fin' (aQ m c)
  fk : Fin' (aK m c)
  fg : Fin' (aG m c)

variable {m m' c} (H : Same m m' c)
include H

theorem chunk_arg (A : SA.Idx → EReal) (hA : Fin' A) (b : Fin 2) (n : Fin 512) (t : Fin 64) (h : Fin 8) (d : Fin 128) :
    A (ix4 b (⟨n.val * 64 + t.val, by omega⟩ : Fin 32768) h d) = ((rowR A b n t.val h d : ℝ) : EReal) := by
  have e : (⟨n.val * 64 + t.val % 64, by omega⟩ : Fin 32768) = ⟨n.val * 64 + t.val, by omega⟩ := Fin.ext (by show n.val * 64 + t.val % 64 = n.val * 64 + t.val; omega)
  unfold rowR
  rw [e]
  exact hA _

theorem isIn : Cert.ReferenceIdeal.Hand.In m' ρ' c (rowR (aG m c)) (rowR (aQ m c)) (rowR (aK m c)) where
  q := fun b n t h d => (congrFun H.a0 _).trans (chunk_arg H _ H.fq b n t h d)
  k := fun b n t h d => (congrFun H.a1 _).trans (chunk_arg H _ H.fk b n t h d)
  g := fun b n t h d => (congrFun H.a3 _).trans (chunk_arg H _ H.fg b n t h d)

theorem vR_eq : Cert.ReferenceIdeal.Hand.vR m' ρ' c = fun b n t h l => aW m c (ix4 b (⟨n.val * 64 + t % 64, by omega⟩ : Fin 32768) h l) := by
  funext b n t h l
  exact congrFun H.a2 _

theorem vD_same (b : Fin 2) (n : Fin 512) : vD (Cert.KernelIdeal.Hand.chunkM m c b.val n.val) = Cert.ReferenceIdeal.Hand.vR m' ρ' c b n := by
  rw [vR_eq ρ' H]
  exact vD_eq (aQ m c) (aK m c) (aW m c) (aG m c) b n

theorem state_same (b : Fin 2) (n : ℕ) (hn : n ≤ 512) :
    sD (Cert.KernelIdeal.Hand.stateM m c b.val n) = Cert.ReferenceIdeal.Hand.stR (rowR (aG m c)) (rowR (aK m c)) (Cert.ReferenceIdeal.Hand.vR m' ρ' c) b n := by
  rw [vR_eq ρ' H]
  exact state_eq (aQ m c) (aK m c) (aW m c) (aG m c) H.fq H.fk H.fg b n hn

theorem real_same (b : Fin 2) (n : Fin 512) :
    IsReal (Cert.KernelIdeal.Hand.chunkM m c b.val n.val) (rowR (aG m c) b n) (rowR (aQ m c) b n) (rowR (aK m c) b n) :=
  isReal (aQ m c) (aK m c) (aW m c) (aG m c) H.fq H.fk H.fg b n

omit H in
theorem eta4 {n0 n1 n2 n3 : ℕ} (y : (⟨4, ![n0, n1, n2, n3]⟩ : Shape).Idx) : ∃ (a : Fin n0) (b : Fin n1) (d : Fin n2) (e : Fin n3), y = ix4 a b d e :=
  ⟨y 0, y 1, y 2, y 3, by funext i; fin_cases i <;> rfl⟩
omit H in
theorem eta3 {n0 n1 n2 : ℕ} (y : (⟨3, ![n0, n1, n2]⟩ : Shape).Idx) : ∃ (a : Fin n0) (b : Fin n1) (d : Fin n2), y = ix3 a b d :=
  ⟨y 0, y 1, y 2, by funext i; fin_cases i <;> rfl⟩

theorem out_same : (Cert.KernelIdeal.Hand.outArr m c : SB.Idx → EReal) = Cert.ReferenceIdeal.Gen.WN m' ρ' c (Proc.devRef .tc Cert.ReferenceIdeal.main_v133) := by
  funext y
  obtain ⟨b, r, h, l, rfl⟩ := eta4 y
  refine Eq.trans ?_ (Cert.ReferenceIdeal.Hand.ref_out (isIn ρ' H) b r h l).symm
  have e := Cert.KernelIdeal.Hand.out_at (real_same H b ⟨r.val / 64, by omega⟩) (Cert.KernelIdeal.Hand.stateM m c b.val (r.val / 64)) h ⟨r.val % 64, by omega⟩ l
  rw [vD_same ρ' H, state_same ρ' H b (r.val / 64) (by omega)] at e
  exact e

theorem final_same : (Cert.KernelIdeal.Hand.stateArr m c : (⟨4, ![2, 8, 128, 256]⟩ : Shape).Idx → EReal) = Cert.ReferenceIdeal.Gen.WN m' ρ' c (Proc.devRef .tc Cert.ReferenceIdeal.main_v129_7) := by
  funext y
  obtain ⟨b, h, d, l, rfl⟩ := eta4 y
  refine Eq.trans ?_ (Cert.ReferenceIdeal.Hand.ref_state (isIn ρ' H) b h d l).symm
  rw [← state_same ρ' H b 512 (le_refl _)]
  rfl

theorem codeq_same : (Cert.KernelIdeal.Hand.codeArr m ChunkIn.cq c : (⟨3, ![2, 262144, 128]⟩ : Shape).Idx → EReal) = Cert.ReferenceIdeal.Gen.WN m' ρ' c (Proc.devRef .tc Cert.ReferenceIdeal.main_v74_0) := by
  funext y
  obtain ⟨b, r, l, rfl⟩ := eta3 y
  refine Eq.trans ?_ (Cert.ReferenceIdeal.Hand.ref_cq (isIn ρ' H) b r l).symm
  refine (Cert.KernelIdeal.Hand.cq_at (real_same H b ⟨r.val / 512, by omega⟩) ⟨r.val % 32, by omega⟩ l (r.val % 512 / 32)).trans ?_
  congr 1
  · show (4 * (r.val % 512 / 32) + r.val % 32 / 8) % 64 = r.val / 8 % 64; omega
  · refine Fin.ext ?_; show r.val % 32 % 8 = r.val % 8; omega

theorem codek_same : (Cert.KernelIdeal.Hand.codeArr m ChunkIn.ck c : (⟨3, ![2, 262144, 128]⟩ : Shape).Idx → EReal) = Cert.ReferenceIdeal.Gen.WN m' ρ' c (Proc.devRef .tc Cert.ReferenceIdeal.main_v74_2) := by
  funext y
  obtain ⟨b, r, l, rfl⟩ := eta3 y
  refine Eq.trans ?_ (Cert.ReferenceIdeal.Hand.ref_ck (isIn ρ' H) b r l).symm
  refine (Cert.KernelIdeal.Hand.ck_at (real_same H b ⟨r.val / 512, by omega⟩) ⟨r.val % 32, by omega⟩ l (r.val % 512 / 32)).trans ?_
  congr 1
  · show (4 * (r.val % 512 / 32) + r.val % 32 / 8) % 64 = r.val / 8 % 64; omega
  · refine Fin.ext ?_; show r.val % 32 % 8 = r.val % 8; omega

theorem scaleq_same : (Cert.KernelIdeal.Hand.scaleArr m ChunkIn.xq c : (⟨3, ![2, 512, 8]⟩ : Shape).Idx → EReal) = Cert.ReferenceIdeal.Gen.WN m' ρ' c (Proc.devRef .tc Cert.ReferenceIdeal.main_v38) := by
  funext y
  obtain ⟨b, n, h, rfl⟩ := eta3 y
  refine Eq.trans ?_ (Cert.ReferenceIdeal.Hand.ref_sq (isIn ρ' H) b n h).symm
  exact (Cert.KernelIdeal.Hand.scaleRow_at _ h).trans (Cert.KernelIdeal.Hand.scq_at (real_same H b n) h)

theorem scalek_same : (Cert.KernelIdeal.Hand.scaleArr m ChunkIn.xk c : (⟨3, ![2, 512, 8]⟩ : Shape).Idx → EReal) = Cert.ReferenceIdeal.Gen.WN m' ρ' c (Proc.devRef .tc Cert.ReferenceIdeal.main_v59) := by
  funext y
  obtain ⟨b, n, h, rfl⟩ := eta3 y
  refine Eq.trans ?_ (Cert.ReferenceIdeal.Hand.ref_sk (isIn ρ' H) b n h).symm
  exact (Cert.KernelIdeal.Hand.scaleRow_at _ h).trans (Cert.KernelIdeal.Hand.sck_at (real_same H b n) h)

end arrays

/-! ## The claim -/

/-- The predicate's one side condition. -/
instance preFacts : Cert.Pre_finite.Facts := ⟨by decide⟩

theorem same_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_KernelIdeal_finite m)
    (a0 : m' ((c.tc : Thread Cert.ReferenceIdeal.nD Cert.ReferenceIdeal.τ).loc Cert.ReferenceIdeal.main_arg0) = aQ m c)
    (a1 : m' ((c.tc : Thread Cert.ReferenceIdeal.nD Cert.ReferenceIdeal.τ).loc Cert.ReferenceIdeal.main_arg1) = aK m c)
    (a2 : m' ((c.tc : Thread Cert.ReferenceIdeal.nD Cert.ReferenceIdeal.τ).loc Cert.ReferenceIdeal.main_arg2) = aW m c)
    (a3 : m' ((c.tc : Thread Cert.ReferenceIdeal.nD Cert.ReferenceIdeal.τ).loc Cert.ReferenceIdeal.main_arg3) = aG m c) : Same m m' c :=
  have f := finite_of (aQ m c) (aK m c) (aW m c) (aG m c) (hp c)
  ⟨a0, a1, a2, a3, f.1, f.2.1, f.2.2⟩

open Cert.KernelIdeal.Hand in
theorem algebraic : Cert.algebraic_KernelIdeal_ReferenceIdeal_pre_finite := by
  intro m g m' g' hp hag
  have H : ∀ c, Same m m' c := fun c => same_of m m' c hp (hag c).1 (hag c).2.1 (hag c).2.2.1 (hag c).2.2.2
  refine ⟨fun c => outArr m c, fun c => stateArr m c, fun c => codeArr m ChunkIn.cq c, fun c => scaleArr m ChunkIn.xq c,
    fun c => codeArr m ChunkIn.ck c, fun c => scaleArr m ChunkIn.xk c, ?_, ?_⟩
  · refine (θ_run _ _ _).mono (fun r h c => ?_) (run_mainV m g)
    exact ⟨((h.1 c).1 5).trans (final5 m c), ((h.1 c).1 6).trans (final6 m c), ((h.1 c).1 7).trans (final7 m c),
      ((h.1 c).1 8).trans (final8 m c), ((h.1 c).1 9).trans (final9 m c), ((h.1 c).1 10).trans (final10 m c),
      ((h.1 c).1 0).trans (((datV m 0 c).arrAt_in 0 rfl _).trans (A_eqV m c 0)),
      ((h.1 c).1 1).trans (((datV m 0 c).arrAt_in 1 rfl _).trans (A_eqV m c 1)),
      ((h.1 c).1 3).trans (((datV m 0 c).arrAt_in 3 rfl _).trans (A_eqV m c 3)),
      ((h.1 c).1 4).trans (((datV m 0 c).arrAt_in 4 rfl _).trans (A_eqV m c 4))⟩
  · refine (θ_run _ _ _).mono (fun r h c => ?_) (Cert.ReferenceIdeal.Gen.run_main m' g')
    exact ⟨(h c _ (Cert.ReferenceIdeal.Gen.mem_uc Cert.ReferenceIdeal.main_v133 (by decide))).trans (out_same g' (H c)).symm,
      (h c _ (Cert.ReferenceIdeal.Gen.mem_uc Cert.ReferenceIdeal.main_v129_7 (by decide))).trans (final_same g' (H c)).symm,
      (h c _ (Cert.ReferenceIdeal.Gen.mem_uc Cert.ReferenceIdeal.main_v74_0 (by decide))).trans (codeq_same g' (H c)).symm,
      (h c _ (Cert.ReferenceIdeal.Gen.mem_uc Cert.ReferenceIdeal.main_v38 (by decide))).trans (scaleq_same g' (H c)).symm,
      (h c _ (Cert.ReferenceIdeal.Gen.mem_uc Cert.ReferenceIdeal.main_v74_2 (by decide))).trans (codek_same g' (H c)).symm,
      (h c _ (Cert.ReferenceIdeal.Gen.mem_uc Cert.ReferenceIdeal.main_v59 (by decide))).trans (scalek_same g' (H c)).symm,
      (h c _ (Cert.ReferenceIdeal.Gen.mem_uc Cert.ReferenceIdeal.main_arg0 (by decide))).trans (Cert.ReferenceIdeal.Gen.WN_main_arg0 m' g' c),
      (h c _ (Cert.ReferenceIdeal.Gen.mem_uc Cert.ReferenceIdeal.main_arg1 (by decide))).trans (Cert.ReferenceIdeal.Gen.WN_main_arg1 m' g' c),
      (h c _ (Cert.ReferenceIdeal.Gen.mem_uc Cert.ReferenceIdeal.main_arg2 (by decide))).trans (Cert.ReferenceIdeal.Gen.WN_main_arg2 m' g' c),
      (h c _ (Cert.ReferenceIdeal.Gen.mem_uc Cert.ReferenceIdeal.main_arg3 (by decide))).trans (Cert.ReferenceIdeal.Gen.WN_main_arg3 m' g' c)⟩

end Cert.Link

end
-- ==== Proof.lean ====
/-
  The certificate's claims, from the modules that prove them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Frame
public import proofs.«01_k».proof.Proof.KernelIdeal.Frame
public import proofs.«01_k».proof.Proof.Link

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Link.preFacts,
  fun m g _ => Cert.Kernel.Hand.frame_all m g,
  fun m g _ => Cert.KernelIdeal.Hand.frame_all m g,
  fun m g _ => Cert.KernelIdeal.Hand.frame_all m g,
  fun m g _ => Cert.ReferenceIdeal.Gen.frame m g,
  fun m g _ => Cert.ReferenceIdeal.Gen.frame m g,
  trivial,
  Cert.Link.algebraic⟩

end Cert.Proof

end
